-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 16384, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 16384, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x512x1024 : Shape := ⟨3, ![1, 512, 1024]⟩
abbrev S1024x1024 : Shape := ⟨2, ![1024, 1024]⟩
abbrev S1x2048x8x128 : Shape := ⟨4, ![1, 2048, 8, 128]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn {F : FTy → Type} [FloatOps F] (main_arg0 : FVec F S1x512x1024 .f32) (main_arg1 : FVec F S1024x1024 .f32) (main_arg2 : FVec F S1x2048x8x128 .f32) (main_arg3 : FVec F S1x2048x8x128 .f32) (main_arg4 : FVec F S1024x1024 .f32) : IVec S_ 1 × IVec S_ 1 × IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S1x2048x8x128 .f32 := Host.absf main_arg2
  let main_cst_2 : FVec F S_ .f32 := constant S_ .f32 0x7F800000#32
  let main_v9 : FVec F S1x2048x8x128 .f32 := broadcastInDim S1x2048x8x128 ![] bcast_S_S1x2048x8x128 main_cst_2
  let main_v10 : IVec S1x2048x8x128 1 := cmpf .olt main_v8 main_v9
  let main_c_3 : IVec S_ 1 := constantI S_ 1 1#1
  let main_v11 : IVec S_ 1 := (fun x v => Host.reduce IntOp.andi x v reducesTo_S1x2048x8x128_S_d0_1_2_3 h_S_) main_v10 main_c_3
  (main_v3, main_v7, main_v11)
-- ==== Pre_finite_ReferenceIdeal.lean ====
abbrev S1x512x1024 : Shape := ⟨3, ![1, 512, 1024]⟩
abbrev S1024x1024 : Shape := ⟨2, ![1024, 1024]⟩
abbrev S1x16384x8x128 : Shape := ⟨4, ![1, 16384, 8, 128]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x16384x8x128 : S_.BroadcastsInDim S1x16384x8x128 (![] : Fin 0 → Fin S1x16384x8x128.rank)
  reducesTo_S1x16384x8x128_S_d0_1_2_3 : S1x16384x8x128.ReducesTo [0, 1, 2, 3] S_

variable [Facts]

def fn {F : FTy → Type} [FloatOps F] (main_arg0 : FVec F S1x512x1024 .f32) (main_arg1 : FVec F S1024x1024 .f32) (main_arg2 : FVec F S1x16384x8x128 .f32) (main_arg3 : FVec F S1x16384x8x128 .f32) (main_arg4 : FVec F S1024x1024 .f32) : IVec S_ 1 × IVec S_ 1 × IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S1x16384x8x128 .f32 := Host.absf main_arg2
  let main_cst_2 : FVec F S_ .f32 := constant S_ .f32 0x7F800000#32
  let main_v9 : FVec F S1x16384x8x128 .f32 := broadcastInDim S1x16384x8x128 ![] bcast_S_S1x16384x8x128 main_cst_2
  let main_v10 : IVec S1x16384x8x128 1 := cmpf .olt main_v8 main_v9
  let main_c_3 : IVec S_ 1 := constantI S_ 1 1#1
  let main_v11 : IVec S_ 1 := (fun x v => Host.reduce IntOp.andi x v reducesTo_S1x16384x8x128_S_d0_1_2_3 h_S_) main_v10 main_c_3
  (main_v3, main_v7, main_v11)
-- ==== Kernel.lean ====
abbrev S1x512x1024 : Shape := ⟨3, ![1, 512, 1024]⟩
abbrev S1024x1024 : Shape := ⟨2, ![1024, 1024]⟩
abbrev S1x2048x8x128 : Shape := ⟨4, ![1, 2048, 8, 128]⟩
abbrev S512x1024 : Shape := ⟨2, ![512, 1024]⟩
abbrev S2048x1024 : Shape := ⟨2, ![2048, 1024]⟩
abbrev S512x1152 : Shape := ⟨2, ![512, 1152]⟩
abbrev S7x64x1024 : Shape := ⟨3, ![7, 64, 1024]⟩
abbrev S7x64x128 : Shape := ⟨3, ![7, 64, 128]⟩
abbrev S64x1024 : Shape := ⟨2, ![64, 1024]⟩
abbrev S7x8 : Shape := ⟨2, ![7, 8]⟩
abbrev S7 : Shape := ⟨1, ![7]⟩
abbrev S_ : Shape := ⟨0, ![]⟩
abbrev S512x128 : Shape := ⟨2, ![512, 128]⟩
abbrev S512x1 : Shape := ⟨2, ![512, 1]⟩
abbrev S1024x128 : Shape := ⟨2, ![1024, 128]⟩
abbrev S1024x1 : Shape := ⟨2, ![1024, 1]⟩
abbrev S64x128 : Shape := ⟨2, ![64, 128]⟩
abbrev S1x64x128 : Shape := ⟨3, ![1, 64, 128]⟩
abbrev S1x1 : Shape := ⟨2, ![1, 1]⟩
abbrev S1 : Shape := ⟨1, ![1]⟩
abbrev S64x8 : Shape := ⟨2, ![64, 8]⟩
abbrev S1x64x8 : Shape := ⟨3, ![1, 64, 8]⟩
abbrev S64x1 : Shape := ⟨2, ![64, 1]⟩
abbrev S1x64x1024 : Shape := ⟨3, ![1, 64, 1024]⟩

abbrev nBuf : Space → Nat
  | .hbm => 13
  | .vmem => 13
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1x2048x8x128, .f32⟩
  | .hbm, ⟨3, _⟩ => ⟨S1x2048x8x128, .f32⟩
  | .hbm, ⟨4, _⟩ => ⟨S1024x1024, .f32⟩
  | .hbm, ⟨5, _⟩ => ⟨S512x1024, .f32⟩
  | .hbm, ⟨6, _⟩ => ⟨S512x1024, .bf16⟩
  | .hbm, ⟨7, _⟩ => ⟨S1024x1024, .bf16⟩
  | .hbm, ⟨8, _⟩ => ⟨S2048x1024, .f32⟩
  | .hbm, ⟨9, _⟩ => ⟨S2048x1024, .bf16⟩
  | .hbm, ⟨10, _⟩ => ⟨S2048x1024, .f32⟩
  | .hbm, ⟨11, _⟩ => ⟨S2048x1024, .bf16⟩
  | .hbm, ⟨12, _⟩ => ⟨S1x512x1024, .f32⟩
  | .local _ .vmem, ⟨0, _⟩ => ⟨S512x1024, .bf16⟩
  | .local _ .vmem, ⟨1, _⟩ => ⟨S1024x1024, .bf16⟩
  | .local _ .vmem, ⟨2, _⟩ => ⟨S1024x1024, .f32⟩
  | .local _ .vmem, ⟨3, _⟩ => ⟨S2048x1024, .bf16⟩
  | .local _ .vmem, ⟨4, _⟩ => ⟨S2048x1024, .bf16⟩
  | .local _ .vmem, ⟨5, _⟩ => ⟨S1x512x1024, .f32⟩
  | .local _ .vmem, ⟨6, _⟩ => ⟨S512x1024, .bf16⟩
  | .local _ .vmem, ⟨7, _⟩ => ⟨S512x1152, .f32⟩
  | .local _ .vmem, ⟨8, _⟩ => ⟨S7x64x1024, .bf16⟩
  | .local _ .vmem, ⟨9, _⟩ => ⟨S7x64x1024, .bf16⟩
  | .local _ .vmem, ⟨10, _⟩ => ⟨S7x64x128, .f32⟩
  | .local _ .vmem, ⟨11, _⟩ => ⟨S64x1024, .bf16⟩
  | .local _ .vmem, ⟨12, _⟩ => ⟨S7x64x1024, .bf16⟩
  | _, _ => ⟨S1x512x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 146 → Bool
  | ⟨i, _⟩ => dmaSemScopedAt i

abbrev sig : RefSig :=
  (ofTc nBuf bufTy 1 146 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
@[reducible] def k0_t1_loop : Scf.Loop 32 :=
  let c0_i32_38 : BitVec 32 := 0#32
  let c2_i32_39 : BitVec 32 := 2#32
  let v47 : BitVec 32 := Scalar.addi c0_i32_38 c2_i32_39
  let c1_i32_40 : BitVec 32 := 1#32
  ⟨c0_i32_38, v47, c1_i32_40⟩
def k0_off1 (k0_t1 : Fin k0_t1_loop.trips) : Fin 2 → Nat :=
  let c0_i32_38 : BitVec 32 := 0#32
  let c1_i32_40 : BitVec 32 := 1#32
  let arg19 : BitVec 32 := Scf.iv c0_i32_38 c1_i32_40 k0_t1
  let c1024_i32_3202 : BitVec 32 := 1024#32
  let v3084 : BitVec 32 := Scalar.muli arg19 c1024_i32_3202
  let v3085 : Index := Scalar.indexCast v3084
  let c0_3203 : Index := 0#32
  ![v3085.toNat, 0]
def k0_off2 (d0 : Dev nD) (c1_i32_46 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v55 : BitVec 32 := Scalar.addi v2 c1_i32_46
  let c8_i32_47 : BitVec 32 := 8#32
  let v56 : BitVec 32 := Scalar.remsi v55 c8_i32_47
  let c64_i32_48 : BitVec 32 := 64#32
  let v57 : BitVec 32 := Scalar.muli v56 c64_i32_48
  let v58 : Index := Scalar.indexCast v57
  let c0_49 : Index := 0#32
  ![v58.toNat, 0]
def k0_dev8 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_46 : BitVec 32 := 1#32
  let v55 : BitVec 32 := Scalar.addi v2 c1_i32_46
  let c8_i32_47 : BitVec 32 := 8#32
  let v56 : BitVec 32 := Scalar.remsi v55 c8_i32_47
  let c1_i32_59 : BitVec 32 := 1#32
  let v64 : BitVec 32 := Scalar.muli v56 c1_i32_59
  let v65 : BitVec 32 := Scalar.addi c0_i32_60 v64
  v65.toNat
def k0_dev9 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_65 : BitVec 32 := 2#32
  let v74 : BitVec 32 := Scalar.addi v2 c2_i32_65
  let c8_i32_66 : BitVec 32 := 8#32
  let v75 : BitVec 32 := Scalar.remsi v74 c8_i32_66
  let c1_i32_77 : BitVec 32 := 1#32
  let v83 : BitVec 32 := Scalar.muli v75 c1_i32_77
  let v84 : BitVec 32 := Scalar.addi c0_i32_78 v83
  v84.toNat
def k0_dev10 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_83 : BitVec 32 := 3#32
  let v93 : BitVec 32 := Scalar.addi v2 c3_i32_83
  let c8_i32_84 : BitVec 32 := 8#32
  let v94 : BitVec 32 := Scalar.remsi v93 c8_i32_84
  let c1_i32_95 : BitVec 32 := 1#32
  let v102 : BitVec 32 := Scalar.muli v94 c1_i32_95
  let v103 : BitVec 32 := Scalar.addi c0_i32_96 v102
  v103.toNat
def k0_dev11 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_101 : BitVec 32 := 4#32
  let v112 : BitVec 32 := Scalar.addi v2 c4_i32_101
  let c8_i32_102 : BitVec 32 := 8#32
  let v113 : BitVec 32 := Scalar.remsi v112 c8_i32_102
  let c1_i32_113 : BitVec 32 := 1#32
  let v121 : BitVec 32 := Scalar.muli v113 c1_i32_113
  let v122 : BitVec 32 := Scalar.addi c0_i32_114 v121
  v122.toNat
def k0_dev12 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_119 : BitVec 32 := 5#32
  let v131 : BitVec 32 := Scalar.addi v2 c5_i32_119
  let c8_i32_120 : BitVec 32 := 8#32
  let v132 : BitVec 32 := Scalar.remsi v131 c8_i32_120
  let c1_i32_131 : BitVec 32 := 1#32
  let v140 : BitVec 32 := Scalar.muli v132 c1_i32_131
  let v141 : BitVec 32 := Scalar.addi c0_i32_132 v140
  v141.toNat
def k0_dev13 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_137 : BitVec 32 := 6#32
  let v150 : BitVec 32 := Scalar.addi v2 c6_i32_137
  let c8_i32_138 : BitVec 32 := 8#32
  let v151 : BitVec 32 := Scalar.remsi v150 c8_i32_138
  let c1_i32_149 : BitVec 32 := 1#32
  let v159 : BitVec 32 := Scalar.muli v151 c1_i32_149
  let v160 : BitVec 32 := Scalar.addi c0_i32_150 v159
  v160.toNat
def k0_dev14 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_155 : BitVec 32 := 7#32
  let v169 : BitVec 32 := Scalar.addi v2 c7_i32_155
  let c8_i32_156 : BitVec 32 := 8#32
  let v170 : BitVec 32 := Scalar.remsi v169 c8_i32_156
  let c1_i32_167 : BitVec 32 := 1#32
  let v178 : BitVec 32 := Scalar.muli v170 c1_i32_167
  let v179 : BitVec 32 := Scalar.addi c0_i32_168 v178
  v179.toNat
@[reducible] def k0_t2_loop : Scf.Loop 32 :=
  let c0_i32_176 : BitVec 32 := 0#32
  let c2_i32_177 : BitVec 32 := 2#32
  let v191 : BitVec 32 := Scalar.addi c0_i32_176 c2_i32_177
  let c1_i32_178 : BitVec 32 := 1#32
  ⟨c0_i32_176, v191, c1_i32_178⟩
def k0_off3 (k0_t2 : Fin k0_t2_loop.trips) : Fin 2 → Nat :=
  let c0_i32_176 : BitVec 32 := 0#32
  let c1_i32_178 : BitVec 32 := 1#32
  let arg19 : BitVec 32 := Scf.iv c0_i32_176 c1_i32_178 k0_t2
  let c1024_i32_3202 : BitVec 32 := 1024#32
  let v3084 : BitVec 32 := Scalar.muli arg19 c1024_i32_3202
  let v3085 : Index := Scalar.indexCast v3084
  let c128_3203 : Index := 128#32
  ![v3085.toNat, 128]
def k0_off4 (d0 : Dev nD) (c1_i32_183 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v199 : BitVec 32 := Scalar.addi v2 c1_i32_183
  let c8_i32_184 : BitVec 32 := 8#32
  let v200 : BitVec 32 := Scalar.remsi v199 c8_i32_184
  let c64_i32_185 : BitVec 32 := 64#32
  let v201 : BitVec 32 := Scalar.muli v200 c64_i32_185
  let v202 : Index := Scalar.indexCast v201
  let c128_186 : Index := 128#32
  ![v202.toNat, 128]
def k0_dev15 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_183 : BitVec 32 := 1#32
  let v199 : BitVec 32 := Scalar.addi v2 c1_i32_183
  let c8_i32_184 : BitVec 32 := 8#32
  let v200 : BitVec 32 := Scalar.remsi v199 c8_i32_184
  let c1_i32_196 : BitVec 32 := 1#32
  let v208 : BitVec 32 := Scalar.muli v200 c1_i32_196
  let v209 : BitVec 32 := Scalar.addi c0_i32_197 v208
  v209.toNat
def k0_dev16 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_201 : BitVec 32 := 2#32
  let v218 : BitVec 32 := Scalar.addi v2 c2_i32_201
  let c8_i32_202 : BitVec 32 := 8#32
  let v219 : BitVec 32 := Scalar.remsi v218 c8_i32_202
  let c1_i32_214 : BitVec 32 := 1#32
  let v227 : BitVec 32 := Scalar.muli v219 c1_i32_214
  let v228 : BitVec 32 := Scalar.addi c0_i32_215 v227
  v228.toNat
def k0_dev17 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_220 : BitVec 32 := 3#32
  let v237 : BitVec 32 := Scalar.addi v2 c3_i32_220
  let c8_i32_221 : BitVec 32 := 8#32
  let v238 : BitVec 32 := Scalar.remsi v237 c8_i32_221
  let c1_i32_233 : BitVec 32 := 1#32
  let v246 : BitVec 32 := Scalar.muli v238 c1_i32_233
  let v247 : BitVec 32 := Scalar.addi c0_i32_234 v246
  v247.toNat
def k0_dev18 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_239 : BitVec 32 := 4#32
  let v256 : BitVec 32 := Scalar.addi v2 c4_i32_239
  let c8_i32_240 : BitVec 32 := 8#32
  let v257 : BitVec 32 := Scalar.remsi v256 c8_i32_240
  let c1_i32_252 : BitVec 32 := 1#32
  let v265 : BitVec 32 := Scalar.muli v257 c1_i32_252
  let v266 : BitVec 32 := Scalar.addi c0_i32_253 v265
  v266.toNat
def k0_dev19 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_258 : BitVec 32 := 5#32
  let v275 : BitVec 32 := Scalar.addi v2 c5_i32_258
  let c8_i32_259 : BitVec 32 := 8#32
  let v276 : BitVec 32 := Scalar.remsi v275 c8_i32_259
  let c1_i32_271 : BitVec 32 := 1#32
  let v284 : BitVec 32 := Scalar.muli v276 c1_i32_271
  let v285 : BitVec 32 := Scalar.addi c0_i32_272 v284
  v285.toNat
def k0_dev20 (d0 : Dev nD) : Nat :=
  let c0_i32_291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_277 : BitVec 32 := 6#32
  let v294 : BitVec 32 := Scalar.addi v2 c6_i32_277
  let c8_i32_278 : BitVec 32 := 8#32
  let v295 : BitVec 32 := Scalar.remsi v294 c8_i32_278
  let c1_i32_290 : BitVec 32 := 1#32
  let v303 : BitVec 32 := Scalar.muli v295 c1_i32_290
  let v304 : BitVec 32 := Scalar.addi c0_i32_291 v303
  v304.toNat
def k0_dev21 (d0 : Dev nD) : Nat :=
  let c0_i32_310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_296 : BitVec 32 := 7#32
  let v313 : BitVec 32 := Scalar.addi v2 c7_i32_296
  let c8_i32_297 : BitVec 32 := 8#32
  let v314 : BitVec 32 := Scalar.remsi v313 c8_i32_297
  let c1_i32_309 : BitVec 32 := 1#32
  let v322 : BitVec 32 := Scalar.muli v314 c1_i32_309
  let v323 : BitVec 32 := Scalar.addi c0_i32_310 v322
  v323.toNat
@[reducible] def k0_t3_loop : Scf.Loop 32 :=
  let c0_i32_318 : BitVec 32 := 0#32
  let c2_i32_319 : BitVec 32 := 2#32
  let v335 : BitVec 32 := Scalar.addi c0_i32_318 c2_i32_319
  let c1_i32_320 : BitVec 32 := 1#32
  ⟨c0_i32_318, v335, c1_i32_320⟩
def k0_off5 (k0_t3 : Fin k0_t3_loop.trips) : Fin 2 → Nat :=
  let c0_i32_318 : BitVec 32 := 0#32
  let c1_i32_320 : BitVec 32 := 1#32
  let arg19 : BitVec 32 := Scf.iv c0_i32_318 c1_i32_320 k0_t3
  let c1024_i32_3202 : BitVec 32 := 1024#32
  let v3084 : BitVec 32 := Scalar.muli arg19 c1024_i32_3202
  let v3085 : Index := Scalar.indexCast v3084
  let c256_3203 : Index := 256#32
  ![v3085.toNat, 256]
def k0_off6 (d0 : Dev nD) (c1_i32_325 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v343 : BitVec 32 := Scalar.addi v2 c1_i32_325
  let c8_i32_326 : BitVec 32 := 8#32
  let v344 : BitVec 32 := Scalar.remsi v343 c8_i32_326
  let c64_i32_327 : BitVec 32 := 64#32
  let v345 : BitVec 32 := Scalar.muli v344 c64_i32_327
  let v346 : Index := Scalar.indexCast v345
  let c256_328 : Index := 256#32
  ![v346.toNat, 256]
def k0_dev22 (d0 : Dev nD) : Nat :=
  let c0_i32_339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_325 : BitVec 32 := 1#32
  let v343 : BitVec 32 := Scalar.addi v2 c1_i32_325
  let c8_i32_326 : BitVec 32 := 8#32
  let v344 : BitVec 32 := Scalar.remsi v343 c8_i32_326
  let c1_i32_338 : BitVec 32 := 1#32
  let v352 : BitVec 32 := Scalar.muli v344 c1_i32_338
  let v353 : BitVec 32 := Scalar.addi c0_i32_339 v352
  v353.toNat
def k0_dev23 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_343 : BitVec 32 := 2#32
  let v362 : BitVec 32 := Scalar.addi v2 c2_i32_343
  let c8_i32_344 : BitVec 32 := 8#32
  let v363 : BitVec 32 := Scalar.remsi v362 c8_i32_344
  let c1_i32_356 : BitVec 32 := 1#32
  let v371 : BitVec 32 := Scalar.muli v363 c1_i32_356
  let v372 : BitVec 32 := Scalar.addi c0_i32_357 v371
  v372.toNat
def k0_dev24 (d0 : Dev nD) : Nat :=
  let c0_i32_376 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_362 : BitVec 32 := 3#32
  let v381 : BitVec 32 := Scalar.addi v2 c3_i32_362
  let c8_i32_363 : BitVec 32 := 8#32
  let v382 : BitVec 32 := Scalar.remsi v381 c8_i32_363
  let c1_i32_375 : BitVec 32 := 1#32
  let v390 : BitVec 32 := Scalar.muli v382 c1_i32_375
  let v391 : BitVec 32 := Scalar.addi c0_i32_376 v390
  v391.toNat
def k0_dev25 (d0 : Dev nD) : Nat :=
  let c0_i32_395 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_381 : BitVec 32 := 4#32
  let v400 : BitVec 32 := Scalar.addi v2 c4_i32_381
  let c8_i32_382 : BitVec 32 := 8#32
  let v401 : BitVec 32 := Scalar.remsi v400 c8_i32_382
  let c1_i32_394 : BitVec 32 := 1#32
  let v409 : BitVec 32 := Scalar.muli v401 c1_i32_394
  let v410 : BitVec 32 := Scalar.addi c0_i32_395 v409
  v410.toNat
def k0_dev26 (d0 : Dev nD) : Nat :=
  let c0_i32_414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_400 : BitVec 32 := 5#32
  let v419 : BitVec 32 := Scalar.addi v2 c5_i32_400
  let c8_i32_401 : BitVec 32 := 8#32
  let v420 : BitVec 32 := Scalar.remsi v419 c8_i32_401
  let c1_i32_413 : BitVec 32 := 1#32
  let v428 : BitVec 32 := Scalar.muli v420 c1_i32_413
  let v429 : BitVec 32 := Scalar.addi c0_i32_414 v428
  v429.toNat
def k0_dev27 (d0 : Dev nD) : Nat :=
  let c0_i32_433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_419 : BitVec 32 := 6#32
  let v438 : BitVec 32 := Scalar.addi v2 c6_i32_419
  let c8_i32_420 : BitVec 32 := 8#32
  let v439 : BitVec 32 := Scalar.remsi v438 c8_i32_420
  let c1_i32_432 : BitVec 32 := 1#32
  let v447 : BitVec 32 := Scalar.muli v439 c1_i32_432
  let v448 : BitVec 32 := Scalar.addi c0_i32_433 v447
  v448.toNat
def k0_dev28 (d0 : Dev nD) : Nat :=
  let c0_i32_452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_438 : BitVec 32 := 7#32
  let v457 : BitVec 32 := Scalar.addi v2 c7_i32_438
  let c8_i32_439 : BitVec 32 := 8#32
  let v458 : BitVec 32 := Scalar.remsi v457 c8_i32_439
  let c1_i32_451 : BitVec 32 := 1#32
  let v466 : BitVec 32 := Scalar.muli v458 c1_i32_451
  let v467 : BitVec 32 := Scalar.addi c0_i32_452 v466
  v467.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v43 : BitVec 32 := Scalar.muli v2 c64_i32
  let v484 : Index := Scalar.indexCast v43
  let c0_469 : Index := 0#32
  ![v484.toNat, 0]
@[reducible] def k0_t4_loop : Scf.Loop 32 :=
  let c0_i32_579 : BitVec 32 := 0#32
  let c2_i32_580 : BitVec 32 := 2#32
  let v605 : BitVec 32 := Scalar.addi c0_i32_579 c2_i32_580
  let c1_i32_581 : BitVec 32 := 1#32
  ⟨c0_i32_579, v605, c1_i32_581⟩
def k0_off8 (k0_t4 : Fin k0_t4_loop.trips) : Fin 2 → Nat :=
  let c0_i32_579 : BitVec 32 := 0#32
  let c1_i32_581 : BitVec 32 := 1#32
  let arg19 : BitVec 32 := Scf.iv c0_i32_579 c1_i32_581 k0_t4
  let c1024_i32_3202 : BitVec 32 := 1024#32
  let v3084 : BitVec 32 := Scalar.muli arg19 c1024_i32_3202
  let v3085 : Index := Scalar.indexCast v3084
  let c384_3203 : Index := 384#32
  ![v3085.toNat, 384]
def k0_off9 (d0 : Dev nD) (c1_i32_586 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v613 : BitVec 32 := Scalar.addi v2 c1_i32_586
  let c8_i32_587 : BitVec 32 := 8#32
  let v614 : BitVec 32 := Scalar.remsi v613 c8_i32_587
  let c64_i32_588 : BitVec 32 := 64#32
  let v615 : BitVec 32 := Scalar.muli v614 c64_i32_588
  let v616 : Index := Scalar.indexCast v615
  let c384_589 : Index := 384#32
  ![v616.toNat, 384]
def k0_dev29 (d0 : Dev nD) : Nat :=
  let c0_i32_600 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_586 : BitVec 32 := 1#32
  let v613 : BitVec 32 := Scalar.addi v2 c1_i32_586
  let c8_i32_587 : BitVec 32 := 8#32
  let v614 : BitVec 32 := Scalar.remsi v613 c8_i32_587
  let c1_i32_599 : BitVec 32 := 1#32
  let v622 : BitVec 32 := Scalar.muli v614 c1_i32_599
  let v623 : BitVec 32 := Scalar.addi c0_i32_600 v622
  v623.toNat
def k0_dev30 (d0 : Dev nD) : Nat :=
  let c0_i32_618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_604 : BitVec 32 := 2#32
  let v632 : BitVec 32 := Scalar.addi v2 c2_i32_604
  let c8_i32_605 : BitVec 32 := 8#32
  let v633 : BitVec 32 := Scalar.remsi v632 c8_i32_605
  let c1_i32_617 : BitVec 32 := 1#32
  let v641 : BitVec 32 := Scalar.muli v633 c1_i32_617
  let v642 : BitVec 32 := Scalar.addi c0_i32_618 v641
  v642.toNat
def k0_dev31 (d0 : Dev nD) : Nat :=
  let c0_i32_637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_623 : BitVec 32 := 3#32
  let v651 : BitVec 32 := Scalar.addi v2 c3_i32_623
  let c8_i32_624 : BitVec 32 := 8#32
  let v652 : BitVec 32 := Scalar.remsi v651 c8_i32_624
  let c1_i32_636 : BitVec 32 := 1#32
  let v660 : BitVec 32 := Scalar.muli v652 c1_i32_636
  let v661 : BitVec 32 := Scalar.addi c0_i32_637 v660
  v661.toNat
def k0_dev32 (d0 : Dev nD) : Nat :=
  let c0_i32_656 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_642 : BitVec 32 := 4#32
  let v670 : BitVec 32 := Scalar.addi v2 c4_i32_642
  let c8_i32_643 : BitVec 32 := 8#32
  let v671 : BitVec 32 := Scalar.remsi v670 c8_i32_643
  let c1_i32_655 : BitVec 32 := 1#32
  let v679 : BitVec 32 := Scalar.muli v671 c1_i32_655
  let v680 : BitVec 32 := Scalar.addi c0_i32_656 v679
  v680.toNat
def k0_dev33 (d0 : Dev nD) : Nat :=
  let c0_i32_675 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_661 : BitVec 32 := 5#32
  let v689 : BitVec 32 := Scalar.addi v2 c5_i32_661
  let c8_i32_662 : BitVec 32 := 8#32
  let v690 : BitVec 32 := Scalar.remsi v689 c8_i32_662
  let c1_i32_674 : BitVec 32 := 1#32
  let v698 : BitVec 32 := Scalar.muli v690 c1_i32_674
  let v699 : BitVec 32 := Scalar.addi c0_i32_675 v698
  v699.toNat
def k0_dev34 (d0 : Dev nD) : Nat :=
  let c0_i32_694 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_680 : BitVec 32 := 6#32
  let v708 : BitVec 32 := Scalar.addi v2 c6_i32_680
  let c8_i32_681 : BitVec 32 := 8#32
  let v709 : BitVec 32 := Scalar.remsi v708 c8_i32_681
  let c1_i32_693 : BitVec 32 := 1#32
  let v717 : BitVec 32 := Scalar.muli v709 c1_i32_693
  let v718 : BitVec 32 := Scalar.addi c0_i32_694 v717
  v718.toNat
def k0_dev35 (d0 : Dev nD) : Nat :=
  let c0_i32_713 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_699 : BitVec 32 := 7#32
  let v727 : BitVec 32 := Scalar.addi v2 c7_i32_699
  let c8_i32_700 : BitVec 32 := 8#32
  let v728 : BitVec 32 := Scalar.remsi v727 c8_i32_700
  let c1_i32_712 : BitVec 32 := 1#32
  let v736 : BitVec 32 := Scalar.muli v728 c1_i32_712
  let v737 : BitVec 32 := Scalar.addi c0_i32_713 v736
  v737.toNat
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v43 : BitVec 32 := Scalar.muli v2 c64_i32
  let v754 : Index := Scalar.indexCast v43
  let c128_730 : Index := 128#32
  ![v754.toNat, 128]
@[reducible] def k0_t5_loop : Scf.Loop 32 :=
  let c0_i32_840 : BitVec 32 := 0#32
  let c2_i32_841 : BitVec 32 := 2#32
  let v875 : BitVec 32 := Scalar.addi c0_i32_840 c2_i32_841
  let c1_i32_842 : BitVec 32 := 1#32
  ⟨c0_i32_840, v875, c1_i32_842⟩
def k0_off11 (k0_t5 : Fin k0_t5_loop.trips) : Fin 2 → Nat :=
  let c0_i32_840 : BitVec 32 := 0#32
  let c1_i32_842 : BitVec 32 := 1#32
  let arg19 : BitVec 32 := Scf.iv c0_i32_840 c1_i32_842 k0_t5
  let c1024_i32_3202 : BitVec 32 := 1024#32
  let v3084 : BitVec 32 := Scalar.muli arg19 c1024_i32_3202
  let v3085 : Index := Scalar.indexCast v3084
  let c512_3203 : Index := 512#32
  ![v3085.toNat, 512]
def k0_off12 (d0 : Dev nD) (c1_i32_847 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v883 : BitVec 32 := Scalar.addi v2 c1_i32_847
  let c8_i32_848 : BitVec 32 := 8#32
  let v884 : BitVec 32 := Scalar.remsi v883 c8_i32_848
  let c64_i32_849 : BitVec 32 := 64#32
  let v885 : BitVec 32 := Scalar.muli v884 c64_i32_849
  let v886 : Index := Scalar.indexCast v885
  let c512_850 : Index := 512#32
  ![v886.toNat, 512]
def k0_dev36 (d0 : Dev nD) : Nat :=
  let c0_i32_861 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_847 : BitVec 32 := 1#32
  let v883 : BitVec 32 := Scalar.addi v2 c1_i32_847
  let c8_i32_848 : BitVec 32 := 8#32
  let v884 : BitVec 32 := Scalar.remsi v883 c8_i32_848
  let c1_i32_860 : BitVec 32 := 1#32
  let v892 : BitVec 32 := Scalar.muli v884 c1_i32_860
  let v893 : BitVec 32 := Scalar.addi c0_i32_861 v892
  v893.toNat
def k0_dev37 (d0 : Dev nD) : Nat :=
  let c0_i32_879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_865 : BitVec 32 := 2#32
  let v902 : BitVec 32 := Scalar.addi v2 c2_i32_865
  let c8_i32_866 : BitVec 32 := 8#32
  let v903 : BitVec 32 := Scalar.remsi v902 c8_i32_866
  let c1_i32_878 : BitVec 32 := 1#32
  let v911 : BitVec 32 := Scalar.muli v903 c1_i32_878
  let v912 : BitVec 32 := Scalar.addi c0_i32_879 v911
  v912.toNat
def k0_dev38 (d0 : Dev nD) : Nat :=
  let c0_i32_898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_884 : BitVec 32 := 3#32
  let v921 : BitVec 32 := Scalar.addi v2 c3_i32_884
  let c8_i32_885 : BitVec 32 := 8#32
  let v922 : BitVec 32 := Scalar.remsi v921 c8_i32_885
  let c1_i32_897 : BitVec 32 := 1#32
  let v930 : BitVec 32 := Scalar.muli v922 c1_i32_897
  let v931 : BitVec 32 := Scalar.addi c0_i32_898 v930
  v931.toNat
def k0_dev39 (d0 : Dev nD) : Nat :=
  let c0_i32_917 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_903 : BitVec 32 := 4#32
  let v940 : BitVec 32 := Scalar.addi v2 c4_i32_903
  let c8_i32_904 : BitVec 32 := 8#32
  let v941 : BitVec 32 := Scalar.remsi v940 c8_i32_904
  let c1_i32_916 : BitVec 32 := 1#32
  let v949 : BitVec 32 := Scalar.muli v941 c1_i32_916
  let v950 : BitVec 32 := Scalar.addi c0_i32_917 v949
  v950.toNat
def k0_dev40 (d0 : Dev nD) : Nat :=
  let c0_i32_936 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_922 : BitVec 32 := 5#32
  let v959 : BitVec 32 := Scalar.addi v2 c5_i32_922
  let c8_i32_923 : BitVec 32 := 8#32
  let v960 : BitVec 32 := Scalar.remsi v959 c8_i32_923
  let c1_i32_935 : BitVec 32 := 1#32
  let v968 : BitVec 32 := Scalar.muli v960 c1_i32_935
  let v969 : BitVec 32 := Scalar.addi c0_i32_936 v968
  v969.toNat
def k0_dev41 (d0 : Dev nD) : Nat :=
  let c0_i32_955 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_941 : BitVec 32 := 6#32
  let v978 : BitVec 32 := Scalar.addi v2 c6_i32_941
  let c8_i32_942 : BitVec 32 := 8#32
  let v979 : BitVec 32 := Scalar.remsi v978 c8_i32_942
  let c1_i32_954 : BitVec 32 := 1#32
  let v987 : BitVec 32 := Scalar.muli v979 c1_i32_954
  let v988 : BitVec 32 := Scalar.addi c0_i32_955 v987
  v988.toNat
def k0_dev42 (d0 : Dev nD) : Nat :=
  let c0_i32_974 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_960 : BitVec 32 := 7#32
  let v997 : BitVec 32 := Scalar.addi v2 c7_i32_960
  let c8_i32_961 : BitVec 32 := 8#32
  let v998 : BitVec 32 := Scalar.remsi v997 c8_i32_961
  let c1_i32_973 : BitVec 32 := 1#32
  let v1006 : BitVec 32 := Scalar.muli v998 c1_i32_973
  let v1007 : BitVec 32 := Scalar.addi c0_i32_974 v1006
  v1007.toNat
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v43 : BitVec 32 := Scalar.muli v2 c64_i32
  let v1024 : Index := Scalar.indexCast v43
  let c256_991 : Index := 256#32
  ![v1024.toNat, 256]
@[reducible] def k0_t6_loop : Scf.Loop 32 :=
  let c0_i32_1101 : BitVec 32 := 0#32
  let c2_i32_1102 : BitVec 32 := 2#32
  let v1145 : BitVec 32 := Scalar.addi c0_i32_1101 c2_i32_1102
  let c1_i32_1103 : BitVec 32 := 1#32
  ⟨c0_i32_1101, v1145, c1_i32_1103⟩
def k0_off14 (k0_t6 : Fin k0_t6_loop.trips) : Fin 2 → Nat :=
  let c0_i32_1101 : BitVec 32 := 0#32
  let c1_i32_1103 : BitVec 32 := 1#32
  let arg19 : BitVec 32 := Scf.iv c0_i32_1101 c1_i32_1103 k0_t6
  let c1024_i32_3202 : BitVec 32 := 1024#32
  let v3084 : BitVec 32 := Scalar.muli arg19 c1024_i32_3202
  let v3085 : Index := Scalar.indexCast v3084
  let c640_3203 : Index := 640#32
  ![v3085.toNat, 640]
def k0_off15 (d0 : Dev nD) (c1_i32_1108 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1153 : BitVec 32 := Scalar.addi v2 c1_i32_1108
  let c8_i32_1109 : BitVec 32 := 8#32
  let v1154 : BitVec 32 := Scalar.remsi v1153 c8_i32_1109
  let c64_i32_1110 : BitVec 32 := 64#32
  let v1155 : BitVec 32 := Scalar.muli v1154 c64_i32_1110
  let v1156 : Index := Scalar.indexCast v1155
  let c640_1111 : Index := 640#32
  ![v1156.toNat, 640]
def k0_dev43 (d0 : Dev nD) : Nat :=
  let c0_i32_1122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1108 : BitVec 32 := 1#32
  let v1153 : BitVec 32 := Scalar.addi v2 c1_i32_1108
  let c8_i32_1109 : BitVec 32 := 8#32
  let v1154 : BitVec 32 := Scalar.remsi v1153 c8_i32_1109
  let c1_i32_1121 : BitVec 32 := 1#32
  let v1162 : BitVec 32 := Scalar.muli v1154 c1_i32_1121
  let v1163 : BitVec 32 := Scalar.addi c0_i32_1122 v1162
  v1163.toNat
def k0_dev44 (d0 : Dev nD) : Nat :=
  let c0_i32_1140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1126 : BitVec 32 := 2#32
  let v1172 : BitVec 32 := Scalar.addi v2 c2_i32_1126
  let c8_i32_1127 : BitVec 32 := 8#32
  let v1173 : BitVec 32 := Scalar.remsi v1172 c8_i32_1127
  let c1_i32_1139 : BitVec 32 := 1#32
  let v1181 : BitVec 32 := Scalar.muli v1173 c1_i32_1139
  let v1182 : BitVec 32 := Scalar.addi c0_i32_1140 v1181
  v1182.toNat
def k0_dev45 (d0 : Dev nD) : Nat :=
  let c0_i32_1159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1145 : BitVec 32 := 3#32
  let v1191 : BitVec 32 := Scalar.addi v2 c3_i32_1145
  let c8_i32_1146 : BitVec 32 := 8#32
  let v1192 : BitVec 32 := Scalar.remsi v1191 c8_i32_1146
  let c1_i32_1158 : BitVec 32 := 1#32
  let v1200 : BitVec 32 := Scalar.muli v1192 c1_i32_1158
  let v1201 : BitVec 32 := Scalar.addi c0_i32_1159 v1200
  v1201.toNat
def k0_dev46 (d0 : Dev nD) : Nat :=
  let c0_i32_1178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1164 : BitVec 32 := 4#32
  let v1210 : BitVec 32 := Scalar.addi v2 c4_i32_1164
  let c8_i32_1165 : BitVec 32 := 8#32
  let v1211 : BitVec 32 := Scalar.remsi v1210 c8_i32_1165
  let c1_i32_1177 : BitVec 32 := 1#32
  let v1219 : BitVec 32 := Scalar.muli v1211 c1_i32_1177
  let v1220 : BitVec 32 := Scalar.addi c0_i32_1178 v1219
  v1220.toNat
def k0_dev47 (d0 : Dev nD) : Nat :=
  let c0_i32_1197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1183 : BitVec 32 := 5#32
  let v1229 : BitVec 32 := Scalar.addi v2 c5_i32_1183
  let c8_i32_1184 : BitVec 32 := 8#32
  let v1230 : BitVec 32 := Scalar.remsi v1229 c8_i32_1184
  let c1_i32_1196 : BitVec 32 := 1#32
  let v1238 : BitVec 32 := Scalar.muli v1230 c1_i32_1196
  let v1239 : BitVec 32 := Scalar.addi c0_i32_1197 v1238
  v1239.toNat
def k0_dev48 (d0 : Dev nD) : Nat :=
  let c0_i32_1216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1202 : BitVec 32 := 6#32
  let v1248 : BitVec 32 := Scalar.addi v2 c6_i32_1202
  let c8_i32_1203 : BitVec 32 := 8#32
  let v1249 : BitVec 32 := Scalar.remsi v1248 c8_i32_1203
  let c1_i32_1215 : BitVec 32 := 1#32
  let v1257 : BitVec 32 := Scalar.muli v1249 c1_i32_1215
  let v1258 : BitVec 32 := Scalar.addi c0_i32_1216 v1257
  v1258.toNat
def k0_dev49 (d0 : Dev nD) : Nat :=
  let c0_i32_1235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1221 : BitVec 32 := 7#32
  let v1267 : BitVec 32 := Scalar.addi v2 c7_i32_1221
  let c8_i32_1222 : BitVec 32 := 8#32
  let v1268 : BitVec 32 := Scalar.remsi v1267 c8_i32_1222
  let c1_i32_1234 : BitVec 32 := 1#32
  let v1276 : BitVec 32 := Scalar.muli v1268 c1_i32_1234
  let v1277 : BitVec 32 := Scalar.addi c0_i32_1235 v1276
  v1277.toNat
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v43 : BitVec 32 := Scalar.muli v2 c64_i32
  let v1294 : Index := Scalar.indexCast v43
  let c384_1252 : Index := 384#32
  ![v1294.toNat, 384]
@[reducible] def k0_t7_loop : Scf.Loop 32 :=
  let c0_i32_1362 : BitVec 32 := 0#32
  let c2_i32_1363 : BitVec 32 := 2#32
  let v1415 : BitVec 32 := Scalar.addi c0_i32_1362 c2_i32_1363
  let c1_i32_1364 : BitVec 32 := 1#32
  ⟨c0_i32_1362, v1415, c1_i32_1364⟩
def k0_off17 (k0_t7 : Fin k0_t7_loop.trips) : Fin 2 → Nat :=
  let c0_i32_1362 : BitVec 32 := 0#32
  let c1_i32_1364 : BitVec 32 := 1#32
  let arg19 : BitVec 32 := Scf.iv c0_i32_1362 c1_i32_1364 k0_t7
  let c1024_i32_3202 : BitVec 32 := 1024#32
  let v3084 : BitVec 32 := Scalar.muli arg19 c1024_i32_3202
  let v3085 : Index := Scalar.indexCast v3084
  let c768_3203 : Index := 768#32
  ![v3085.toNat, 768]
def k0_off18 (d0 : Dev nD) (c1_i32_1369 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1423 : BitVec 32 := Scalar.addi v2 c1_i32_1369
  let c8_i32_1370 : BitVec 32 := 8#32
  let v1424 : BitVec 32 := Scalar.remsi v1423 c8_i32_1370
  let c64_i32_1371 : BitVec 32 := 64#32
  let v1425 : BitVec 32 := Scalar.muli v1424 c64_i32_1371
  let v1426 : Index := Scalar.indexCast v1425
  let c768_1372 : Index := 768#32
  ![v1426.toNat, 768]
def k0_dev50 (d0 : Dev nD) : Nat :=
  let c0_i32_1383 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1369 : BitVec 32 := 1#32
  let v1423 : BitVec 32 := Scalar.addi v2 c1_i32_1369
  let c8_i32_1370 : BitVec 32 := 8#32
  let v1424 : BitVec 32 := Scalar.remsi v1423 c8_i32_1370
  let c1_i32_1382 : BitVec 32 := 1#32
  let v1432 : BitVec 32 := Scalar.muli v1424 c1_i32_1382
  let v1433 : BitVec 32 := Scalar.addi c0_i32_1383 v1432
  v1433.toNat
def k0_dev51 (d0 : Dev nD) : Nat :=
  let c0_i32_1401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1387 : BitVec 32 := 2#32
  let v1442 : BitVec 32 := Scalar.addi v2 c2_i32_1387
  let c8_i32_1388 : BitVec 32 := 8#32
  let v1443 : BitVec 32 := Scalar.remsi v1442 c8_i32_1388
  let c1_i32_1400 : BitVec 32 := 1#32
  let v1451 : BitVec 32 := Scalar.muli v1443 c1_i32_1400
  let v1452 : BitVec 32 := Scalar.addi c0_i32_1401 v1451
  v1452.toNat
def k0_dev52 (d0 : Dev nD) : Nat :=
  let c0_i32_1420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1406 : BitVec 32 := 3#32
  let v1461 : BitVec 32 := Scalar.addi v2 c3_i32_1406
  let c8_i32_1407 : BitVec 32 := 8#32
  let v1462 : BitVec 32 := Scalar.remsi v1461 c8_i32_1407
  let c1_i32_1419 : BitVec 32 := 1#32
  let v1470 : BitVec 32 := Scalar.muli v1462 c1_i32_1419
  let v1471 : BitVec 32 := Scalar.addi c0_i32_1420 v1470
  v1471.toNat
def k0_dev53 (d0 : Dev nD) : Nat :=
  let c0_i32_1439 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1425 : BitVec 32 := 4#32
  let v1480 : BitVec 32 := Scalar.addi v2 c4_i32_1425
  let c8_i32_1426 : BitVec 32 := 8#32
  let v1481 : BitVec 32 := Scalar.remsi v1480 c8_i32_1426
  let c1_i32_1438 : BitVec 32 := 1#32
  let v1489 : BitVec 32 := Scalar.muli v1481 c1_i32_1438
  let v1490 : BitVec 32 := Scalar.addi c0_i32_1439 v1489
  v1490.toNat
def k0_dev54 (d0 : Dev nD) : Nat :=
  let c0_i32_1458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1444 : BitVec 32 := 5#32
  let v1499 : BitVec 32 := Scalar.addi v2 c5_i32_1444
  let c8_i32_1445 : BitVec 32 := 8#32
  let v1500 : BitVec 32 := Scalar.remsi v1499 c8_i32_1445
  let c1_i32_1457 : BitVec 32 := 1#32
  let v1508 : BitVec 32 := Scalar.muli v1500 c1_i32_1457
  let v1509 : BitVec 32 := Scalar.addi c0_i32_1458 v1508
  v1509.toNat
def k0_dev55 (d0 : Dev nD) : Nat :=
  let c0_i32_1477 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1463 : BitVec 32 := 6#32
  let v1518 : BitVec 32 := Scalar.addi v2 c6_i32_1463
  let c8_i32_1464 : BitVec 32 := 8#32
  let v1519 : BitVec 32 := Scalar.remsi v1518 c8_i32_1464
  let c1_i32_1476 : BitVec 32 := 1#32
  let v1527 : BitVec 32 := Scalar.muli v1519 c1_i32_1476
  let v1528 : BitVec 32 := Scalar.addi c0_i32_1477 v1527
  v1528.toNat
def k0_dev56 (d0 : Dev nD) : Nat :=
  let c0_i32_1496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1482 : BitVec 32 := 7#32
  let v1537 : BitVec 32 := Scalar.addi v2 c7_i32_1482
  let c8_i32_1483 : BitVec 32 := 8#32
  let v1538 : BitVec 32 := Scalar.remsi v1537 c8_i32_1483
  let c1_i32_1495 : BitVec 32 := 1#32
  let v1546 : BitVec 32 := Scalar.muli v1538 c1_i32_1495
  let v1547 : BitVec 32 := Scalar.addi c0_i32_1496 v1546
  v1547.toNat
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v43 : BitVec 32 := Scalar.muli v2 c64_i32
  let v1564 : Index := Scalar.indexCast v43
  let c512_1513 : Index := 512#32
  ![v1564.toNat, 512]
@[reducible] def k0_t8_loop : Scf.Loop 32 :=
  let c0_i32_1623 : BitVec 32 := 0#32
  let c2_i32_1624 : BitVec 32 := 2#32
  let v1685 : BitVec 32 := Scalar.addi c0_i32_1623 c2_i32_1624
  let c1_i32_1625 : BitVec 32 := 1#32
  ⟨c0_i32_1623, v1685, c1_i32_1625⟩
def k0_off20 (k0_t8 : Fin k0_t8_loop.trips) : Fin 2 → Nat :=
  let c0_i32_1623 : BitVec 32 := 0#32
  let c1_i32_1625 : BitVec 32 := 1#32
  let arg19 : BitVec 32 := Scf.iv c0_i32_1623 c1_i32_1625 k0_t8
  let c1024_i32_3202 : BitVec 32 := 1024#32
  let v3084 : BitVec 32 := Scalar.muli arg19 c1024_i32_3202
  let v3085 : Index := Scalar.indexCast v3084
  let c896_3203 : Index := 896#32
  ![v3085.toNat, 896]
def k0_off21 (d0 : Dev nD) (c1_i32_1630 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1693 : BitVec 32 := Scalar.addi v2 c1_i32_1630
  let c8_i32_1631 : BitVec 32 := 8#32
  let v1694 : BitVec 32 := Scalar.remsi v1693 c8_i32_1631
  let c64_i32_1632 : BitVec 32 := 64#32
  let v1695 : BitVec 32 := Scalar.muli v1694 c64_i32_1632
  let v1696 : Index := Scalar.indexCast v1695
  let c896_1633 : Index := 896#32
  ![v1696.toNat, 896]
def k0_dev57 (d0 : Dev nD) : Nat :=
  let c0_i32_1644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1630 : BitVec 32 := 1#32
  let v1693 : BitVec 32 := Scalar.addi v2 c1_i32_1630
  let c8_i32_1631 : BitVec 32 := 8#32
  let v1694 : BitVec 32 := Scalar.remsi v1693 c8_i32_1631
  let c1_i32_1643 : BitVec 32 := 1#32
  let v1702 : BitVec 32 := Scalar.muli v1694 c1_i32_1643
  let v1703 : BitVec 32 := Scalar.addi c0_i32_1644 v1702
  v1703.toNat
def k0_dev58 (d0 : Dev nD) : Nat :=
  let c0_i32_1662 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1648 : BitVec 32 := 2#32
  let v1712 : BitVec 32 := Scalar.addi v2 c2_i32_1648
  let c8_i32_1649 : BitVec 32 := 8#32
  let v1713 : BitVec 32 := Scalar.remsi v1712 c8_i32_1649
  let c1_i32_1661 : BitVec 32 := 1#32
  let v1721 : BitVec 32 := Scalar.muli v1713 c1_i32_1661
  let v1722 : BitVec 32 := Scalar.addi c0_i32_1662 v1721
  v1722.toNat
def k0_dev59 (d0 : Dev nD) : Nat :=
  let c0_i32_1681 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1667 : BitVec 32 := 3#32
  let v1731 : BitVec 32 := Scalar.addi v2 c3_i32_1667
  let c8_i32_1668 : BitVec 32 := 8#32
  let v1732 : BitVec 32 := Scalar.remsi v1731 c8_i32_1668
  let c1_i32_1680 : BitVec 32 := 1#32
  let v1740 : BitVec 32 := Scalar.muli v1732 c1_i32_1680
  let v1741 : BitVec 32 := Scalar.addi c0_i32_1681 v1740
  v1741.toNat
def k0_dev60 (d0 : Dev nD) : Nat :=
  let c0_i32_1700 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1686 : BitVec 32 := 4#32
  let v1750 : BitVec 32 := Scalar.addi v2 c4_i32_1686
  let c8_i32_1687 : BitVec 32 := 8#32
  let v1751 : BitVec 32 := Scalar.remsi v1750 c8_i32_1687
  let c1_i32_1699 : BitVec 32 := 1#32
  let v1759 : BitVec 32 := Scalar.muli v1751 c1_i32_1699
  let v1760 : BitVec 32 := Scalar.addi c0_i32_1700 v1759
  v1760.toNat
def k0_dev61 (d0 : Dev nD) : Nat :=
  let c0_i32_1719 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1705 : BitVec 32 := 5#32
  let v1769 : BitVec 32 := Scalar.addi v2 c5_i32_1705
  let c8_i32_1706 : BitVec 32 := 8#32
  let v1770 : BitVec 32 := Scalar.remsi v1769 c8_i32_1706
  let c1_i32_1718 : BitVec 32 := 1#32
  let v1778 : BitVec 32 := Scalar.muli v1770 c1_i32_1718
  let v1779 : BitVec 32 := Scalar.addi c0_i32_1719 v1778
  v1779.toNat
def k0_dev62 (d0 : Dev nD) : Nat :=
  let c0_i32_1738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1724 : BitVec 32 := 6#32
  let v1788 : BitVec 32 := Scalar.addi v2 c6_i32_1724
  let c8_i32_1725 : BitVec 32 := 8#32
  let v1789 : BitVec 32 := Scalar.remsi v1788 c8_i32_1725
  let c1_i32_1737 : BitVec 32 := 1#32
  let v1797 : BitVec 32 := Scalar.muli v1789 c1_i32_1737
  let v1798 : BitVec 32 := Scalar.addi c0_i32_1738 v1797
  v1798.toNat
def k0_dev63 (d0 : Dev nD) : Nat :=
  let c0_i32_1757 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1743 : BitVec 32 := 7#32
  let v1807 : BitVec 32 := Scalar.addi v2 c7_i32_1743
  let c8_i32_1744 : BitVec 32 := 8#32
  let v1808 : BitVec 32 := Scalar.remsi v1807 c8_i32_1744
  let c1_i32_1756 : BitVec 32 := 1#32
  let v1816 : BitVec 32 := Scalar.muli v1808 c1_i32_1756
  let v1817 : BitVec 32 := Scalar.addi c0_i32_1757 v1816
  v1817.toNat
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v43 : BitVec 32 := Scalar.muli v2 c64_i32
  let v1834 : Index := Scalar.indexCast v43
  let c640_1774 : Index := 640#32
  ![v1834.toNat, 640]
def k0_off23 (d0 : Dev nD) (c1_i32_1881 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1952 : BitVec 32 := Scalar.addi v2 c1_i32_1881
  let c8_i32_1882 : BitVec 32 := 8#32
  let v1953 : BitVec 32 := Scalar.remsi v1952 c8_i32_1882
  let c64_i32_1883 : BitVec 32 := 64#32
  let v1954 : BitVec 32 := Scalar.muli v1953 c64_i32_1883
  let c1024_i32 : BitVec 32 := 1024#32
  ![v1954.toNat, 1024]
def k0_dev64 (d0 : Dev nD) : Nat :=
  let c0_i32_1888 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1881 : BitVec 32 := 1#32
  let v1952 : BitVec 32 := Scalar.addi v2 c1_i32_1881
  let c8_i32_1882 : BitVec 32 := 8#32
  let v1953 : BitVec 32 := Scalar.remsi v1952 c8_i32_1882
  let c1_i32_1887 : BitVec 32 := 1#32
  let v1955 : BitVec 32 := Scalar.muli v1953 c1_i32_1887
  let v1956 : BitVec 32 := Scalar.addi c0_i32_1888 v1955
  v1956.toNat
def k0_dev65 (d0 : Dev nD) : Nat :=
  let c0_i32_1898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1891 : BitVec 32 := 2#32
  let v1964 : BitVec 32 := Scalar.addi v2 c2_i32_1891
  let c8_i32_1892 : BitVec 32 := 8#32
  let v1965 : BitVec 32 := Scalar.remsi v1964 c8_i32_1892
  let c1_i32_1897 : BitVec 32 := 1#32
  let v1967 : BitVec 32 := Scalar.muli v1965 c1_i32_1897
  let v1968 : BitVec 32 := Scalar.addi c0_i32_1898 v1967
  v1968.toNat
def k0_dev66 (d0 : Dev nD) : Nat :=
  let c0_i32_1909 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1902 : BitVec 32 := 3#32
  let v1976 : BitVec 32 := Scalar.addi v2 c3_i32_1902
  let c8_i32_1903 : BitVec 32 := 8#32
  let v1977 : BitVec 32 := Scalar.remsi v1976 c8_i32_1903
  let c1_i32_1908 : BitVec 32 := 1#32
  let v1979 : BitVec 32 := Scalar.muli v1977 c1_i32_1908
  let v1980 : BitVec 32 := Scalar.addi c0_i32_1909 v1979
  v1980.toNat
def k0_dev67 (d0 : Dev nD) : Nat :=
  let c0_i32_1920 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1913 : BitVec 32 := 4#32
  let v1988 : BitVec 32 := Scalar.addi v2 c4_i32_1913
  let c8_i32_1914 : BitVec 32 := 8#32
  let v1989 : BitVec 32 := Scalar.remsi v1988 c8_i32_1914
  let c1_i32_1919 : BitVec 32 := 1#32
  let v1991 : BitVec 32 := Scalar.muli v1989 c1_i32_1919
  let v1992 : BitVec 32 := Scalar.addi c0_i32_1920 v1991
  v1992.toNat
def k0_dev68 (d0 : Dev nD) : Nat :=
  let c0_i32_1931 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1924 : BitVec 32 := 5#32
  let v2000 : BitVec 32 := Scalar.addi v2 c5_i32_1924
  let c8_i32_1925 : BitVec 32 := 8#32
  let v2001 : BitVec 32 := Scalar.remsi v2000 c8_i32_1925
  let c1_i32_1930 : BitVec 32 := 1#32
  let v2003 : BitVec 32 := Scalar.muli v2001 c1_i32_1930
  let v2004 : BitVec 32 := Scalar.addi c0_i32_1931 v2003
  v2004.toNat
def k0_dev69 (d0 : Dev nD) : Nat :=
  let c0_i32_1942 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1935 : BitVec 32 := 6#32
  let v2012 : BitVec 32 := Scalar.addi v2 c6_i32_1935
  let c8_i32_1936 : BitVec 32 := 8#32
  let v2013 : BitVec 32 := Scalar.remsi v2012 c8_i32_1936
  let c1_i32_1941 : BitVec 32 := 1#32
  let v2015 : BitVec 32 := Scalar.muli v2013 c1_i32_1941
  let v2016 : BitVec 32 := Scalar.addi c0_i32_1942 v2015
  v2016.toNat
def k0_dev70 (d0 : Dev nD) : Nat :=
  let c0_i32_1953 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1946 : BitVec 32 := 7#32
  let v2024 : BitVec 32 := Scalar.addi v2 c7_i32_1946
  let c8_i32_1947 : BitVec 32 := 8#32
  let v2025 : BitVec 32 := Scalar.remsi v2024 c8_i32_1947
  let c1_i32_1952 : BitVec 32 := 1#32
  let v2027 : BitVec 32 := Scalar.muli v2025 c1_i32_1952
  let v2028 : BitVec 32 := Scalar.addi c0_i32_1953 v2027
  v2028.toNat
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v43 : BitVec 32 := Scalar.muli v2 c64_i32
  let v2044 : Index := Scalar.indexCast v43
  let c768_1969 : Index := 768#32
  ![v2044.toNat, 768]
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v43 : BitVec 32 := Scalar.muli v2 c64_i32
  let v2170 : Index := Scalar.indexCast v43
  let c896_2088 : Index := 896#32
  ![v2170.toNat, 896]
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v43 : BitVec 32 := Scalar.muli v2 c64_i32
  let v2295 : Index := Scalar.indexCast v43
  let c1024_2203 : Index := 1024#32
  ![v2295.toNat, 1024]
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v43 : BitVec 32 := Scalar.muli v2 c64_i32
  let v2402 : Index := Scalar.indexCast v43
  let c1024_2287 : Index := 1024#32
  ![v2402.toNat, 1024]
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v43 : BitVec 32 := Scalar.muli v2 c64_i32
  let v2412 : Index := Scalar.indexCast v43
  let c1025_2290 : Index := 1025#32
  ![v2412.toNat, 1025]
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v43 : BitVec 32 := Scalar.muli v2 c64_i32
  let v2422 : Index := Scalar.indexCast v43
  let c1026_2293 : Index := 1026#32
  ![v2422.toNat, 1026]
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v43 : BitVec 32 := Scalar.muli v2 c64_i32
  let v2432 : Index := Scalar.indexCast v43
  let c1027_2296 : Index := 1027#32
  ![v2432.toNat, 1027]
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v43 : BitVec 32 := Scalar.muli v2 c64_i32
  let v2442 : Index := Scalar.indexCast v43
  let c1028_2299 : Index := 1028#32
  ![v2442.toNat, 1028]
def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v43 : BitVec 32 := Scalar.muli v2 c64_i32
  let v2452 : Index := Scalar.indexCast v43
  let c1029_2302 : Index := 1029#32
  ![v2452.toNat, 1029]
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v43 : BitVec 32 := Scalar.muli v2 c64_i32
  let v2462 : Index := Scalar.indexCast v43
  let c1030_2305 : Index := 1030#32
  ![v2462.toNat, 1030]
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v43 : BitVec 32 := Scalar.muli v2 c64_i32
  let v2472 : Index := Scalar.indexCast v43
  let c1031_2308 : Index := 1031#32
  ![v2472.toNat, 1031]
def k0_off35 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v43 : BitVec 32 := Scalar.muli v2 c64_i32
  let v2480 : Index := Scalar.indexCast v43
  let c0_2310 : Index := 0#32
  ![v2480.toNat, 0]
def k0_off36 (d0 : Dev nD) : Fin 3 → Nat :=
  let c0_2314 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v43 : BitVec 32 := Scalar.muli v2 c64_i32
  let v2485 : Index := Scalar.indexCast v43
  let c0_2315 : Index := 0#32
  ![0, v2485.toNat, 0]
def k0_dev71 (d0 : Dev nD) : Nat :=
  let c0_i32_2326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2320 : BitVec 32 := 1#32
  let v2496 : BitVec 32 := Scalar.addi v2 c1_i32_2320
  let c8_i32_2321 : BitVec 32 := 8#32
  let v2497 : BitVec 32 := Scalar.remsi v2496 c8_i32_2321
  let c1_i32_2325 : BitVec 32 := 1#32
  let v2498 : BitVec 32 := Scalar.muli v2497 c1_i32_2325
  let v2499 : BitVec 32 := Scalar.addi c0_i32_2326 v2498
  v2499.toNat
def k0_dev72 (d0 : Dev nD) : Nat :=
  let c0_i32_2335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2329 : BitVec 32 := 2#32
  let v2506 : BitVec 32 := Scalar.addi v2 c2_i32_2329
  let c8_i32_2330 : BitVec 32 := 8#32
  let v2507 : BitVec 32 := Scalar.remsi v2506 c8_i32_2330
  let c1_i32_2334 : BitVec 32 := 1#32
  let v2508 : BitVec 32 := Scalar.muli v2507 c1_i32_2334
  let v2509 : BitVec 32 := Scalar.addi c0_i32_2335 v2508
  v2509.toNat
def k0_dev73 (d0 : Dev nD) : Nat :=
  let c0_i32_2344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2338 : BitVec 32 := 3#32
  let v2516 : BitVec 32 := Scalar.addi v2 c3_i32_2338
  let c8_i32_2339 : BitVec 32 := 8#32
  let v2517 : BitVec 32 := Scalar.remsi v2516 c8_i32_2339
  let c1_i32_2343 : BitVec 32 := 1#32
  let v2518 : BitVec 32 := Scalar.muli v2517 c1_i32_2343
  let v2519 : BitVec 32 := Scalar.addi c0_i32_2344 v2518
  v2519.toNat
def k0_dev74 (d0 : Dev nD) : Nat :=
  let c0_i32_2353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2347 : BitVec 32 := 4#32
  let v2526 : BitVec 32 := Scalar.addi v2 c4_i32_2347
  let c8_i32_2348 : BitVec 32 := 8#32
  let v2527 : BitVec 32 := Scalar.remsi v2526 c8_i32_2348
  let c1_i32_2352 : BitVec 32 := 1#32
  let v2528 : BitVec 32 := Scalar.muli v2527 c1_i32_2352
  let v2529 : BitVec 32 := Scalar.addi c0_i32_2353 v2528
  v2529.toNat
def k0_dev75 (d0 : Dev nD) : Nat :=
  let c0_i32_2362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2356 : BitVec 32 := 5#32
  let v2536 : BitVec 32 := Scalar.addi v2 c5_i32_2356
  let c8_i32_2357 : BitVec 32 := 8#32
  let v2537 : BitVec 32 := Scalar.remsi v2536 c8_i32_2357
  let c1_i32_2361 : BitVec 32 := 1#32
  let v2538 : BitVec 32 := Scalar.muli v2537 c1_i32_2361
  let v2539 : BitVec 32 := Scalar.addi c0_i32_2362 v2538
  v2539.toNat
def k0_dev76 (d0 : Dev nD) : Nat :=
  let c0_i32_2371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2365 : BitVec 32 := 6#32
  let v2546 : BitVec 32 := Scalar.addi v2 c6_i32_2365
  let c8_i32_2366 : BitVec 32 := 8#32
  let v2547 : BitVec 32 := Scalar.remsi v2546 c8_i32_2366
  let c1_i32_2370 : BitVec 32 := 1#32
  let v2548 : BitVec 32 := Scalar.muli v2547 c1_i32_2370
  let v2549 : BitVec 32 := Scalar.addi c0_i32_2371 v2548
  v2549.toNat
def k0_dev77 (d0 : Dev nD) : Nat :=
  let c0_i32_2380 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2374 : BitVec 32 := 7#32
  let v2556 : BitVec 32 := Scalar.addi v2 c7_i32_2374
  let c8_i32_2375 : BitVec 32 := 8#32
  let v2557 : BitVec 32 := Scalar.remsi v2556 c8_i32_2375
  let c1_i32_2379 : BitVec 32 := 1#32
  let v2558 : BitVec 32 := Scalar.muli v2557 c1_i32_2379
  let v2559 : BitVec 32 := Scalar.addi c0_i32_2380 v2558
  v2559.toNat
def k0_off37 (d0 : Dev nD) (c1_i32_3055 : BitVec 32) : Fin 3 → Nat :=
  let c0_3062 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2943 : BitVec 32 := Scalar.subi v2 c1_i32_3055
  let c8_i32_3056 : BitVec 32 := 8#32
  let v2944 : BitVec 32 := Scalar.addi v2943 c8_i32_3056
  let c8_i32_3057 : BitVec 32 := 8#32
  let v2945 : BitVec 32 := Scalar.remsi v2944 c8_i32_3057
  let c64_i32_3061 : BitVec 32 := 64#32
  let v2949 : BitVec 32 := Scalar.muli v2945 c64_i32_3061
  let v2950 : Index := Scalar.indexCast v2949
  let c0_3063 : Index := 0#32
  ![0, v2950.toNat, 0]
abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x512x1024 : Shape := ⟨3, ![1, 512, 1024]⟩
abbrev S1024x1024 : Shape := ⟨2, ![1024, 1024]⟩
abbrev S1x16384x8x128 : Shape := ⟨4, ![1, 16384, 8, 128]⟩
abbrev S1x512x8x128 : Shape := ⟨4, ![1, 512, 8, 128]⟩
abbrev S1x8x512x16384 : Shape := ⟨4, ![1, 8, 512, 16384]⟩
abbrev S_ : Shape := ⟨0, ![]⟩
abbrev S1x8x512 : Shape := ⟨3, ![1, 8, 512]⟩
abbrev S1x8x512x1 : Shape := ⟨4, ![1, 8, 512, 1]⟩
abbrev S1x8x128x512 : Shape := ⟨4, ![1, 8, 128, 512]⟩
abbrev S1x512x8x1 : Shape := ⟨4, ![1, 512, 8, 1]⟩

abbrev nBuf : Space → Nat
  | .hbm => 27
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1x16384x8x128, .f32⟩
  | .hbm, ⟨3, _⟩ => ⟨S1x16384x8x128, .f32⟩
  | .hbm, ⟨4, _⟩ => ⟨S1024x1024, .f32⟩
  | .hbm, ⟨5, _⟩ => ⟨S1x512x1024, .f32⟩
  | .hbm, ⟨6, _⟩ => ⟨S1x512x8x128, .f32⟩
  | .hbm, ⟨7, _⟩ => ⟨S1x8x512x16384, .f32⟩
  | .hbm, ⟨8, _⟩ => ⟨S_, .f32⟩
  | .hbm, ⟨9, _⟩ => ⟨S1x8x512x16384, .f32⟩
  | .hbm, ⟨10, _⟩ => ⟨S1x8x512x16384, .f32⟩
  | .hbm, ⟨11, _⟩ => ⟨S_, .f32⟩
  | .hbm, ⟨12, _⟩ => ⟨S1x8x512, .f32⟩
  | .hbm, ⟨13, _⟩ => ⟨S1x8x512x1, .f32⟩
  | .hbm, ⟨14, _⟩ => ⟨S1x8x512x16384, .f32⟩
  | .hbm, ⟨15, _⟩ => ⟨S1x8x512x16384, .f32⟩
  | .hbm, ⟨16, _⟩ => ⟨S1x8x512x16384, .f32⟩
  | .hbm, ⟨17, _⟩ => ⟨S_, .f32⟩
  | .hbm, ⟨18, _⟩ => ⟨S1x8x512, .f32⟩
  | .hbm, ⟨19, _⟩ => ⟨S1x8x512x1, .f32⟩
  | .hbm, ⟨20, _⟩ => ⟨S1x8x128x512, .f32⟩
  | .hbm, ⟨21, _⟩ => ⟨S1x512x8x128, .f32⟩
  | .hbm, ⟨22, _⟩ => ⟨S1x512x8x1, .f32⟩
  | .hbm, ⟨23, _⟩ => ⟨S1x512x8x128, .f32⟩
  | .hbm, ⟨24, _⟩ => ⟨S1x512x8x128, .f32⟩
  | .hbm, ⟨25, _⟩ => ⟨S1x512x1024, .f32⟩
  | .hbm, ⟨26, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Body.lean ====
/-
  The kernel's body written once per kind of step: the barrier, the scores, one head's softmax sums, the copy of one
  tile to one device, the merge of one received tile, the division, the projection, the copies of the result and
  the waits. `body_eq` says that the printed body is this program.
-/
module

public import proofs.«01_k».proof.Proof.Gen.KernelIdeal.Skeleton
public import Idealize.ShloMosaic.Lib.Pipeline.Regions

@[expose] public section

noncomputable section

namespace Cert.KernelIdeal.Own

open Idealize.ShloMosaic Idealize.SL.Sem Cert.KernelIdeal.Gen

variable {F : FTy → Type} [FloatOps F]

/-- The programs of the body. -/
abbrev BP (F : FTy → Type) (α : Type) := Prog (TpuEff nD τ sig (Elt F) Λ₀ .tc) α

/-! ## Loops -/

/-- The steps `n - k, …, n - 1` of a counted loop of `n` steps, in order. -/
def stepsFrom {n : ℕ} (f : Fin n → BP F PUnit) : (k : ℕ) → k ≤ n → BP F PUnit
  | 0, _ => .ret ⟨⟩
  | k + 1, h => f ⟨n - (k + 1), by omega⟩ >>= fun _ => stepsFrom f k (by omega)

/-- A counted loop of `n` steps. -/
def steps (n : ℕ) (f : Fin n → BP F PUnit) : BP F PUnit := stepsFrom f n le_rfl

/-! ## The buffers -/

abbrev bX : Memref sig .tc .vmem S512x1024 .bf16 := win0_0.stage 0
abbrev bWq : Memref sig .tc .vmem S1024x1024 .bf16 := win0_1.stage 0
abbrev bWo : Memref sig .tc .vmem S1024x1024 .f32 := win0_2.stage 0
abbrev bK : Memref sig .tc .vmem S2048x1024 .bf16 := win0_3.stage 0
abbrev bV : Memref sig .tc .vmem S2048x1024 .bf16 := win0_4.stage 0
abbrev bOut : Memref sig .tc .vmem S1x512x1024 .f32 := win0_5.stage 0
abbrev bQ : Memref sig .tc .vmem S512x1024 .bf16 := Memref.whole cc0_scratch0
abbrev bAcc : Memref sig .tc .vmem S512x1152 .f32 := Memref.whole cc0_scratch1
abbrev bSnd : Memref sig .tc .vmem S7x64x1024 .bf16 := Memref.whole cc0_scratch2
abbrev bRcv : Memref sig .tc .vmem S7x64x1024 .bf16 := Memref.whole cc0_scratch3
abbrev bMl : Memref sig .tc .vmem S7x64x128 .f32 := Memref.whole cc0_scratch4
abbrev bO : Memref sig .tc .vmem S64x1024 .bf16 := Memref.whole cc0_scratch5
abbrev bAg : Memref sig .tc .vmem S7x64x1024 .bf16 := Memref.whole cc0_scratch6

/-! ## Device and row words -/

/-- The device's own position, as the kernel computes it. -/
def meW (d0 : Dev nD) : BitVec 32 := Scalar.remsi (Scalar.divsi (Dev.word d0) 1#32) 8#32
/-- The position `w` places ahead. -/
def fwdW (d0 : Dev nD) (w : BitVec 32) : BitVec 32 := Scalar.remsi (Scalar.addi (meW d0) w) 8#32
/-- The position `w` places behind. -/
def bwdW (d0 : Dev nD) (w : BitVec 32) : BitVec 32 := Scalar.remsi (Scalar.addi (Scalar.subi (meW d0) w) 8#32) 8#32
/-- The number of the device `w` places ahead. -/
def devN (d0 : Dev nD) (w : BitVec 32) : ℕ := (Scalar.addi 0#32 (Scalar.muli (fwdW d0 w) 1#32)).toNat
/-- The corner of the tile of rows `w` places ahead, at column `col`. -/
def offFwd (d0 : Dev nD) (w : BitVec 32) (col : ℕ) : Fin 2 → ℕ := ![(Scalar.muli (fwdW d0 w) 64#32).toNat, col]
/-- The corner of the device's own tile of rows, at column `col`. -/
def offMe (d0 : Dev nD) (col : ℕ) : Fin 2 → ℕ := ![(Scalar.muli (meW d0) 64#32).toNat, col]
/-- The corner of the device's own tile of the result. -/
def offOut (d0 : Dev nD) : Fin 3 → ℕ := ![0, (Scalar.muli (meW d0) 64#32).toNat, 0]
/-- The corner of the tile of the result `w` places behind. -/
def offOutB (d0 : Dev nD) (w : BitVec 32) : Fin 3 → ℕ := ![0, (Scalar.muli (bwdW d0 w) 64#32).toNat, 0]

/-- `j + 1` as a word. -/
abbrev wd (j : Fin 7) : BitVec 32 := BitVec.ofNat 32 (j.val + 1)

theorem devN_eq : ∀ (d0 : Dev nD) (j : Fin 7), devN d0 (wd j) = (d0.val + (j.val + 1)) % 8 := by decide
theorem devN_lt (d0 : Dev nD) (j : Fin 7) : devN d0 (wd j) < nD := by
  rw [devN_eq]; exact Nat.mod_lt _ (by decide)
theorem fwd_eq : ∀ (d0 : Dev nD) (j : Fin 7), (Scalar.muli (fwdW d0 (wd j)) 64#32).toNat = 64 * ((d0.val + (j.val + 1)) % 8) := by decide
theorem me_eq : ∀ (d0 : Dev nD), (Scalar.muli (meW d0) 64#32).toNat = 64 * d0.val := by decide
theorem bwd_eq : ∀ (d0 : Dev nD) (j : Fin 7), (Scalar.muli (bwdW d0 (wd j)) 64#32).toNat = 64 * ((d0.val + (7 - j.val)) % 8) := by decide

/-! ## In bounds, and whole words -/

theorem inbFwd {n : ℕ} (d0 : Dev nD) (j : Fin 7) (col : ℕ) (h : col + n ≤ 1152) :
    ∀ a, offFwd d0 (wd j) col a + (![64, n] : Fin 2 → ℕ) a ≤ S512x1152.size a := by
  intro a; have := Nat.mod_lt (d0.val + (j.val + 1)) (show 0 < 8 by decide)
  match a with
  | 0 => show (Scalar.muli (fwdW d0 (wd j)) 64#32).toNat + 64 ≤ 512; rw [fwd_eq]; omega
  | 1 => exact h

theorem inbMe {n : ℕ} (d0 : Dev nD) (col : ℕ) (h : col + n ≤ 1152) :
    ∀ a, offMe d0 col a + (![64, n] : Fin 2 → ℕ) a ≤ S512x1152.size a := by
  intro a; have : d0.val < 8 := d0.isLt
  match a with
  | 0 => show (Scalar.muli (meW d0) 64#32).toNat + 64 ≤ 512; rw [me_eq]; omega
  | 1 => exact h

theorem inbOut (d0 : Dev nD) : ∀ a, offOut d0 a + S1x64x1024.size a ≤ S1x512x1024.size a := by
  intro a; have : d0.val < 8 := d0.isLt
  match a with
  | 0 => exact le_refl 1
  | 1 => show (Scalar.muli (meW d0) 64#32).toNat + 64 ≤ 512; rw [me_eq]; omega
  | 2 => exact le_refl 1024

theorem inbOutB (d0 : Dev nD) (j : Fin 7) : ∀ a, offOutB d0 (wd j) a + S1x64x1024.size a ≤ S1x512x1024.size a := by
  intro a; have := Nat.mod_lt (d0.val + (7 - j.val)) (show 0 < 8 by decide)
  match a with
  | 0 => exact le_refl 1
  | 1 => show (Scalar.muli (bwdW d0 (wd j)) 64#32).toNat + 64 ≤ 512; rw [bwd_eq]; omega
  | 2 => exact le_refl 1024

/-- A block of a slot: slot `j`, all 64 rows, columns from `col`. -/
abbrev offSlot (j : Fin 7) (col : ℕ) : Fin 3 → ℕ := ![j.val, 0, col]

theorem inbSlot {n w : ℕ} (j : Fin 7) (col : ℕ) (h : col + n ≤ w) :
    ∀ a, offSlot j col a + (![1, 64, n] : Fin 3 → ℕ) a ≤ (![7, 64, w] : Fin 3 → ℕ) a := by
  intro a; have := j.isLt
  match a with
  | 0 => show j.val + 1 ≤ 7; omega
  | 1 => exact le_refl 64
  | 2 => exact h

theorem colLe (h : Fin 8) : 128 * h.val + 128 ≤ 1024 := by omega
theorem colLe' (h : Fin 8) : 128 * h.val + 128 ≤ 1152 := by omega
theorem colLe1 (h : Fin 8) : 1024 + h.val + 1 ≤ 1152 := by omega

/-- The block of slot `j` and head `h`. -/
abbrev rSlot (j : Fin 7) (h : Fin 8) : Rect S7x64x1024 :=
  Rect.unit (s := S7x64x1024) (offSlot j (128 * h.val)) S1x64x128.size (inbSlot j _ (colLe h))

/-- The whole slot `j`. -/
abbrev rSlotAll (j : Fin 7) : Rect S7x64x1024 :=
  Rect.unit (s := S7x64x1024) (offSlot j 0) S1x64x1024.size (inbSlot j 0 (le_refl 1024))

/-- The slot `j` of the sums' buffer, and its first eight columns. -/
abbrev rMl (j : Fin 7) : Rect S7x64x128 :=
  Rect.unit (s := S7x64x128) (offSlot j 0) S1x64x128.size (inbSlot j 0 (le_refl 128))
abbrev rMl8 (j : Fin 7) : Rect S7x64x128 :=
  Rect.unit (s := S7x64x128) (offSlot j 0) S1x64x8.size (inbSlot (n := 8) j 0 (by omega))

theorem packedSlot (j : Fin 7) (h : Fin 8) : (rSlot j h).PackedRows (EltTy.packing .bf16) :=
  .inr ⟨by decide, rfl, .inl ⟨⟨0, rfl⟩, ⟨32, rfl⟩⟩⟩
theorem wordsSlot (j : Fin 7) (h : Fin 8) : (rSlot j h).WholeWords (EltTy.packing .bf16) := (packedSlot j h).wholeWords
theorem packedSlotAll (j : Fin 7) : (rSlotAll j).PackedRows (EltTy.packing .bf16) :=
  .inr ⟨by decide, rfl, .inl ⟨⟨0, rfl⟩, ⟨32, rfl⟩⟩⟩
theorem wordsSlotAll (j : Fin 7) : (rSlotAll j).WholeWords (EltTy.packing .bf16) := (packedSlotAll j).wholeWords

/-- A tile of the accumulator: `n` columns from `col` of the rows `j + 1` places ahead, or of the own rows. -/
abbrev rFwd (d0 : Dev nD) (j : Fin 7) (h : Fin 8) : Rect S512x1152 :=
  Rect.unit (s := S512x1152) (offFwd d0 (wd j) (128 * h.val)) S64x128.size (inbFwd d0 j _ (colLe' h))
abbrev rFwdMl (d0 : Dev nD) (j : Fin 7) : Rect S512x1152 :=
  Rect.unit (s := S512x1152) (offFwd d0 (wd j) 1024) S64x128.size (inbFwd d0 j 1024 (le_refl 1152))
abbrev rMe (d0 : Dev nD) (h : Fin 8) : Rect S512x1152 :=
  Rect.unit (s := S512x1152) (offMe d0 (128 * h.val)) S64x128.size (inbMe d0 _ (colLe' h))
abbrev rMe1 (d0 : Dev nD) (h : Fin 8) : Rect S512x1152 :=
  Rect.unit (s := S512x1152) (offMe d0 (1024 + h.val)) S64x1.size (inbMe d0 _ (colLe1 h))
abbrev rMe8 (d0 : Dev nD) : Rect S512x1152 :=
  Rect.unit (s := S512x1152) (offMe d0 1024) S64x8.size (inbMe (n := 8) d0 1024 (by omega))
abbrev rMeAll (d0 : Dev nD) : Rect S512x1152 :=
  Rect.unit (s := S512x1152) (offMe d0 0) S64x1024.size (inbMe (n := 1024) d0 0 (by omega))
abbrev rOut (d0 : Dev nD) : Rect S1x512x1024 :=
  Rect.unit (s := S1x512x1024) (offOut d0) S1x64x1024.size (inbOut d0)
abbrev rOutB (d0 : Dev nD) (j : Fin 7) : Rect S1x512x1024 :=
  Rect.unit (s := S1x512x1024) (offOutB d0 (wd j)) S1x64x1024.size (inbOutB d0 j)

theorem inbCol {n : ℕ} {m : ℕ} (col : ℕ) (h : col + n ≤ m) :
    ∀ a, (![0, col] : Fin 2 → ℕ) a + (![512, n] : Fin 2 → ℕ) a ≤ (![512, m] : Fin 2 → ℕ) a := by
  intro a
  match a with
  | 0 => exact le_refl 512
  | 1 => exact h

/-- Head `h`'s columns of the scaled queries and of the accumulator, and its column of sums. -/
abbrev rQ (h : Fin 8) : Rect S512x1024 :=
  Rect.unit (s := S512x1024) ![0, 128 * h.val] S512x128.size (inbCol _ (colLe h))
abbrev rU (h : Fin 8) : Rect S512x1152 :=
  Rect.unit (s := S512x1152) ![0, 128 * h.val] S512x128.size (inbCol _ (colLe' h))
abbrev rL (h : Fin 8) : Rect S512x1152 :=
  Rect.unit (s := S512x1152) ![0, 1024 + h.val] S512x1.size (inbCol _ (colLe1 h))

/-- Chunk `t` of the keys at head `h`'s columns. -/
def offKV (t : Fin k0_t1_loop.trips) (h : Fin 8) : Fin 2 → ℕ :=
  ![(Scalar.muli (Scf.iv 0#32 1#32 t) 1024#32).toNat, 128 * h.val]
theorem iv_eq : ∀ t : Fin k0_t1_loop.trips, (Scalar.muli (Scf.iv 0#32 1#32 t) 1024#32).toNat = 1024 * t.val := by decide
theorem trips_eq : k0_t1_loop.trips = 2 := by decide
theorem inbKV (t : Fin k0_t1_loop.trips) (h : Fin 8) : ∀ a, offKV t h a + S1024x128.size a ≤ S2048x1024.size a := by
  intro a
  match a with
  | 0 =>
    show (Scalar.muli (Scf.iv 0#32 1#32 t) 1024#32).toNat + 1024 ≤ 2048
    have := lt_of_lt_of_eq t.isLt trips_eq; rw [iv_eq]; omega
  | 1 => exact colLe h
abbrev rKV (t : Fin k0_t1_loop.trips) (h : Fin 8) : Rect S2048x1024 :=
  Rect.unit (s := S2048x1024) (offKV t h) S1024x128.size (inbKV t h)

/-! ## Semaphores -/

theorem inbS2 (j : Fin 7) (h : Fin 8) : ∀ a, (![j.val, h.val] : Fin 2 → ℕ) a + S1x1.size a ≤ S7x8.size a := by
  intro a
  match a with
  | 0 => exact j.isLt
  | 1 => exact h.isLt
theorem inbS1 (j : Fin 7) : ∀ a, (![j.val] : Fin 1 → ℕ) a + S1.size a ≤ S7.size a := by
  intro a
  match a with
  | 0 => exact j.isLt

/-- Semaphore `(j, h)` of a table, and semaphore `j` of a row. -/
def sem2 (s : DmaSems sig S7x8) (j : Fin 7) (h : Fin 8) : DmaSem sig :=
  ((s.slice (Rect.unit (s := S7x8) ![j.val, h.val] S1x1.size (inbS2 j h))).squeeze S_ squeezes_S1x1_S_).sem
def sem1 (s : DmaSems sig S7) (j : Fin 7) : DmaSem sig :=
  ((s.slice (Rect.unit (s := S7) ![j.val] S1.size (inbS1 j))).squeeze S_ squeezes_S1_S_).sem

abbrev barS : Sem sig := (SemArray.scalar (sig.barrier 0 rfl) : Sems sig S_).sem

/-! ## Slots as matrices -/

/-- Slot `j` at head `h`'s columns, as a matrix. -/
def tile (m : Memref sig .tc .vmem S7x64x1024 .bf16) (j : Fin 7) (h : Fin 8) : Memref sig .tc .vmem S64x128 .bf16 :=
  (m.slice (rSlot j h) (fun _ => rfl)).squeeze S64x128 squeezes_S1x64x128_S64x128
/-- Slot `j`, as a matrix. -/
def slot (m : Memref sig .tc .vmem S7x64x1024 .bf16) (j : Fin 7) : Memref sig .tc .vmem S64x1024 .bf16 :=
  (m.slice (rSlotAll j) (fun _ => rfl)).squeeze S64x1024 squeezes_S1x64x1024_S64x1024
/-- Slot `j` of the sums' buffer, as a matrix. -/
def slotMl (j : Fin 7) : Memref sig .tc .vmem S64x128 .f32 :=
  (bMl.slice (rMl j) (fun _ => rfl)).squeeze S64x128 squeezes_S1x64x128_S64x128
/-- The tile of sums of the rows `j + 1` places ahead. -/
def tileMl (d0 : Dev nD) (j : Fin 7) : Memref sig .tc .vmem S64x128 .f32 := bAcc.slice (rFwdMl d0 j) (fun _ => rfl)

theorem tile_words (m : Memref sig .tc .vmem S7x64x1024 .bf16) (hm : m.IsWhole) (j : Fin 7) (h : Fin 8) :
    (tile m j h).view.WordExact := (hm.wordExact_slice rfl _ (wordsSlot j h)).reshape _ _
theorem slot_words (m : Memref sig .tc .vmem S7x64x1024 .bf16) (hm : m.IsWhole) (j : Fin 7) :
    (slot m j).view.WordExact := (hm.wordExact_slice rfl _ (wordsSlotAll j)).reshape _ _
theorem slotMl_words (j : Fin 7) : (slotMl j).view.WordExact := (View.wordExact_bits rfl).reshape _ _
theorem tileMl_words (d0 : Dev nD) (j : Fin 7) : (tileMl d0 j).view.WordExact := View.wordExact_bits rfl

/-! ## The steps -/

/-- Signal the barrier of the device `j + 1` places ahead. -/
def pSignal (d0 : Dev nD) (j : Fin 7) : BP F PUnit := semSignalWord (⟨devN d0 (wd j), devN_lt d0 j⟩ : Dev nD) barS 1#32

/-- The scaled queries. -/
def pQ : BP F PUnit := do
  let x : Vec F S512x1024 .bf16 ← Prog.lift (.load bX (Rect.unit (s := S512x1024) ![0, 0] S512x1024.size inb_S512x1024_S512x1024_0_0).toLoadRect (View.loadsAt_vmem h_S512x1024))
  let wq : Vec F S1024x1024 .bf16 ← Prog.lift (.load bWq (Rect.unit (s := S1024x1024) ![0, 0] S1024x1024.size inb_S1024x1024_S1024x1024_0_0).toLoadRect (View.loadsAt_vmem h_S1024x1024))
  let _q : Vec F S512x1024 .bf16 ← Prog.lift (.load bQ (Rect.unit (s := S512x1024) ![0, 0] S512x1024.size inb_S512x1024_S512x1024_0_0).toLoadRect (View.loadsAt_vmem h_S512x1024))
  Prog.lift (.store bQ (Rect.unit (s := S512x1024) ![0, 0] S512x1024.size inb_S512x1024_S512x1024_0_0) (k0_pay1 x wq) Finset.univ (View.stores_vmem h_S512x1024 ((Memref.isWhole_whole cc0_scratch0).storeExact_slice rfl _ packedbf16_S512x1024_S512x1024_0_0) (fun _ => rfl)) (.inl rfl))

/-- One chunk of 1024 keys of head `h`: the running sums with the chunk's terms added. -/
def pChunk (h : Fin 8) (q : Vec F S512x128 .bf16) (t : Fin k0_t1_loop.trips) (s : FVec F S512x1 .f32 × FVec F S512x128 .f32) :
    BP F (FVec F S512x1 .f32 × FVec F S512x128 .f32) := do
  let k : Vec F S1024x128 .bf16 ← Prog.lift (.load bK (rKV t h).toLoadRect (View.loadsAt_vmem h_S1024x128))
  let v : Vec F S1024x128 .bf16 ← Prog.lift (.load bV (rKV t h).toLoadRect (View.loadsAt_vmem h_S1024x128))
  .ret (k0_pay5 q s.1 k, k0_pay6 q s.2 k v)

/-- Head `h` over the device's own keys, its sums left in the accumulator. -/
def pHead (h : Fin 8) : BP F PUnit := do
  let q : Vec F S512x128 .bf16 ← Prog.lift (.load bQ (rQ h).toLoadRect (View.loadsAt_vmem h_S512x128))
  let a ← pChunk h q ⟨0, by decide⟩ (k0_pay2 (F := F), k0_pay3 (F := F))
  let s ← pChunk h q ⟨1, by decide⟩ a
  let _u : Vec F S512x128 .f32 ← Prog.lift (.load bAcc (rU h).toLoadRect (View.loadsAt_vmem h_S512x128))
  Prog.lift (.store bAcc (rU h) (k0_pay7 s.2) Finset.univ (View.stores_vmem_bits_univ h_S512x128 rfl) (.inl rfl))
  let _l : Vec F S512x1 .f32 ← Prog.lift (.load bAcc (rL h).toLoadRect (View.loadsAt_vmem h_S512x1))
  Prog.lift (.store bAcc (rL h) (k0_pay8 s.1) Finset.univ (View.stores_vmem_bits_univ h_S512x1 rfl) (.inl rfl))

/-- Copy head `h`'s tile of the rows `j + 1` places ahead to the device there. -/
def pSend (d0 : Dev nD) (h : Fin 8) (j : Fin 7) : BP F PUnit := do
  let u : Vec F S64x128 .f32 ← Prog.lift (.load bAcc (rFwd d0 j h).toLoadRect (View.loadsAt_vmem h_S64x128))
  let _o : Vec F S1x64x128 .bf16 ← Prog.lift (.load bSnd (rSlot j h).toLoadRect (View.loadsAt_vmem h_S1x64x128))
  Prog.lift (.store bSnd (rSlot j h) (k0_pay9 u) Finset.univ (View.stores_vmem h_S1x64x128 ((Memref.isWhole_whole cc0_scratch2).storeExact_slice rfl _ (packedSlot j h)) (fun _ => rfl)) (.inl rfl))
  Prog.lift (.enqueueDma (tile bSnd j h) (.remote (Dev.tc (⟨devN d0 (wd j), devN_lt d0 j⟩ : Dev nD)) (tile bRcv j h) (.dma (sem2 cc0_scratch7 j h))) (.dma (sem2 cc0_scratch8 j h)) (tile_words bSnd (Memref.isWhole_whole _) j h) (tile_words bRcv (Memref.isWhole_whole _) j h) ⟨⟨rfl, Or.inl rfl⟩, trivial⟩)

/-- The tile received in slot `j`, added to head `h`'s own tile. -/
def payMerge (u : Vec F S64x128 .f32) (r : Vec F S1x64x128 .bf16) : FVec F S64x128 .f32 :=
  shapeCast S64x128 (addf u (extf .f32 (shapeCast S64x128 r shapeCasts_S1x64x128_S64x128) bitsLt_bf16_f32)) shapeCasts_S64x128_S64x128

/-- Wait for head `h`'s tile in slot `j` and add it to the own tile. -/
def pMerge (d0 : Dev nD) (h : Fin 8) (j : Fin 7) : BP F PUnit := do
  Prog.lift (.waitDma2 (sem2 cc0_scratch8 j h) (tile bSnd j h) (tile bRcv j h) (tile_words bSnd (Memref.isWhole_whole _) j h) (tile_words bRcv (Memref.isWhole_whole _) j h))
  let u : Vec F S64x128 .f32 ← Prog.lift (.load bAcc (rMe d0 h).toLoadRect (View.loadsAt_vmem h_S64x128))
  let r : Vec F S1x64x128 .bf16 ← Prog.lift (.load bRcv (rSlot j h).toLoadRect (View.loadsAt_vmem h_S1x64x128))
  let _u : Vec F S64x128 .f32 ← Prog.lift (.load bAcc (rMe d0 h).toLoadRect (View.loadsAt_vmem h_S64x128))
  Prog.lift (.store bAcc (rMe d0 h) (payMerge u r) Finset.univ (View.stores_vmem_bits_univ h_S64x128 rfl) (.inl rfl))

/-- Copy the sums of the rows `j + 1` places ahead to the device there. -/
def pSendMl (d0 : Dev nD) (j : Fin 7) : BP F PUnit :=
  Prog.lift (.enqueueDma (tileMl d0 j) (.remote (Dev.tc (⟨devN d0 (wd j), devN_lt d0 j⟩ : Dev nD)) (slotMl j) (.dma (sem1 cc0_scratch9 j))) (.dma (sem1 cc0_scratch10 j)) (tileMl_words d0 j) (slotMl_words j) ⟨⟨rfl, Or.inl rfl⟩, trivial⟩)

/-- Wait for the sums in slot `j` and add them to the own sums. -/
def pMergeMl (d0 : Dev nD) (j : Fin 7) : BP F PUnit := do
  Prog.lift (.waitDma2 (sem1 cc0_scratch10 j) (tileMl d0 j) (slotMl j) (tileMl_words d0 j) (slotMl_words j))
  let l : Vec F S64x8 .f32 ← Prog.lift (.load bAcc (rMe8 d0).toLoadRect (View.loadsAt_vmem h_S64x8))
  let r : Vec F S1x64x8 .f32 ← Prog.lift (.load bMl (rMl8 j).toLoadRect (View.loadsAt_vmem h_S1x64x8))
  let _l : Vec F S64x8 .f32 ← Prog.lift (.load bAcc (rMe8 d0).toLoadRect (View.loadsAt_vmem h_S64x8))
  Prog.lift (.store bAcc (rMe8 d0) (k0_pay181 l r) Finset.univ (View.stores_vmem_bits_univ h_S64x8 rfl) (.inl rfl))

/-- Divide head `h`'s own tile by its sums. -/
def pDiv (d0 : Dev nD) (h : Fin 8) : BP F PUnit := do
  let u : Vec F S64x128 .f32 ← Prog.lift (.load bAcc (rMe d0 h).toLoadRect (View.loadsAt_vmem h_S64x128))
  let l : Vec F S64x1 .f32 ← Prog.lift (.load bAcc (rMe1 d0 h).toLoadRect (View.loadsAt_vmem h_S64x1))
  let _u : Vec F S64x128 .f32 ← Prog.lift (.load bAcc (rMe d0 h).toLoadRect (View.loadsAt_vmem h_S64x128))
  Prog.lift (.store bAcc (rMe d0 h) (k0_pay188 u l) Finset.univ (View.stores_vmem_bits_univ h_S64x128 rfl) (.inl rfl))

/-- Project the own tile into the result, and keep it rounded for the copies. -/
def pProj (d0 : Dev nD) : BP F PUnit := do
  let a : Vec F S64x1024 .f32 ← Prog.lift (.load bAcc (rMeAll d0).toLoadRect (View.loadsAt_vmem h_S64x1024))
  let wo : Vec F S1024x1024 .f32 ← Prog.lift (.load bWo (Rect.unit (s := S1024x1024) ![0, 0] S1024x1024.size inb_S1024x1024_S1024x1024_0_0).toLoadRect (View.loadsAt_vmem h_S1024x1024))
  let _o : Vec F S1x64x1024 .f32 ← Prog.lift (.load bOut (rOut d0).toLoadRect (View.loadsAt_vmem h_S1x64x1024))
  Prog.lift (.store bOut (rOut d0) (k0_pay196 a wo) Finset.univ (View.stores_vmem_bits_univ h_S1x64x1024 rfl) (.inl rfl))
  let o : Vec F S1x64x1024 .f32 ← Prog.lift (.load bOut (rOut d0).toLoadRect (View.loadsAt_vmem h_S1x64x1024))
  let _b : Vec F S64x1024 .bf16 ← Prog.lift (.load bO (Rect.unit (s := S64x1024) ![0, 0] S64x1024.size inb_S64x1024_S64x1024_0_0).toLoadRect (View.loadsAt_vmem h_S64x1024))
  Prog.lift (.store bO (Rect.unit (s := S64x1024) ![0, 0] S64x1024.size inb_S64x1024_S64x1024_0_0) (k0_pay197 o) Finset.univ (View.stores_vmem h_S64x1024 ((Memref.isWhole_whole cc0_scratch5).storeExact_slice rfl _ packedbf16_S64x1024_S64x1024_0_0) (fun _ => rfl)) (.inl rfl))

/-- Copy the own tile of the result to the device `j + 1` places ahead. -/
def pSendAg (d0 : Dev nD) (j : Fin 7) : BP F PUnit :=
  Prog.lift (.enqueueDma bO (.remote (Dev.tc (⟨devN d0 (wd j), devN_lt d0 j⟩ : Dev nD)) (slot bAg j) (.dma (sem1 cc0_scratch11 j))) (.dma (sem1 cc0_scratch12 j)) (Memref.isWhole_whole cc0_scratch5).wordExact (slot_words bAg (Memref.isWhole_whole _) j) ⟨⟨rfl, Or.inl rfl⟩, trivial⟩)

/-- Wait until head `h`'s copy to the device `j + 1` places ahead has been read. -/
def pSent (h : Fin 8) (j : Fin 7) : BP F PUnit :=
  Prog.lift (.waitDma2 (sem2 cc0_scratch7 j h) (tile bRcv j h) (tile bSnd j h) (tile_words bRcv (Memref.isWhole_whole _) j h) (tile_words bSnd (Memref.isWhole_whole _) j h))

/-- Wait until the copy of the sums to the device `j + 1` places ahead has been read. -/
def pSentMl (d0 : Dev nD) (j : Fin 7) : BP F PUnit :=
  Prog.lift (.waitDma2 (sem1 cc0_scratch9 j) (slotMl j) (tileMl d0 j) (slotMl_words j) (tileMl_words d0 j))

/-- Wait for the tile of the result in slot `j` and put it in its rows of the result. -/
def pGather (d0 : Dev nD) (j : Fin 7) : BP F PUnit := do
  Prog.lift (.waitDma2 (sem1 cc0_scratch12 j) bO (slot bAg j) (Memref.isWhole_whole cc0_scratch5).wordExact (slot_words bAg (Memref.isWhole_whole _) j))
  let g : Vec F S1x64x1024 .bf16 ← Prog.lift (.load bAg (rSlotAll j).toLoadRect (View.loadsAt_vmem h_S1x64x1024))
  let _o : Vec F S1x64x1024 .f32 ← Prog.lift (.load bOut (rOutB d0 j).toLoadRect (View.loadsAt_vmem h_S1x64x1024))
  Prog.lift (.store bOut (rOutB d0 j) (k0_pay198 g) Finset.univ (View.stores_vmem_bits_univ h_S1x64x1024 rfl) (.inl rfl))

/-- Wait until the copy of the result to the device `j + 1` places ahead has been read. -/
def pSentAg (j : Fin 7) : BP F PUnit :=
  Prog.lift (.waitDma2 (sem1 cc0_scratch11 j) (slot bAg j) bO (slot_words bAg (Memref.isWhole_whole _) j) (Memref.isWhole_whole cc0_scratch5).wordExact)

/-- The heads after the second: each head's own keys, its copies, and the merge of the head two before it. -/
def pRound (d0 : Dev nD) (g : Fin 6) : BP F PUnit := do
  pHead ⟨g.val + 2, by omega⟩
  steps 7 (pSend d0 ⟨g.val + 2, by omega⟩)
  steps 7 (pMerge d0 ⟨g.val, by omega⟩)

/-- The body on device `d0`. -/
def pBody (d0 : Dev nD) : BP F PUnit := do
  steps 7 (pSignal d0)
  pQ
  pHead 0
  semWaitWord barS 7#32
  steps 7 (pSend d0 0)
  pHead 1
  steps 7 (pSend d0 1)
  steps 6 (pRound d0)
  steps 7 (pSendMl d0)
  steps 7 (pMerge d0 6)
  steps 7 (pMerge d0 7)
  steps 7 (pMergeMl d0)
  steps 8 (pDiv d0)
  pProj d0
  steps 7 (pSendAg d0)
  steps 8 (fun h => steps 7 (pSent h))
  steps 7 (pSentMl d0)
  steps 7 (pGather d0)
  steps 7 pSentAg

/-- The body: read the device's number, then run. -/
def pKernel : BP F PUnit := Prog.op .deviceId pBody

/-- A counted loop is its trips in order. -/
theorem loop_eq : @Scf.Loop.for = fun w E σ l hok init body => Scf.forFrom body (List.finRange l.trips) init := by
  funext w E σ l hok init body
  exact Scf.for_eq ..

theorem body_eq : cc0_body (F := F) (win0_0.stage 0) (hstage0_0 0) (win0_1.stage 0) (hstage0_1 0) (win0_2.stage 0) (hstage0_2 0) (win0_3.stage 0) (hstage0_3 0) (win0_4.stage 0) (hstage0_4 0) (win0_5.stage 0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12
    = pKernel := by
  delta cc0_body k0_part112 k0_part2 k0_part7 k0_part13 k0_part22 k0_part31 k0_part41 k0_part50 k0_part60
  rw [loop_eq]
  chain_rfl

end Cert.KernelIdeal.Own
-- ==== Proof.Vals.lean ====
/-
  What each device computes, as functions of the arrays the devices start from: the scaled queries, each head's sums over
  the device's own keys, the tiles sent, the sums after `n` received tiles have been added, the quotients, the
  projected tile, its rounding, and the result. Then what the accumulator and the result hold from step to step.
-/
module

public import proofs.«01_k».proof.Proof.Body
public import Idealize.ShloMosaic.Lib.ValueIdx
public import Idealize.ShloMosaic.Lib.Memref

@[expose] public section

noncomputable section

namespace Cert.KernelIdeal.Own

open Idealize.ShloMosaic Idealize.SL.Sem Cert.KernelIdeal.Gen Idealize.ShloMosaic.ValueIdx

variable {F : FTy → Type} [FloatOps F]

/-! ## Reading an array at two or three numbers -/

section Num
variable {α : Type}

/-- The element at row `r` and column `q`. -/
def n2 {a b : ℕ} [NeZero a] [NeZero b] (X : (⟨2, ![a, b]⟩ : Shape).Idx → α) (r q : ℕ) : α :=
  X (ix2 (Fin.ofNat a r) (Fin.ofNat b q))
/-- The element at `p`, row `r` and column `q`. -/
def n3 {z a b : ℕ} [NeZero z] [NeZero a] [NeZero b] (X : (⟨3, ![z, a, b]⟩ : Shape).Idx → α) (p r q : ℕ) : α :=
  X (ix3 (Fin.ofNat z p) (Fin.ofNat a r) (Fin.ofNat b q))

theorem ofNat_self {a : ℕ} [NeZero a] (x : Fin a) : Fin.ofNat a x.val = x := Fin.ext (Nat.mod_eq_of_lt x.isLt)

theorem n2_idx {a b : ℕ} [NeZero a] [NeZero b] (X : (⟨2, ![a, b]⟩ : Shape).Idx → α) (x : (⟨2, ![a, b]⟩ : Shape).Idx) :
    n2 X (x 0).val (x 1).val = X x := by
  conv_rhs => rw [eq_ix2 x]
  unfold n2; congr 2 <;> exact ofNat_self _
theorem n3_idx {z a b : ℕ} [NeZero z] [NeZero a] [NeZero b] (X : (⟨3, ![z, a, b]⟩ : Shape).Idx → α) (x : (⟨3, ![z, a, b]⟩ : Shape).Idx) :
    n3 X (x 0).val (x 1).val (x 2).val = X x := by
  conv_rhs => rw [eq_ix3 x]
  unfold n3; congr 2 <;> exact ofNat_self _

theorem n2_ext {a b : ℕ} [NeZero a] [NeZero b] {X Y : (⟨2, ![a, b]⟩ : Shape).Idx → α}
    (h : ∀ r < a, ∀ q < b, n2 X r q = n2 Y r q) : X = Y :=
  funext fun x => by rw [← n2_idx X x, ← n2_idx Y x]; exact h _ (x 0).isLt _ (x 1).isLt
theorem n3_ext {a b : ℕ} [NeZero a] [NeZero b] {X Y : (⟨3, ![1, a, b]⟩ : Shape).Idx → α}
    (h : ∀ r < a, ∀ q < b, n3 X 0 r q = n3 Y 0 r q) : X = Y :=
  funext fun x => by
    rw [← n3_idx X x, ← n3_idx Y x, show (x 0).val = 0 from Nat.lt_one_iff.mp (x 0).isLt]
    exact h _ (x 1).isLt _ (x 2).isLt

variable {a b z n0 n1 nz : ℕ} [NeZero a] [NeZero b] [NeZero z] [NeZero n0] [NeZero n1] [NeZero nz]

/-- An array given by its coordinates, read at two numbers in range. -/
theorem n2_mk (f : ℕ → ℕ → α) {r q : ℕ} (hr : r < a) (hq : q < b) :
    n2 (fun x : (⟨2, ![a, b]⟩ : Shape).Idx => f (x 0).val (x 1).val) r q = f r q := by
  show f (r % a) (q % b) = _; rw [Nat.mod_eq_of_lt hr, Nat.mod_eq_of_lt hq]
theorem n3_mk (f : ℕ → ℕ → ℕ → α) {p r q : ℕ} (hp : p < z) (hr : r < a) (hq : q < b) :
    n3 (fun x : (⟨3, ![z, a, b]⟩ : Shape).Idx => f (x 0).val (x 1).val (x 2).val) p r q = f p r q := by
  show f (p % z) (r % a) (q % b) = _; rw [Nat.mod_eq_of_lt hp, Nat.mod_eq_of_lt hr, Nat.mod_eq_of_lt hq]

theorem n2_rect (f : (⟨2, ![a, b]⟩ : Shape).Idx → α) (off : Fin 2 → ℕ)
    (inb : ∀ x, off x + (![n0, n1] : Fin 2 → ℕ) x ≤ (⟨2, ![a, b]⟩ : Shape).size x) {i k : ℕ} (hi : i < n0) (hk : k < n1) :
    n2 (fun x : (⟨2, ![n0, n1]⟩ : Shape).Idx => f ((Rect.unit (s := ⟨2, ![a, b]⟩) off ![n0, n1] inb).emb x)) i k = n2 f (off 0 + i) (off 1 + k) := by
  have h0 := inb 0; have h1 := inb 1
  change off 0 + n0 ≤ a at h0; change off 1 + n1 ≤ b at h1
  refine (n2_idx f _).symm.trans ?_
  congr 1
  · show off 0 + 1 * (i % n0) = _; rw [Nat.mod_eq_of_lt hi]; omega
  · show off 1 + 1 * (k % n1) = _; rw [Nat.mod_eq_of_lt hk]; omega

theorem n3_rect (f : (⟨3, ![z, a, b]⟩ : Shape).Idx → α) (off : Fin 3 → ℕ)
    (inb : ∀ x, off x + (![nz, n0, n1] : Fin 3 → ℕ) x ≤ (⟨3, ![z, a, b]⟩ : Shape).size x) {p i k : ℕ} (hp : p < nz) (hi : i < n0) (hk : k < n1) :
    n3 (fun x : (⟨3, ![nz, n0, n1]⟩ : Shape).Idx => f ((Rect.unit (s := ⟨3, ![z, a, b]⟩) off ![nz, n0, n1] inb).emb x)) p i k
      = n3 f (off 0 + p) (off 1 + i) (off 2 + k) := by
  have h0 := inb 0; have h1 := inb 1; have h2 := inb 2
  change off 0 + nz ≤ z at h0; change off 1 + n0 ≤ a at h1; change off 2 + n1 ≤ b at h2
  refine (n3_idx f _).symm.trans ?_
  congr 1
  · show off 0 + 1 * (p % nz) = _; rw [Nat.mod_eq_of_lt hp]; omega
  · show off 1 + 1 * (i % n0) = _; rw [Nat.mod_eq_of_lt hi]; omega
  · show off 2 + 1 * (k % n1) = _; rw [Nat.mod_eq_of_lt hk]; omega

theorem n2_overlay_in (f : (⟨2, ![a, b]⟩ : Shape).Idx → α) (off : Fin 2 → ℕ)
    (inb : ∀ x, off x + (![n0, n1] : Fin 2 → ℕ) x ≤ (⟨2, ![a, b]⟩ : Shape).size x) (w : (⟨2, ![n0, n1]⟩ : Shape).Idx → α)
    {r q i k : ℕ} (hr : r = off 0 + i) (hq : q = off 1 + k) (hi : i < n0) (hk : k < n1) :
    n2 ((Rect.unit (s := ⟨2, ![a, b]⟩) off ![n0, n1] inb).overlay f w) r q = n2 w i k := by
  have h := n2_rect ((Rect.unit (s := ⟨2, ![a, b]⟩) off ![n0, n1] inb).overlay f w) off inb hi hk
  rw [hr, hq, ← h]; unfold n2; exact Rect.overlay_emb _ _ _ _

theorem n2_overlay_out (f : (⟨2, ![a, b]⟩ : Shape).Idx → α) (off : Fin 2 → ℕ)
    (inb : ∀ x, off x + (![n0, n1] : Fin 2 → ℕ) x ≤ (⟨2, ![a, b]⟩ : Shape).size x) (w : (⟨2, ![n0, n1]⟩ : Shape).Idx → α)
    {r q : ℕ} (hr : r < a) (hq : q < b) (h : r < off 0 ∨ off 0 + n0 ≤ r ∨ q < off 1 ∨ off 1 + n1 ≤ q) :
    n2 ((Rect.unit (s := ⟨2, ![a, b]⟩) off ![n0, n1] inb).overlay f w) r q = n2 f r q := by
  unfold n2; apply Rect.overlay_of_not_mem
  rw [show ((Rect.unit (s := ⟨2, ![a, b]⟩) off ![n0, n1] inb).set) = _ from rfl, Rect.mem_set_unit]
  intro hm
  have h0 := hm 0; have h1 := hm 1
  change off 0 ≤ r % a ∧ r % a < off 0 + n0 at h0; change off 1 ≤ q % b ∧ q % b < off 1 + n1 at h1
  rw [Nat.mod_eq_of_lt hr] at h0; rw [Nat.mod_eq_of_lt hq] at h1
  omega

theorem n3_overlay_in (f : (⟨3, ![z, a, b]⟩ : Shape).Idx → α) (off : Fin 3 → ℕ)
    (inb : ∀ x, off x + (![nz, n0, n1] : Fin 3 → ℕ) x ≤ (⟨3, ![z, a, b]⟩ : Shape).size x) (w : (⟨3, ![nz, n0, n1]⟩ : Shape).Idx → α)
    {p r q i k l : ℕ} (hp : p = off 0 + l) (hr : r = off 1 + i) (hq : q = off 2 + k) (hl : l < nz) (hi : i < n0) (hk : k < n1) :
    n3 ((Rect.unit (s := ⟨3, ![z, a, b]⟩) off ![nz, n0, n1] inb).overlay f w) p r q = n3 w l i k := by
  have h := n3_rect ((Rect.unit (s := ⟨3, ![z, a, b]⟩) off ![nz, n0, n1] inb).overlay f w) off inb hl hi hk
  rw [hp, hr, hq, ← h]; unfold n3; exact Rect.overlay_emb _ _ _ _

theorem n3_overlay_out (f : (⟨3, ![z, a, b]⟩ : Shape).Idx → α) (off : Fin 3 → ℕ)
    (inb : ∀ x, off x + (![nz, n0, n1] : Fin 3 → ℕ) x ≤ (⟨3, ![z, a, b]⟩ : Shape).size x) (w : (⟨3, ![nz, n0, n1]⟩ : Shape).Idx → α)
    {p r q : ℕ} (hr : r < a) (h : r < off 1 ∨ off 1 + n0 ≤ r) :
    n3 ((Rect.unit (s := ⟨3, ![z, a, b]⟩) off ![nz, n0, n1] inb).overlay f w) p r q = n3 f p r q := by
  unfold n3; apply Rect.overlay_of_not_mem
  rw [show ((Rect.unit (s := ⟨3, ![z, a, b]⟩) off ![nz, n0, n1] inb).set) = _ from rfl, Rect.mem_set_unit]
  intro hm
  have h1 := hm 1
  change off 1 ≤ r % a ∧ r % a < off 1 + n0 at h1
  rw [Nat.mod_eq_of_lt hr] at h1
  omega

end Num

/-! ## Neighbours -/

/-- The device `j + 1` places ahead, and the device `j + 1` places behind. -/
def pr (c : Dev nD) (j : ℕ) : Dev nD := ⟨(c.val + (j + 1)) % 8, Nat.mod_lt _ (by decide)⟩
def src (c : Dev nD) (j : ℕ) : Dev nD := ⟨(c.val + (7 - j)) % 8, Nat.mod_lt _ (by decide)⟩
/-- The slot the device behind is addressed by. -/
def rev (j : Fin 7) : Fin 7 := ⟨6 - j.val, by omega⟩

theorem dev_eq (d0 : Dev nD) (j : Fin 7) : (⟨devN d0 (wd j), devN_lt d0 j⟩ : Dev nD) = pr d0 j := Fin.ext (devN_eq d0 j)
theorem src_pr : ∀ (c : Dev nD) (j : Fin 7), src (pr c j) j = c := by decide
theorem pr_src : ∀ (c : Dev nD) (j : Fin 7), pr (src c j) j = c := by decide
theorem pr_rev : ∀ (c : Dev nD) (j : Fin 7), pr c (rev j) = src c j := by decide
theorem src_rev : ∀ (c : Dev nD) (j : Fin 7), src c (rev j) = pr c j := by decide
theorem rev_rev : ∀ j : Fin 7, rev (rev j) = j := by decide

/-! ## The values -/

/-- The arrays each device's body starts from. -/
structure Ins (F : FTy → Type) where
  X : Dev nD → S512x1024.Idx → Elt F .bf16
  Wq : Dev nD → S1024x1024.Idx → Elt F .bf16
  Wo : Dev nD → S1024x1024.Idx → Elt F .f32
  K : Dev nD → S2048x1024.Idx → Elt F .bf16
  V : Dev nD → S2048x1024.Idx → Elt F .bf16

variable (I : Ins F)

/-- The scaled queries, and head `h`'s columns of them. -/
def Qv (c : Dev nD) : S512x1024.Idx → Elt F .bf16 := k0_pay1 (I.X c) (I.Wq c)
def Qh (c : Dev nD) (h : Fin 8) : S512x128.Idx → Elt F .bf16 := fun x => Qv I c ((rQ h).emb x)
/-- Chunk `t` of the keys and of the values at head `h`'s columns. -/
def Kc (c : Dev nD) (t : Fin k0_t1_loop.trips) (h : Fin 8) : S1024x128.Idx → Elt F .bf16 := fun x => I.K c ((rKV t h).emb x)
def Vc (c : Dev nD) (t : Fin k0_t1_loop.trips) (h : Fin 8) : S1024x128.Idx → Elt F .bf16 := fun x => I.V c ((rKV t h).emb x)

abbrev t₀ : Fin k0_t1_loop.trips := ⟨0, by decide⟩
abbrev t₁ : Fin k0_t1_loop.trips := ⟨1, by decide⟩

/-- Head `h`'s sums of weights, and of weighted values, over the device's own keys. -/
def Lv (c : Dev nD) (h : Fin 8) : S512x1.Idx → Elt F .f32 :=
  k0_pay8 (k0_pay5 (Qh I c h) (k0_pay5 (Qh I c h) (k0_pay2 (F := F)) (Kc I c t₀ h)) (Kc I c t₁ h))
def Uv (c : Dev nD) (h : Fin 8) : S512x128.Idx → Elt F .f32 :=
  k0_pay7 (k0_pay6 (Qh I c h) (k0_pay6 (Qh I c h) (k0_pay3 (F := F)) (Kc I c t₀ h) (Vc I c t₀ h)) (Kc I c t₁ h) (Vc I c t₁ h))

/-- The tile of rows `p` of head `h`'s weighted values, and as it is sent. -/
def Ut (c : Dev nD) (h : Fin 8) (p : ℕ) : S64x128.Idx → Elt F .f32 := fun x => n2 (Uv I c h) (64 * p + (x 0).val) (x 1).val
def Tl (c : Dev nD) (h : Fin 8) (p : ℕ) : S1x64x128.Idx → Elt F .bf16 := k0_pay9 (Ut I c h p)
/-- The tile of rows `p` of all heads' sums of weights. -/
def Lo (c : Dev nD) (p : ℕ) : S64x8.Idx → Elt F .f32 := fun x => n2 (Lv I c (Fin.ofNat 8 (x 1).val)) (64 * p + (x 0).val) 0
def Lt (c : Dev nD) (p : ℕ) : S1x64x8.Idx → Elt F .f32 := fun x => n2 (Lv I c (Fin.ofNat 8 (x 2).val)) (64 * p + (x 1).val) 0

/-- Head `h`'s own tile after `n` received tiles were added. -/
def Mv (c : Dev nD) (h : Fin 8) : ℕ → S64x128.Idx → Elt F .f32
  | 0 => Ut I c h c.val
  | n + 1 => payMerge (Mv c h n) (Tl I (src c n) h c.val)
/-- The own sums of weights after `n` received tiles were added. -/
def Nv (c : Dev nD) : ℕ → S64x8.Idx → Elt F .f32
  | 0 => Lo I c c.val
  | n + 1 => k0_pay181 (Nv c n) (Lt I (src c n) c.val)

/-- Head `h`'s column of the sums. -/
def col1 (N : S64x8.Idx → Elt F .f32) (h : Fin 8) : S64x1.Idx → Elt F .f32 := fun x => n2 N (x 0).val h.val
/-- The quotients of head `h`, and of all heads side by side. -/
def Dv (c : Dev nD) (h : Fin 8) : S64x128.Idx → Elt F .f32 := k0_pay188 (Mv I c h 7) (col1 (Nv I c 7) h)
def heads (own : Fin 8 → S64x128.Idx → Elt F .f32) : S64x1024.Idx → Elt F .f32 :=
  fun x => n2 (own (Fin.ofNat 8 ((x 1).val / 128))) (x 0).val ((x 1).val % 128)
/-- The projected tile, its rounding, and the rounding as a slot holds it. -/
def Pv (c : Dev nD) : S1x64x1024.Idx → Elt F .f32 := k0_pay196 (heads (Dv I c)) (I.Wo c)
def Bv (c : Dev nD) : S64x1024.Idx → Elt F .bf16 := k0_pay197 (Pv I c)
def Bs (c : Dev nD) : S1x64x1024.Idx → Elt F .bf16 := fun x => n2 (Bv I c) (x 1).val (x 2).val
/-- The result on device `c`: its own rows projected here, the others as they were received. -/
def Ov (c : Dev nD) : S1x512x1024.Idx → Elt F .f32 := fun x =>
  if (x 1).val / 64 = c.val then n3 (Pv I c) 0 ((x 1).val % 64) (x 2).val
  else n3 (k0_pay198 (Bs I (⟨((x 1).val / 64) % 8, Nat.mod_lt _ (by decide)⟩ : Dev nD))) 0 ((x 1).val % 64) (x 2).val

/-! ## The accumulator -/

/-- What the accumulator holds once `hd` heads are in it: the other devices' rows as computed here, the own rows `own`,
    and the own sums `nl`. -/
structure Acc (c : Dev nD) (hd : ℕ) (own : Fin 8 → S64x128.Idx → Elt F .f32) (nl : S64x8.Idx → Elt F .f32)
    (f : S512x1152.Idx → Elt F .f32) : Prop where
  u : ∀ g : Fin 8, g.val < hd → ∀ r < 512, r / 64 ≠ c.val → ∀ d < 128, n2 f r (128 * g.val + d) = n2 (Uv I c g) r d
  m : ∀ g : Fin 8, g.val < hd → ∀ i < 64, ∀ d < 128, n2 f (64 * c.val + i) (128 * g.val + d) = n2 (own g) i d
  l : ∀ g : Fin 8, g.val < hd → ∀ r < 512, r / 64 ≠ c.val → n2 f r (1024 + g.val) = n2 (Lv I c g) r 0
  n : ∀ g : Fin 8, g.val < hd → ∀ i < 64, n2 f (64 * c.val + i) (1024 + g.val) = n2 nl i g.val

variable {I}

theorem Acc.zero (c : Dev nD) (own : Fin 8 → S64x128.Idx → Elt F .f32) (nl : S64x8.Idx → Elt F .f32) (f : S512x1152.Idx → Elt F .f32) :
    Acc I c 0 own nl f :=
  ⟨fun _ h => absurd h (Nat.not_lt_zero _), fun _ h => absurd h (Nat.not_lt_zero _), fun _ h => absurd h (Nat.not_lt_zero _),
    fun _ h => absurd h (Nat.not_lt_zero _)⟩

variable {c : Dev nD} {hd : ℕ} {own : Fin 8 → S64x128.Idx → Elt F .f32} {nl : S64x8.Idx → Elt F .f32} {f : S512x1152.Idx → Elt F .f32}

theorem dev_lt (c : Dev nD) : c.val < 8 := c.isLt

theorem n2_Ut (h : Fin 8) (p : ℕ) {i k : ℕ} (hi : i < 64) (hk : k < 128) : n2 (Ut I c h p) i k = n2 (Uv I c h) (64 * p + i) k :=
  n2_mk (fun i k => n2 (Uv I c h) (64 * p + i) k) hi hk
theorem n2_Lo (p : ℕ) {i : ℕ} (g : Fin 8) (hi : i < 64) : n2 (Lo I c p) i g.val = n2 (Lv I c g) (64 * p + i) 0 := by
  refine (n2_mk (fun i k => n2 (Lv I c (Fin.ofNat 8 k)) (64 * p + i) 0) hi g.isLt).trans ?_
  show n2 (Lv I c (Fin.ofNat 8 g.val)) _ _ = _; rw [ofNat_self]

/-- After a head's sums are stored. -/
theorem Acc.head (A : Acc I c hd own nl f) (h : Fin 8) (hh : h.val = hd) (ho : own h = Ut I c h c.val) (hn : nl = Lo I c c.val) :
    Acc I c (hd + 1) own nl ((rL h).overlay ((rU h).overlay f (Uv I c h)) (Lv I c h)) := by
  have hc := dev_lt c; have hlt := h.isLt
  constructor
  · intro g hg r hr hne d hd'
    have := g.isLt
    rw [n2_overlay_out _ _ _ _ hr (by omega) (Or.inr (Or.inr (Or.inl (show 128 * g.val + d < 1024 + h.val by omega))))]
    by_cases e : g = h
    · subst e; exact n2_overlay_in _ _ _ _ (show r = 0 + r by omega) rfl hr hd'
    · have : g.val ≠ h.val := fun e' => e (Fin.ext e')
      rw [n2_overlay_out _ _ _ _ hr (by omega) (Or.inr (Or.inr (Or.inl (show 128 * g.val + d < 128 * h.val by omega))))]
      exact A.u g (by omega) r hr hne d hd'
  · intro g hg i hi d hd'
    have := g.isLt
    rw [n2_overlay_out _ _ _ _ (by omega) (by omega) (Or.inr (Or.inr (Or.inl (show 128 * g.val + d < 1024 + h.val by omega))))]
    by_cases e : g = h
    · subst e
      rw [ho, n2_Ut _ _ hi hd']
      exact n2_overlay_in _ _ _ _ (show _ = 0 + _ from (Nat.zero_add _).symm) rfl (show 64 * c.val + i < 512 by omega) hd'
    · have : g.val ≠ h.val := fun e' => e (Fin.ext e')
      rw [n2_overlay_out _ _ _ _ (by omega) (by omega) (Or.inr (Or.inr (Or.inl (show 128 * g.val + d < 128 * h.val by omega))))]
      exact A.m g (by omega) i hi d hd'
  · intro g hg r hr hne
    have := g.isLt
    by_cases e : g = h
    · subst e; exact n2_overlay_in _ _ _ _ (show r = 0 + r by omega) (show _ = 1024 + g.val + 0 from rfl) hr (by decide)
    · have : g.val ≠ h.val := fun e' => e (Fin.ext e')
      rw [n2_overlay_out _ _ _ _ hr (by omega) (Or.inr (Or.inr (Or.inl (show 1024 + g.val < 1024 + h.val by omega)))),
        n2_overlay_out _ _ _ _ hr (by omega) (Or.inr (Or.inr (Or.inr (show 128 * h.val + 128 ≤ 1024 + g.val by omega))))]
      exact A.l g (by omega) r hr hne
  · intro g hg i hi
    have := g.isLt
    by_cases e : g = h
    · subst e
      rw [hn, n2_Lo _ _ hi]
      exact n2_overlay_in _ _ _ _ (show _ = 0 + _ from (Nat.zero_add _).symm) (show _ = 1024 + g.val + 0 from rfl) (show 64 * c.val + i < 512 by omega) (by decide)
    · have : g.val ≠ h.val := fun e' => e (Fin.ext e')
      rw [n2_overlay_out _ _ _ _ (by omega) (by omega) (Or.inr (Or.inr (Or.inl (show 1024 + g.val < 1024 + h.val by omega)))),
        n2_overlay_out _ _ _ _ (by omega) (by omega) (Or.inr (Or.inr (Or.inr (show 128 * h.val + 128 ≤ 1024 + g.val by omega))))]
      exact A.n g (by omega) i hi

theorem pr_ne (c : Dev nD) (j : Fin 7) : (pr c j).val ≠ c.val := by
  show (c.val + (j.val + 1)) % 8 ≠ c.val
  have := dev_lt c; omega

theorem offFwd0 (c : Dev nD) (j : Fin 7) (q : ℕ) : offFwd c (wd j) q 0 = 64 * (pr c j).val := fwd_eq c j
theorem offMe0 (c : Dev nD) (q : ℕ) : offMe c q 0 = 64 * c.val := me_eq c

/-- The tile to be sent, read. -/
theorem Acc.fwd (A : Acc I c hd own nl f) (h : Fin 8) (hh : h.val < hd) (j : Fin 7) :
    (fun x : S64x128.Idx => f ((rFwd c j h).emb x)) = Ut I c h (pr c j).val := by
  have := dev_lt (pr c j); have := pr_ne c j
  refine n2_ext fun r hr q hq => ?_
  refine (n2_rect (n0 := 64) (n1 := 128) _ _ _ hr hq).trans ?_
  rw [n2_Ut _ _ hr hq, offFwd0]
  exact A.u h hh _ (by omega) (by omega) q hq

/-- The sums to be sent, read. -/
theorem Acc.fwdMl (A : Acc I c 8 own nl f) (j : Fin 7) (g : Fin 8) {i : ℕ} (hi : i < 64) :
    n2 (fun x : S64x128.Idx => f ((rFwdMl c j).emb x)) i g.val = n2 (Lv I c g) (64 * (pr c j).val + i) 0 := by
  have := dev_lt (pr c j); have := pr_ne c j; have := g.isLt
  refine (n2_rect (n0 := 64) (n1 := 128) _ _ _ hi (by omega)).trans ?_
  rw [offFwd0]
  exact A.l g (by omega) _ (by omega) (by omega)

/-- The own tile, read. -/
theorem Acc.me (A : Acc I c hd own nl f) (h : Fin 8) (hh : h.val < hd) :
    (fun x : S64x128.Idx => f ((rMe c h).emb x)) = own h := by
  refine n2_ext fun r hr q hq => ?_
  refine (n2_rect (n0 := 64) (n1 := 128) _ _ _ hr hq).trans ?_
  rw [offMe0]
  exact A.m h hh r hr q hq

/-- The own sums, read. -/
theorem Acc.me8 (A : Acc I c 8 own nl f) : (fun x : S64x8.Idx => f ((rMe8 c).emb x)) = nl := by
  refine n2_ext fun r hr q hq => ?_
  refine (n2_rect (n0 := 64) (n1 := 8) _ _ _ hr hq).trans ?_
  rw [offMe0]
  exact A.n ⟨q, hq⟩ hq r hr

/-- Head `h`'s column of the own sums, read. -/
theorem Acc.me1 (A : Acc I c 8 own nl f) (h : Fin 8) : (fun x : S64x1.Idx => f ((rMe1 c h).emb x)) = col1 nl h := by
  refine n2_ext fun r hr q hq => ?_
  obtain rfl : q = 0 := by omega
  refine (n2_rect (n0 := 64) (n1 := 1) _ _ _ hr hq).trans ?_
  rw [offMe0]
  refine (A.n h h.isLt r hr).trans ?_
  exact (n2_mk (a := 64) (b := 1) (fun i _ => n2 nl i h.val) hr hq).symm

/-- All the own tiles, read. -/
theorem Acc.meAll (A : Acc I c 8 own nl f) : (fun x : S64x1024.Idx => f ((rMeAll c).emb x)) = heads own := by
  refine n2_ext fun r hr q hq => ?_
  refine (n2_rect (n0 := 64) (n1 := 1024) _ _ _ hr hq).trans ?_
  rw [offMe0]
  have hg : q / 128 < 8 := by omega
  have h := A.m ⟨q / 128, hg⟩ hg r hr (q % 128) (Nat.mod_lt _ (by decide))
  rw [show 128 * (⟨q / 128, hg⟩ : Fin 8).val + q % 128 = 0 + q from by show 128 * (q / 128) + q % 128 = _; omega] at h
  refine h.trans ?_
  refine Eq.trans ?_ (n2_mk (a := 64) (b := 1024) (fun i k => n2 (own (Fin.ofNat 8 (k / 128))) i (k % 128)) hr hq).symm
  rw [show Fin.ofNat 8 (q / 128) = (⟨q / 128, hg⟩ : Fin 8) from Fin.ext (Nat.mod_eq_of_lt hg)]

/-- The own tile of head `h` rewritten. -/
theorem Acc.setMe (A : Acc I c hd own nl f) (h : Fin 8) (w : S64x128.Idx → Elt F .f32) :
    Acc I c hd (Function.update own h w) nl ((rMe c h).overlay f w) := by
  have hc := dev_lt c; have hlt := h.isLt
  constructor
  · intro g hg r hr hne d hd'
    have := g.isLt
    have h0 := offMe0 c (128 * h.val)
    rw [n2_overlay_out _ _ _ _ hr (by omega) (by rw [h0]; omega)]
    exact A.u g hg r hr hne d hd'
  · intro g hg i hi d hd'
    have := g.isLt
    have h0 := offMe0 c (128 * h.val)
    by_cases e : g = h
    · subst e
      rw [Function.update_self]
      exact n2_overlay_in _ _ _ _ (by rw [h0]) rfl hi hd'
    · rw [Function.update_of_ne e]
      have : g.val ≠ h.val := fun e' => e (Fin.ext e')
      rw [n2_overlay_out _ _ _ _ (by omega) (by omega) (Or.inr (Or.inr (show 128 * g.val + d < 128 * h.val ∨ 128 * h.val + 128 ≤ 128 * g.val + d by omega)))]
      exact A.m g hg i hi d hd'
  · intro g hg r hr hne
    have := g.isLt
    rw [n2_overlay_out _ _ _ _ hr (by omega) (Or.inr (Or.inr (Or.inr (show 128 * h.val + 128 ≤ 1024 + g.val by omega))))]
    exact A.l g hg r hr hne
  · intro g hg i hi
    have := g.isLt
    rw [n2_overlay_out _ _ _ _ (by omega) (by omega) (Or.inr (Or.inr (Or.inr (show 128 * h.val + 128 ≤ 1024 + g.val by omega))))]
    exact A.n g hg i hi

/-- The own sums rewritten. -/
theorem Acc.setMe8 (A : Acc I c hd own nl f) (w : S64x8.Idx → Elt F .f32) :
    Acc I c hd own w ((rMe8 c).overlay f w) := by
  have hc := dev_lt c
  constructor
  · intro g hg r hr hne d hd'
    have := g.isLt
    rw [n2_overlay_out _ _ _ _ hr (by omega) (Or.inr (Or.inr (Or.inl (show 128 * g.val + d < 1024 by omega))))]
    exact A.u g hg r hr hne d hd'
  · intro g hg i hi d hd'
    have := g.isLt
    rw [n2_overlay_out _ _ _ _ (by omega) (by omega) (Or.inr (Or.inr (Or.inl (show 128 * g.val + d < 1024 by omega))))]
    exact A.m g hg i hi d hd'
  · intro g hg r hr hne
    have := g.isLt
    have h0 := offMe0 c 1024
    rw [n2_overlay_out _ _ _ _ hr (by omega) (by rw [h0]; omega)]
    exact A.l g hg r hr hne
  · intro g hg i hi
    have h0 := offMe0 c 1024
    exact n2_overlay_in _ _ _ _ (by rw [h0]) rfl hi g.isLt

/-! ## The result -/

/-- What the result holds once the own rows are in it and `n` received tiles: those rows of the final result. -/
def Out (I : Ins F) (c : Dev nD) (n : ℕ) (f : S1x512x1024.Idx → Elt F .f32) : Prop :=
  (∀ i < 64, ∀ q < 1024, n3 f 0 (64 * c.val + i) q = n3 (Ov I c) 0 (64 * c.val + i) q) ∧
  ∀ j : Fin 7, j.val < n → ∀ i < 64, ∀ q < 1024, n3 f 0 (64 * (src c j).val + i) q = n3 (Ov I c) 0 (64 * (src c j).val + i) q

theorem Ov_own {i q : ℕ} (hi : i < 64) (hq : q < 1024) : n3 (Ov I c) 0 (64 * c.val + i) q = n3 (Pv I c) 0 i q := by
  have hc := dev_lt c
  refine (n3_mk (z := 1) (a := 512) (b := 1024) (fun _ r q => if r / 64 = c.val then n3 (Pv I c) 0 (r % 64) q
    else n3 (k0_pay198 (Bs I (⟨(r / 64) % 8, Nat.mod_lt _ (by decide)⟩ : Dev nD))) 0 (r % 64) q) (by decide) (by omega) hq).trans ?_
  rw [if_pos (by omega), show (64 * c.val + i) % 64 = i by omega]

theorem src_ne (c : Dev nD) (j : Fin 7) : (src c j).val ≠ c.val := by
  show (c.val + (7 - j.val)) % 8 ≠ c.val
  have := dev_lt c; omega

theorem src_inj (c : Dev nD) (j k : Fin 7) (h : (src c j).val = (src c k).val) : j = k := by
  have h : (c.val + (7 - j.val)) % 8 = (c.val + (7 - k.val)) % 8 := h
  have := dev_lt c; exact Fin.ext (by omega)

theorem Ov_src (j : Fin 7) {i q : ℕ} (hi : i < 64) (hq : q < 1024) :
    n3 (Ov I c) 0 (64 * (src c j).val + i) q = n3 (k0_pay198 (Bs I (src c j))) 0 i q := by
  have hc := dev_lt c; have hs := dev_lt (src c j); have hne := src_ne c j
  refine (n3_mk (z := 1) (a := 512) (b := 1024) (fun _ r q => if r / 64 = c.val then n3 (Pv I c) 0 (r % 64) q
    else n3 (k0_pay198 (Bs I (⟨(r / 64) % 8, Nat.mod_lt _ (by decide)⟩ : Dev nD))) 0 (r % 64) q) (by decide) (by omega) hq).trans ?_
  rw [if_neg (by omega), show (64 * (src c j).val + i) % 64 = i by omega,
    show (⟨((64 * (src c j).val + i) / 64) % 8, Nat.mod_lt _ (by decide)⟩ : Dev nD) = src c j from Fin.ext (by show _ % 8 = _; omega)]

theorem offOut1 (c : Dev nD) : offOut c 1 = 64 * c.val := me_eq c
theorem offOutB1 (c : Dev nD) (j : Fin 7) : offOutB c (wd j) 1 = 64 * (src c j).val := bwd_eq c j

theorem Out.zero (f : S1x512x1024.Idx → Elt F .f32) : Out I c 0 ((rOut c).overlay f (Pv I c)) := by
  refine ⟨fun i hi q hq => ?_, fun j h => absurd h (Nat.not_lt_zero _)⟩
  rw [Ov_own hi hq]
  exact n3_overlay_in _ _ _ _ (show 0 = 0 + 0 from rfl) (by rw [offOut1]) (show q = 0 + q from (Nat.zero_add q).symm) (by decide) hi hq

theorem Out.own_read (f : S1x512x1024.Idx → Elt F .f32) (w : S1x64x1024.Idx → Elt F .f32) :
    (fun x : S1x64x1024.Idx => (rOut c).overlay f w ((rOut c).emb x)) = w :=
  funext fun x => Rect.overlay_emb _ _ _ _

theorem Out.step {n : ℕ} {f : S1x512x1024.Idx → Elt F .f32} (O : Out I c n f) (j : Fin 7) (hj : j.val = n) :
    Out I c (n + 1) ((rOutB c j).overlay f (k0_pay198 (Bs I (src c j)))) := by
  have hc := dev_lt c; have h1 := offOutB1 c j; have hne := src_ne c j; have hs := dev_lt (src c j)
  refine ⟨fun i hi q hq => ?_, fun k hk i hi q hq => ?_⟩
  · rw [n3_overlay_out _ _ _ _ (by omega) (by rw [h1]; omega)]; exact O.1 i hi q hq
  · have hs' := dev_lt (src c k)
    by_cases e : k = j
    · subst e
      rw [Ov_src k hi hq]
      exact n3_overlay_in _ _ _ _ (show 0 = 0 + 0 from rfl) (by rw [h1]) (show q = 0 + q from (Nat.zero_add q).symm) (by decide) hi hq
    · have : (src c k).val ≠ (src c j).val := fun h => e (src_inj c k j h)
      have : k.val ≠ j.val := fun h => e (Fin.ext h)
      rw [n3_overlay_out _ _ _ _ (by omega) (by rw [h1]; omega)]
      exact O.2 k (by omega) i hi q hq

/-- With all seven tiles in, the whole result. -/
theorem Out.all {f : S1x512x1024.Idx → Elt F .f32} (O : Out I c 7 f) : f = Ov I c := by
  refine n3_ext fun r hr q hq => ?_
  have hc := dev_lt c
  by_cases e : r / 64 = c.val
  · rw [show r = 64 * c.val + r % 64 by omega]; exact O.1 _ (Nat.mod_lt _ (by decide)) q hq
  · have hj : (c.val + (7 - r / 64)) % 8 < 7 := by omega
    have : (src c (⟨(c.val + (7 - r / 64)) % 8, hj⟩ : Fin 7)).val = r / 64 := by
      show (c.val + (7 - (c.val + (7 - r / 64)) % 8)) % 8 = r / 64; omega
    have h := O.2 ⟨(c.val + (7 - r / 64)) % 8, hj⟩ hj (r % 64) (Nat.mod_lt _ (by decide)) q hq
    rw [this, show 64 * (r / 64) + r % 64 = r by omega] at h; exact h

end Cert.KernelIdeal.Own
-- ==== Proof.Sched.lean ====
/-
  The protocol between the devices. Semaphore by semaphore:

  * the barrier of device `q`, waited on once by `q` for 7 units: unit `d` is signalled by the device `src q d`, and hands
    `q` the right to write that device's slot `rev d` (of every buffer that receives copies), with the fact that the
    semaphores credited by those copies are open;
  * a receive semaphore of device `c` for one copy (head `h`'s tile, the sums, or the result's tile) in slot `j`, waited
    on once by `c`: credited by the copy of the device `src c j`, it hands `c` its slot back holding what that device
    sent;
  * a send semaphore of device `c` for the same copy, waited on once by `c`: it hands the source back.
-/
module

public import proofs.«01_k».proof.Proof.Vals
public import proofs.«01_k».proof.Proof.Gen.KernelIdeal.Launch
public import Idealize.ShloMosaic.Lib.Pipeline.Regions
public import Idealize.ShloMosaic.Lib.Pipeline.Kit
public import Idealize.ShloMosaic.Lib.Rounds
public import Idealize.ShloMosaic.Lib.Transfers
public import Idealize.ShloMosaic.Lib.StableHlo
public import Idealize.ShloMosaic.Lib.Tactic
public import Idealize.ShloMosaic.Lib.Pipeline.RegionTalk

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the launch's own copies, and of the protocol, whose rounds have up to seven duties. -/
abbrev U₁ := UR sig nD τ
abbrev U₂ := URounds (GSem nD τ sig) (Fin 7)
abbrev UU := U₁ × U₂

local notation "𝕄" => MT nD τ sig Unit (Elt F) ℕ UU ℕ

abbrev EP : Emb U₁ (MT nD τ sig Unit (Elt F) ℕ UU ℕ) := embL
abbrev ER : Emb U₂ (MT nD τ sig Unit (Elt F) ℕ UU ℕ) := embR

/-! ## The copies and their semaphores -/

/-- What a device copies to another: a head's tile, the sums, the result's tile. -/
inductive Ch
  | o (h : Fin 8)
  | ml
  | ag
  deriving DecidableEq

/-- The order in which a device issues its copies. -/
def Ch.ord : Ch → ℕ
  | .o h => h.val
  | .ml => 8
  | .ag => 9

/-- The `n`-th kind of copy. -/
def chN (n : ℕ) : Ch := if h : n < 8 then .o ⟨n, h⟩ else if n = 8 then .ml else .ag

theorem chN_ord : ∀ n < 10, (chN n).ord = n := by decide
theorem chN_o (h : Fin 8) : chN h.val = .o h := by unfold chN; rw [dif_pos h.isLt]
theorem ord_chN (ch : Ch) : chN ch.ord = ch := by
  cases ch with
  | o h => exact chN_o h
  | ml => rfl
  | ag => rfl
theorem ord_lt (ch : Ch) : ch.ord < 10 := by
  cases ch with
  | o h => have := h.isLt; show h.val < 10; omega
  | ml => decide
  | ag => decide

/-- The kinds of copy, counted. -/
def chEquiv : Fin 10 ≃ Ch where
  toFun n := chN n.val
  invFun ch := ⟨ch.ord, ord_lt ch⟩
  left_inv n := Fin.ext (chN_ord n.val n.isLt)
  right_inv ch := ord_chN ch
instance : Fintype Ch := Fintype.ofEquiv (Fin 10) chEquiv

def sndS : Ch → Fin 7 → DmaSem sig
  | .o h, j => sem2 cc0_scratch7 j h
  | .ml, j => sem1 cc0_scratch9 j
  | .ag, j => sem1 cc0_scratch11 j
def rcvS : Ch → Fin 7 → DmaSem sig
  | .o h, j => sem2 cc0_scratch8 j h
  | .ml, j => sem1 cc0_scratch10 j
  | .ag, j => sem1 cc0_scratch12 j

/-- Which semaphore a number is: `false` a send semaphore, `true` a receive semaphore. -/
def dec (n : ℕ) : Option (Bool × Ch × Fin 7) :=
  if n < 6 then none
  else if n < 62 then some (false, .o (Fin.ofNat 8 (n - 6)), Fin.ofNat 7 ((n - 6) / 8))
  else if n < 118 then some (true, .o (Fin.ofNat 8 (n - 62)), Fin.ofNat 7 ((n - 62) / 8))
  else if n < 125 then some (false, .ml, Fin.ofNat 7 (n - 118))
  else if n < 132 then some (true, .ml, Fin.ofNat 7 (n - 125))
  else if n < 139 then some (false, .ag, Fin.ofNat 7 (n - 132))
  else some (true, .ag, Fin.ofNat 7 (n - 139))

theorem dec_so : ∀ (h : Fin 8) (j : Fin 7), dec (sem2 cc0_scratch7 j h).val = some (false, .o h, j) := by decide
theorem dec_ro : ∀ (h : Fin 8) (j : Fin 7), dec (sem2 cc0_scratch8 j h).val = some (true, .o h, j) := by decide
theorem dec_sml : ∀ (j : Fin 7), dec (sem1 cc0_scratch9 j).val = some (false, .ml, j) := by decide
theorem dec_rml : ∀ (j : Fin 7), dec (sem1 cc0_scratch10 j).val = some (true, .ml, j) := by decide
theorem dec_sag : ∀ (j : Fin 7), dec (sem1 cc0_scratch11 j).val = some (false, .ag, j) := by decide
theorem dec_rag : ∀ (j : Fin 7), dec (sem1 cc0_scratch12 j).val = some (true, .ag, j) := by decide

theorem dec_snd (ch : Ch) (j : Fin 7) : dec (sndS ch j).val = some (false, ch, j) := by
  cases ch with
  | o h => exact dec_so h j
  | ml => exact dec_sml j
  | ag => exact dec_sag j
theorem dec_rcv (ch : Ch) (j : Fin 7) : dec (rcvS ch j).val = some (true, ch, j) := by
  cases ch with
  | o h => exact dec_ro h j
  | ml => exact dec_rml j
  | ag => exact dec_rag j

abbrev barCell (c : Dev nD) : GSem nD τ sig := ((c : Thread nD τ), .reg barS)
abbrev sndCell (c : Dev nD) (ch : Ch) (j : Fin 7) : GSem nD τ sig := ((c : Thread nD τ), .dma (sndS ch j))
abbrev rcvCell (c : Dev nD) (ch : Ch) (j : Fin 7) : GSem nD τ sig := ((c : Thread nD τ), .dma (rcvS ch j))

/-- What one copy credits. -/
def N : Ch → ℕ
  | .o _ => (tile bRcv 0 0).view.dmaCredit
  | .ml => (slotMl 0).view.dmaCredit
  | .ag => (slot bAg 0).view.dmaCredit
theorem N_pos (ch : Ch) : 0 < N ch := by
  cases ch with
  | o h => exact View.dmaCredit_pos _ (by decide)
  | ml => exact View.dmaCredit_pos _ (by decide)
  | ag => exact View.dmaCredit_pos _ (by decide)

/-! ## What the landings hand over -/

/-- The elements a matrix names on device `c`, outright. -/
abbrev pts (c : Dev nD) {sh : Shape} {e : EltTy} (m : Memref sig .tc .vmem sh e) (f : Buf (Elt F) (m.view.loc (c : Thread nD τ))) : sProp 𝕄 :=
  m.view.loc (c : Thread nD τ) ↦[m.view.set]{fullShare} f
/-- At contents not chosen. -/
def anyPts (c : Dev nD) {sh : Shape} {e : EltTy} (m : Memref sig .tc .vmem sh e) : sProp 𝕄 := iprop(∃ f, pts (F := F) c m f)

instance (c : Dev nD) {sh : Shape} {e : EltTy} (m : Memref sig .tc .vmem sh e) : BI.Storable (upEmb : UEmb _ 𝕄) (anyPts (F := F) c m) := by
  unfold anyPts; infer_instance

/-- The slot a copy lands in, at contents not chosen. -/
def dstAny (s : Dev nD) : Ch → Fin 7 → sProp 𝕄
  | .o h, j => anyPts s (tile bRcv j h)
  | .ml, j => anyPts s (slotMl j)
  | .ag, j => anyPts s (slot bAg j)

/-- The right to write slot `j` of device `s`, for every kind of copy. -/
def grant (s : Dev nD) (j : Fin 7) : sProp 𝕄 :=
  bigSep Finset.univ fun ch : Ch => iprop(dstAny s ch j ∗ reached ER (rcvCell s ch j) 0)

/-- The share of the rounded tile that copy `j` of the result reads. -/
abbrev qAg (j : Fin 7) : PosShare TreeShare := Transfers.shareTok fullShare 7 j

variable (I : Ins F)

/-- The source of a copy, handed back. -/
def sendPay (c : Dev nD) : Ch → Fin 7 → sProp 𝕄
  | .o h, j => anyPts c (tile bSnd j h)
  | .ml, j => anyPts c (tileMl c j)
  | .ag, j => bO.view.loc (c : Thread nD τ) ↦[bO.view.set]{qAg j} Bv I c

/-- The slot of a copy, handed back holding what the sender sent. -/
def recvPay (c : Dev nD) : Ch → Fin 7 → sProp 𝕄
  | .o h, j => iprop(∃ f : Buf (Elt F) ((tile bRcv j h).view.loc (c : Thread nD τ)), ⌜(bRcv.access (rSlot j h)).read (Elt F) f = Tl I (src c j) h c.val⌝ ∗ pts (F := F) c (tile bRcv j h) f)
  | .ml, j => iprop(∃ f : Buf (Elt F) ((slotMl j).view.loc (c : Thread nD τ)), ⌜(bMl.access (rMl8 j)).read (Elt F) f = Lt I (src c j) c.val⌝ ∗ pts (F := F) c (slotMl j) f)
  | .ag, j => iprop(∃ f : Buf (Elt F) ((slot bAg j).view.loc (c : Thread nD τ)), ⌜(bAg.access (rSlotAll j)).read (Elt F) f = Bs I (src c j)⌝ ∗ pts (F := F) c (slot bAg j) f)

instance (s : Dev nD) (ch : Ch) (j : Fin 7) : BI.Storable (upEmb : UEmb _ 𝕄) (dstAny (F := F) s ch j) := by
  cases ch <;> (dsimp only [dstAny]; infer_instance)
instance (s : Dev nD) (j : Fin 7) : BI.Storable (upEmb : UEmb _ 𝕄) (grant (F := F) s j) := by
  unfold grant; infer_instance
instance (c : Dev nD) (ch : Ch) (j : Fin 7) : BI.Storable (upEmb : UEmb _ 𝕄) (sendPay I c ch j) := by
  cases ch <;> (dsimp only [sendPay]; infer_instance)
instance (c : Dev nD) (ch : Ch) (j : Fin 7) : BI.Storable (upEmb : UEmb _ 𝕄) (recvPay I c ch j) := by
  cases ch <;> (dsimp only [recvPay]; infer_instance)

/-! ## The schedule -/

def dmaPay (c : Dev nD) : Option (Bool × Ch × Fin 7) → sProp 𝕄
  | none => iprop(emp)
  | some (false, ch, j) => sendPay I c ch j
  | some (true, ch, j) => recvPay I c ch j
instance (c : Dev nD) (x : Option (Bool × Ch × Fin 7)) : BI.Storable (upEmb : UEmb _ 𝕄) (dmaPay I c x) := by
  match x with
  | none => unfold dmaPay; infer_instance
  | some (false, ch, j) => unfold dmaPay; infer_instance
  | some (true, ch, j) => unfold dmaPay; infer_instance

def dmaAmt : Option (Bool × Ch × Fin 7) → ℕ
  | none => 1
  | some (_, ch, _) => N ch

def dutiesOf : SemLoc sig → Finset (Fin 7)
  | .reg s => if s = barS then Finset.univ else ∅
  | .dma s => if (dec s.val).isSome then {0} else ∅

def Rd : Rounds.Schedule (GSem nD τ sig) (Fin 7) 𝕄 where
  duties g r := if r = 0 ∧ g.1.2 = .tc then dutiesOf g.2 else ∅
  unitless _ := False
  amount g _ _ := match g.2 with | .reg _ => 1 | .dma s => dmaAmt (dec s.val)
  payload g _ d := match g.2 with | .reg _ => grant (src g.1.1 d.val) (rev d) | .dma s => dmaPay I g.1.1 (dec s.val)
  amount_pos g _ _ _ := by
    cases g.2 with
    | reg s => exact Nat.one_pos
    | dma s =>
      show 0 < dmaAmt (dec s.val)
      cases dec s.val with
      | none => exact Nat.one_pos
      | some x => exact N_pos _

instance Rd_payload_storable (g : GSem nD τ sig) (r : ℕ) (d : Fin 7) :
    BI.Storable (upEmb : UEmb _ 𝕄) ((Rd I).payload g r d) := by
  obtain ⟨t, s⟩ := g
  cases s with
  | reg s => show BI.Storable upEmb (grant (src t.1 d.val) (rev d)); infer_instance
  | dma s => show BI.Storable upEmb (dmaPay I t.1 (dec s.val)); infer_instance

theorem duties_bar (c : Dev nD) : (Rd I).duties (barCell c) 0 = Finset.univ := by
  dsimp only [Rd]; rw [if_pos ⟨rfl, rfl⟩]; unfold dutiesOf; exact if_pos rfl
theorem duties_snd (c : Dev nD) (ch : Ch) (j : Fin 7) : (Rd I).duties (sndCell c ch j) 0 = {0} := by
  dsimp only [Rd]; rw [if_pos ⟨rfl, rfl⟩]; unfold dutiesOf; dsimp only; rw [dec_snd]; rfl
theorem duties_rcv (c : Dev nD) (ch : Ch) (j : Fin 7) : (Rd I).duties (rcvCell c ch j) 0 = {0} := by
  dsimp only [Rd]; rw [if_pos ⟨rfl, rfl⟩]; unfold dutiesOf; dsimp only; rw [dec_rcv]; rfl
theorem duties_later (g : GSem nD τ sig) : ∀ r, 1 ≤ r → (Rd I).duties g r = ∅ :=
  fun r hr => by dsimp only [Rd]; rw [if_neg (fun h => by omega)]

theorem amount_bar (c : Dev nD) (d : Fin 7) : (Rd I).amount (barCell c) 0 d = 1 := rfl
theorem amount_snd (c : Dev nD) (ch : Ch) (j d : Fin 7) : (Rd I).amount (sndCell c ch j) 0 d = N ch := by
  dsimp only [Rd]; rw [dec_snd]; rfl
theorem amount_rcv (c : Dev nD) (ch : Ch) (j d : Fin 7) : (Rd I).amount (rcvCell c ch j) 0 d = N ch := by
  dsimp only [Rd]; rw [dec_rcv]; rfl

theorem expect_bar (c : Dev nD) : (Rd I).expect (barCell c) 0 = 7 := by
  unfold Schedule.expect Schedule.amountOf; rw [duties_bar]; rfl
theorem expect_snd (c : Dev nD) (ch : Ch) (j : Fin 7) : (Rd I).expect (sndCell c ch j) 0 = N ch := by
  unfold Schedule.expect Schedule.amountOf; rw [duties_snd, Finset.sum_singleton, amount_snd]
theorem expect_rcv (c : Dev nD) (ch : Ch) (j : Fin 7) : (Rd I).expect (rcvCell c ch j) 0 = N ch := by
  unfold Schedule.expect Schedule.amountOf; rw [duties_rcv, Finset.sum_singleton, amount_rcv]

theorem payload_bar (c : Dev nD) (d : Fin 7) : (Rd I).payload (barCell c) 0 d = grant (src c d.val) (rev d) := rfl
theorem payload_snd (c : Dev nD) (ch : Ch) (j d : Fin 7) : (Rd I).payload (sndCell c ch j) 0 d = sendPay I c ch j := by
  dsimp only [Rd]; rw [dec_snd]; rfl
theorem payload_rcv (c : Dev nD) (ch : Ch) (j d : Fin 7) : (Rd I).payload (rcvCell c ch j) 0 d = recvPay I c ch j := by
  dsimp only [Rd]; rw [dec_rcv]; rfl

theorem rest_bar (c : Dev nD) : bigSep ((Rd I).duties (barCell c) 0 \ ∅) (fun d => (Rd I).payload (barCell c) 0 d)
    = bigSep Finset.univ fun d : Fin 7 => grant (F := F) (src c d.val) (rev d) := by
  rw [Finset.sdiff_empty, duties_bar]; rfl
theorem rest_snd (c : Dev nD) (ch : Ch) (j : Fin 7) :
    bigSep ((Rd I).duties (sndCell c ch j) 0 \ ∅) (fun d => (Rd I).payload (sndCell c ch j) 0 d) = sendPay I c ch j := by
  rw [Finset.sdiff_empty, duties_snd, bigSep_singleton, payload_snd]
theorem rest_rcv (c : Dev nD) (ch : Ch) (j : Fin 7) :
    bigSep ((Rd I).duties (rcvCell c ch j) 0 \ ∅) (fun d => (Rd I).payload (rcvCell c ch j) 0 d) = recvPay I c ch j := by
  rw [Finset.sdiff_empty, duties_rcv, bigSep_singleton, payload_rcv]

/-! ## What a device owes, and the levels -/

/-- The copies still to be issued, from the `n`-th: each owes its receive credit. -/
def owedCopy (c : Dev nD) (m : ℕ) : CellTallies nD τ sig Unit :=
  tallyAt (rcvCell (pr c (m % 7)) (chN (m / 7)) (Fin.ofNat 7 m)) () (N (chN (m / 7)))
def R (c : Dev nD) (n : ℕ) : CellTallies nD τ sig Unit := ∑ m ∈ Finset.Ico n 70, owedCopy c m
/-- The barrier units still to be signalled, from the `n`-th, and every copy. -/
def B (c : Dev nD) (n : ℕ) : CellTallies nD τ sig Unit := R c 0 + ∑ m ∈ Finset.Ico n 7, tallyAt (barCell (pr c m)) () 1
/-- What a device owes at launch. -/
def O₀ (c : Dev nD) : CellTallies nD τ sig Unit := B c 0

theorem R_end (c : Dev nD) : R c 70 = 0 := by unfold R; rw [Finset.Ico_self, Finset.sum_empty]
theorem B_end (c : Dev nD) : B c 7 = R c 0 := by unfold B; rw [Finset.Ico_self, Finset.sum_empty, add_zero]

theorem R_step (c : Dev nD) (ch : Ch) (j : Fin 7) : R c (7 * ch.ord + j.val) = R c (7 * ch.ord + (j.val + 1)) + tallyAt (rcvCell (pr c j.val) ch j) () (N ch) := by
  have h := ord_lt ch; have hj := j.isLt
  have e : owedCopy c (7 * ch.ord + j.val) = tallyAt (rcvCell (pr c j.val) ch j) () (N ch) := by
    unfold owedCopy
    rw [show (7 * ch.ord + j.val) % 7 = j.val by omega, show (7 * ch.ord + j.val) / 7 = ch.ord by omega, ord_chN,
      show Fin.ofNat 7 (7 * ch.ord + j.val) = j from Fin.ext (by show _ % 7 = _; omega)]
  unfold R
  rw [Finset.sum_eq_sum_Ico_succ_bot (by omega : 7 * ch.ord + j.val < 70), e, add_comm]; rfl

theorem B_step (c : Dev nD) (j : Fin 7) : B c j.val = B c (j.val + 1) + tallyAt (barCell (pr c j.val)) () 1 := by
  unfold B
  rw [Finset.sum_eq_sum_Ico_succ_bot j.isLt, add_assoc, add_comm (tallyAt _ _ _)]

def L (g : GSem nD τ sig) : Finset Unit := if g.1.2 = .tc then {()} else ∅
/-- Barriers at 1, receive semaphores by the order of their copies from 2, the rest at 0. -/
def lv (g : GSem nD τ sig) (_ : Unit) : ℕ :=
  match g.2 with
  | .reg _ => 1
  | .dma s => match dec s.val with
    | some (true, ch, _) => 2 + ch.ord
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_rcv (c : Dev nD) (ch : Ch) (j : Fin 7) : lv (rcvCell c ch j) () = 2 + ch.ord := by
  dsimp only [lv]; rw [dec_rcv]

theorem R_pos (c : Dev nD) (n : ℕ) (g : GSem nD τ sig) (u : Unit) (h : 0 < R c n g u) :
    ∃ m, n ≤ m ∧ m < 70 ∧ g = rcvCell (pr c (m % 7)) (chN (m / 7)) (Fin.ofNat 7 m) := by
  unfold R at h
  rw [Finset.sum_apply, Finsupp.finset_sum_apply] at h
  obtain ⟨m, hm, hp⟩ := Finset.exists_ne_zero_of_sum_ne_zero (Nat.pos_iff_ne_zero.mp h)
  rw [Finset.mem_Ico] at hm
  refine ⟨m, hm.1, hm.2, ?_⟩
  unfold owedCopy at hp
  rw [tallyAt_apply] at hp
  by_contra hne
  exact hp (if_neg fun h => hne h.1)

/-- Waiting at level `b` while owing only copies of later kinds. -/
theorem mayWait (c : Dev nD) (sm : SemLoc sig) (k n : ℕ) (hn : 7 * k ≤ n) (hl : lv ((c : Thread nD τ), sm) () < 2 + k) :
    (levAts L lv : sProp 𝕄) ⊢ MayWait (c : Thread nD τ) sm () (R c n) :=
  MayOwe.of_cut (L := L) (lev := lv) (lv ((c : Thread nD τ), sm) ())
    (fun p hp => by rw [Finset.mem_singleton.mp hp, L_tc]; exact Finset.mem_singleton_self _)
    (fun g u hg => by
      obtain ⟨m, h1, h2, rfl⟩ := R_pos c n g u hg
      rw [L_tc]; exact Finset.mem_singleton_self _)
    (fun p hp => by rw [Finset.mem_singleton.mp hp])
    (fun g u hg => by
      obtain ⟨m, h1, h2, rfl⟩ := R_pos c n g u hg
      rw [lv_rcv, chN_ord _ (by omega)]; omega)

end Cert.KernelIdeal.Own
-- ==== Proof.Rules.lean ====
/-
  Rules for the steps of the body: a counted loop, a load and a store of a buffer held whole, and what a copy leaves in
  its slot.
-/
module

public import proofs.«01_k».proof.Proof.Sched
public import Idealize.ShloMosaic.Lib.ValueLayout

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

abbrev 𝒱₀ : Variants := Variants.none

/-- What running `p` on device `c` guarantees of its result. -/
abbrev WP (c : Dev nD) {α : Type} (p : BP F α) (Q : α → sProp 𝕄) : sProp 𝕄 :=
  wp frame (wpE (defs₀ (F := F)) 𝒱₀ (c : Thread nD τ) none) Set.univ p Q

/-! ## Loops -/

theorem insert_sep {K : Type} [DecidableEq K] {i : K} {s : Finset K} (h : i ∉ s) {Φ : K → sProp 𝕄} :
    bigSep (insert i s) Φ = iprop(Φ i ∗ bigSep s Φ) := bigSep_insert h

theorem wp_seq (c : Dev nD) {α β : Type} (p : BP F α) (k : α → BP F β) (Q : β → sProp 𝕄) (P : α → sProp 𝕄) (A : sProp 𝕄)
    (h : A ⊢ WP c p P) (hk : ∀ a, P a ⊢ WP c (k a) Q) : A ⊢ WP c (p >>= k) Q := by
  show A ⊢ wp frame _ _ (p >>= k) Q
  rw [wp_bind]
  exact h.trans (wp_mono _ _ _ hk)

/-- A loop whose step `i` takes `P i` to `Q i` and keeps the invariant, from step `n - k` on. -/
theorem stepsFrom_rule (c : Dev nD) {n : ℕ} (f : Fin n → BP F PUnit) (Γ : sProp 𝕄) [BI.Persistent Γ] (Inv : ℕ → sProp 𝕄)
    (P Q : Fin n → sProp 𝕄)
    (h : ∀ i : Fin n, iprop(Γ ∗ Inv i.val ∗ P i) ⊢ WP c (f i) (fun _ => iprop(Inv (i.val + 1) ∗ Q i))) :
    ∀ (k : ℕ) (hk : k ≤ n),
      iprop(Γ ∗ Inv (n - k) ∗ bigSep (Finset.univ.filter fun i : Fin n => n - k ≤ i.val) P)
        ⊢ WP c (stepsFrom f k hk) (fun _ => iprop(Inv n ∗ bigSep (Finset.univ.filter fun i : Fin n => n - k ≤ i.val) Q))
  | 0, hk => by
    have e : (Finset.univ.filter fun i : Fin n => n - 0 ≤ i.val) = ∅ :=
      Finset.filter_eq_empty_iff.mpr fun i _ => by have := i.isLt; omega
    rw [e]
    show _ ⊢ wp frame _ _ (.ret _) _
    rw [wp_ret]
    iintro ⟨-, HI, -⟩
    imodintro
    isplitl [HI]; · iexact HI
    rw [bigSep_empty]; iempintro
  | k + 1, hk => by
    have hlt : n - (k + 1) < n := by omega
    have e : (Finset.univ.filter fun i : Fin n => n - (k + 1) ≤ i.val)
        = insert (⟨n - (k + 1), hlt⟩ : Fin n) (Finset.univ.filter fun i : Fin n => n - k ≤ i.val) := by
      ext i
      simp only [Finset.mem_filter, Finset.mem_univ, true_and, Finset.mem_insert, Fin.ext_iff]
      omega
    have hn : (⟨n - (k + 1), hlt⟩ : Fin n) ∉ Finset.univ.filter fun i : Fin n => n - k ≤ i.val := by
      simp only [Finset.mem_filter, Finset.mem_univ, true_and]; omega
    rw [e, insert_sep hn, insert_sep hn]
    show _ ⊢ wp frame _ _ (f ⟨n - (k + 1), hlt⟩ >>= fun _ => stepsFrom f k (by omega)) _
    rw [wp_bind]
    iintro ⟨#HΓ, HI, HP, Hrest⟩
    iapply (wp_wand _ _ _) $$ [HI HP]
    · iapply (h ⟨n - (k + 1), hlt⟩)
      isplitr; · iexact HΓ
      isplitl [HI] <;> iassumption
    iintro %_ ⟨HI, HQ⟩
    iapply (wp_wand _ _ _) $$ [HI Hrest]
    · iapply (stepsFrom_rule c f Γ Inv P Q h k (Nat.le_of_succ_le hk))
      rw [show n - (k + 1) + 1 = n - k by omega]
      isplitr; · iexact HΓ
      isplitl [HI] <;> iassumption
    iintro %_ ⟨HI, HQ'⟩
    isplitl [HI]; · iexact HI
    isplitl [HQ] <;> iassumption

theorem steps_rule (c : Dev nD) {n : ℕ} (f : Fin n → BP F PUnit) (Γ : sProp 𝕄) [BI.Persistent Γ] (Inv : ℕ → sProp 𝕄)
    (P Q : Fin n → sProp 𝕄)
    (h : ∀ i : Fin n, iprop(Γ ∗ Inv i.val ∗ P i) ⊢ WP c (f i) (fun _ => iprop(Inv (i.val + 1) ∗ Q i))) :
    iprop(Γ ∗ Inv 0 ∗ bigSep Finset.univ P) ⊢ WP c (steps n f) (fun _ => iprop(Inv n ∗ bigSep Finset.univ Q)) := by
  have e : (Finset.univ.filter fun i : Fin n => n - n ≤ i.val) = Finset.univ :=
    Finset.filter_true_of_mem fun i _ => by omega
  have h' := stepsFrom_rule c f Γ Inv P Q h n le_rfl
  rw [e, Nat.sub_self] at h'
  exact h'

/-! ## Loads and stores -/

section Access

variable (b : Ref sig .tc)

theorem read_access (r : Rect b.ty.shape) (f : b.ty.Contents (Elt F)) :
    ((Memref.whole b).access r).read (Elt F) f = fun x => f (r.emb x) := rfl

theorem write_access (r : Rect b.ty.shape) (f : b.ty.Contents (Elt F)) (w : r.shape.Idx → Elt F b.ty.elt) :
    ((Memref.whole b).access r).write (Elt F) f w Finset.univ = r.overlay f w := by
  funext i
  by_cases hi : i ∈ r.set
  · obtain ⟨x, -, rfl⟩ := Finset.mem_map.mp (Rect.map_emb_univ r ▸ hi)
    rw [Rect.overlay_emb]
    exact View.write_emb_of_mem (v := (Memref.whole b).access r) f w (Finset.mem_univ x)
  · rw [Rect.overlay_of_not_mem _ _ _ hi]
    exact View.write_of_not_mem (v := (Memref.whole b).access r) f w Finset.univ
      (by rw [View.setOn_univ]; exact fun h => hi ((View.set_slice_whole b r) ▸ h))

theorem access_set (r : Rect b.ty.shape) : ((Memref.whole b).access r).set = r.set := View.set_slice_whole b r

end Access

/-! ## The tiles' elements -/

theorem bSnd_set (j : Fin 7) (h : Fin 8) : (tile bSnd j h).view.set = (rSlot j h).set :=
  (View.set_reshape ..).trans (View.set_slice_whole ..)
theorem bRcv_set (j : Fin 7) (h : Fin 8) : (tile bRcv j h).view.set = (rSlot j h).set :=
  (View.set_reshape ..).trans (View.set_slice_whole ..)
theorem bAg_set (j : Fin 7) : (slot bAg j).view.set = (rSlotAll j).set :=
  (View.set_reshape ..).trans (View.set_slice_whole ..)
theorem bMl_set (j : Fin 7) : (slotMl j).view.set = (rMl j).set :=
  (View.set_reshape ..).trans (View.set_slice_whole ..)
theorem tileMl_set (c : Dev nD) (j : Fin 7) : (tileMl c j).view.set = (rFwdMl c j).set := View.set_slice_whole ..

/-- What a head's tile leaves in the slot it lands in. -/
theorem land_o (j : Fin 7) (h : Fin 8) (fd : S7x64x1024.Idx → Elt F .bf16) (fs : S7x64x1024.Idx → Elt F .bf16) :
    (bRcv.access (rSlot j h)).read (Elt F) ((tile bRcv j h).view.write (Elt F) fd ((tile bSnd j h).view.read (Elt F) fs) Finset.univ)
      = (bSnd.access (rSlot j h)).read (Elt F) fs := by
  funext x
  have e := congrFun (View.read_write_univ (v := (tile bRcv j h).view) (Val := Elt F) fd ((tile bSnd j h).view.read (Elt F) fs))
    ((Shape.reshapeEquiv (s := S1x64x128) (s' := S64x128) squeezes_S1x64x128_S64x128.numel_eq).symm x)
  have hx := (Shape.reshapeEquiv (s := S1x64x128) (s' := S64x128) squeezes_S1x64x128_S64x128.numel_eq).apply_symm_apply x
  refine Eq.trans ?_ (e.trans ?_)
  · exact congrArg (fun y => (bRcv.access (rSlot j h)).read (Elt F) _ y) hx.symm
  · exact congrArg (fun y => (bSnd.access (rSlot j h)).read (Elt F) fs y) hx

/-- What a rounded tile of the result leaves in the slot it lands in. -/
theorem land_ag (j : Fin 7) (fd : S7x64x1024.Idx → Elt F .bf16) (fs : S64x1024.Idx → Elt F .bf16) :
    (bAg.access (rSlotAll j)).read (Elt F) ((slot bAg j).view.write (Elt F) fd (bO.view.read (Elt F) fs) Finset.univ)
      = fun x : S1x64x1024.Idx => n2 fs (x 1).val (x 2).val := by
  funext (x : S1x64x1024.Idx)
  let y : S64x1024.Idx := ix2 (x 1) (x 2)
  have e := congrFun (View.read_write_univ (v := (slot bAg j).view) (Val := Elt F) fd (bO.view.read (Elt F) fs)) y
  have hx : Shape.reshapeEquiv (s := S1x64x1024) (s' := S64x1024) squeezes_S1x64x1024_S64x1024.numel_eq y = x := by
    refine (reshapeEquiv_ix2_1ab _ _ _).trans ?_
    refine Eq.trans ?_ (eq_ix3 x).symm
    congr 1
    exact Subsingleton.elim (α := Fin 1) _ _
  refine Eq.trans ?_ (e.trans ?_)
  · exact congrArg (fun y => (bAg.access (rSlotAll j)).read (Elt F) _ y) hx.symm
  · exact (n2_idx fs y).symm

/-- What a tile of sums leaves in the first eight columns of the slot it lands in. -/
theorem land_ml (c : Dev nD) (j : Fin 7) (fd : S7x64x128.Idx → Elt F .f32) (fs : S512x1152.Idx → Elt F .f32) :
    (bMl.access (rMl8 j)).read (Elt F) ((slotMl j).view.write (Elt F) fd ((tileMl c j).view.read (Elt F) fs) Finset.univ)
      = fun x : S1x64x8.Idx => n2 (fun x : S64x128.Idx => fs ((rFwdMl c j).emb x)) (x 1).val (x 2).val := by
  funext (x : S1x64x8.Idx)
  have hk : (x 2).val < 128 := lt_trans (x 2).isLt (by decide)
  let y : S64x128.Idx := ix2 (x 1) ⟨(x 2).val, hk⟩
  have e := congrFun (View.read_write_univ (v := (slotMl j).view) (Val := Elt F) fd ((tileMl c j).view.read (Elt F) fs)) y
  have hy : Shape.reshapeEquiv (s := S1x64x128) (s' := S64x128) squeezes_S1x64x128_S64x128.numel_eq y = ix3 (x 0) (x 1) ⟨(x 2).val, hk⟩ := by
    refine (reshapeEquiv_ix2_1ab _ _ _).trans ?_
    congr 1
    exact Subsingleton.elim (α := Fin 1) _ _
  refine Eq.trans ?_ (e.trans ?_)
  · show (slotMl j).view.write (Elt F) fd _ Finset.univ _ = (slotMl j).view.write (Elt F) fd _ Finset.univ _
    refine congrArg _ ?_
    show (rMl8 j).emb x = (rMl j).emb (Shape.reshapeEquiv (s := S1x64x128) (s' := S64x128) _ y)
    rw [hy]
    funext a
    match a with
    | 0 => rfl
    | 1 => rfl
    | 2 => rfl
  · exact (n2_idx (fun x : S64x128.Idx => fs ((rFwdMl c j).emb x)) y).symm

end Cert.KernelIdeal.Own
-- ==== Proof.Ctx.lean ====
/-
  What every device may consult while it runs: the invariants of all the semaphores and their levels. From it, the rule
  of a barrier signal, of the barrier wait, and of a wait on a semaphore credited by a copy.
-/
module

public import proofs.«01_k».proof.Proof.Rules

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-! ## The cells -/

/-- A device's own semaphores, counted: send or receive, kind of copy, slot. -/
abbrev Key := Bool × Ch × Fin 7
def osem : Key → SemLoc sig
  | (false, ch, j) => .dma (sndS ch j)
  | (true, ch, j) => .dma (rcvS ch j)
theorem osem_dec (k : Key) : ∃ s : DmaSem sig, osem k = .dma s ∧ dec s.val = some k := by
  obtain ⟨b, ch, j⟩ := k
  cases b
  · exact ⟨_, rfl, dec_snd ch j⟩
  · exact ⟨_, rfl, dec_rcv ch j⟩
theorem osem_inj : Function.Injective osem := fun k k' h => by
  obtain ⟨s, e, d⟩ := osem_dec k
  obtain ⟨s', e', d'⟩ := osem_dec k'
  rw [e, e'] at h
  obtain rfl := SemLoc.dma.inj h
  exact Option.some.inj (d.symm.trans d')
theorem osem_ne_bar (k : Key) : osem k ≠ .reg barS := fun h => by
  obtain ⟨s, e, -⟩ := osem_dec k
  rw [e] at h; cases h

abbrev kCell (c : Dev nD) (k : Key) : GSem nD τ sig := ((c : Thread nD τ), osem k)

def barEmb : Dev nD ↪ GSem nD τ sig := ⟨fun c => barCell c, fun _ _ h => congrArg (fun g : GSem nD τ sig => g.1.1) h⟩
def scEmb : Dev nD × Key ↪ GSem nD τ sig :=
  ⟨fun ck => kCell ck.1 ck.2, fun _ _ h => Prod.ext (congrArg (fun g : GSem nD τ sig => g.1.1) h) (osem_inj (congrArg Prod.snd h))⟩
def barCells : Finset (GSem nD τ sig) := Finset.univ.map barEmb
def scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem key_mem (c : Dev nD) (k : Key) : kCell c k ∈ (barCells ∪ scCells : Finset (GSem nD τ sig)) :=
  Finset.mem_union_right _ (Finset.mem_map_of_mem scEmb (Finset.mem_univ (c, k)))

/-! ## The records -/

variable (I : Ins F)

def records (κ : GSem nD τ sig → ℕ) : sProp 𝕄 :=
  iprop((bigSep (barCells ∪ scCells) fun g => cellInv ER (Rd I) (κ g) g) ∗ bigSep barCells fun g => reached ER g 0)
instance records_persistent (κ : GSem nD τ sig → ℕ) : BI.Persistent (records I κ) := by unfold records; infer_instance

/-- What every device may consult. -/
def Ctx (κ : GSem nD τ sig → ℕ) : sProp 𝕄 := iprop(records I κ ∗ levAts L lv)
instance Ctx_persistent (κ : GSem nD τ sig → ℕ) : BI.Persistent (Ctx I κ) := by unfold Ctx; infer_instance

variable (κ : GSem nD τ sig → ℕ)

theorem elim_at {K : Type} [DecidableEq K] {s : Finset K} {i : K} (h : i ∈ s) (Φ : K → sProp 𝕄) : bigSep s Φ ⊢ Φ i := bigSep_elim h

theorem ctx_bar (c : Dev nD) : Ctx I κ ⊢ cellInv ER (Rd I) (κ (barCell c)) (barCell c) := by
  unfold Ctx records
  iintro ⟨⟨H, -⟩, -⟩
  iapply (elim_at (bar_mem c) fun g => (cellInv ER (Rd I) (κ g) g : sProp 𝕄)); iexact H
theorem ctx_key (c : Dev nD) (k : Key) : Ctx I κ ⊢ cellInv ER (Rd I) (κ (kCell c k)) (kCell c k) := by
  unfold Ctx records
  iintro ⟨⟨H, -⟩, -⟩
  iapply (elim_at (key_mem c k) fun g => (cellInv ER (Rd I) (κ g) g : sProp 𝕄)); iexact H
theorem ctx_snd (c : Dev nD) (ch : Ch) (j : Fin 7) : Ctx I κ ⊢ cellInv ER (Rd I) (κ (sndCell c ch j)) (sndCell c ch j) :=
  ctx_key I κ c (false, ch, j)
theorem ctx_rcv (c : Dev nD) (ch : Ch) (j : Fin 7) : Ctx I κ ⊢ cellInv ER (Rd I) (κ (rcvCell c ch j)) (rcvCell c ch j) :=
  ctx_key I κ c (true, ch, j)
theorem ctx_reached (c : Dev nD) : Ctx I κ ⊢ reached ER (barCell c) 0 := by
  unfold Ctx records
  iintro ⟨⟨-, H⟩, -⟩
  iapply (elim_at (Finset.mem_map_of_mem barEmb (Finset.mem_univ c)) fun g => (reached ER g 0 : sProp 𝕄)); iexact H
theorem ctx_lev : Ctx I κ ⊢ levAts L lv := by
  unfold Ctx; iintro ⟨-, H⟩; iexact H

/-- The device owes `O`, whatever waits it recorded. -/
def owe (c : Dev nD) (O : CellTallies nD τ sig Unit) : sProp 𝕄 := iprop(∃ W, owes (c : Thread nD τ) O W)

/-! ## The barrier -/

theorem u_signal (c : Dev nD) (j : Fin 7) :
    iprop(Ctx I κ ∗ owe c (B c j.val) ∗ (dutyTok ER (barCell (pr c j)) 0 j ∗ grant (F := F) c (rev j)))
      ⊢ WP c (pSignal c j) (fun _ => iprop(owe c (B c (j.val + 1)) ∗ emp)) := by
  unfold pSignal
  rw [dev_eq]
  unfold owe
  iintro ⟨#HC, ⟨%W, HO⟩, Ht, Hg⟩
  iapply (Rounds.wp_signal 𝒱₀ ER (Rd I) (c : Thread nD τ) none (dst := (pr c j : Thread nD τ)) (sem := barS) (r := 0) (d := j) (κ := κ (barCell (pr c j)))
      (by rw [duties_bar]; exact Finset.mem_univ _) (amount_bar I (pr c j) j) () (B c (j.val + 1)) (B_step c j))
    $$ [HO Ht Hg]
  · isplitr; · iapply (ctx_bar I κ (pr c j)); iexact HC
    isplitl [HO]; · iexact HO
    isplitl [Ht]; · iexact Ht
    isplitl [Hg]
    · rw [payload_bar, src_pr]; iexact Hg
    iapply (ctx_reached I κ (pr c j)); iexact HC
  iintro HO
  rw [wp_ret]
  imodintro
  isplitl [HO]; · iexists W; iexact HO
  iempintro

theorem close_at (κ : ℕ) (g : GSem nD τ sig) :
    iprop(cellInv ER (Rd I) κ g ∗ atPos ER g (0 + 1) ∅ 0) ⊢ (|={Set.univ}=> semVal g 0 : sProp 𝕄) :=
  Rounds.cell_close ER (Rd I) (Set.mem_univ κ) id (duties_later I g)

/-- Every device's slots, as the barrier hands them over, by the place ahead. -/
theorem grants_eq (c : Dev nD) : (bigSep Finset.univ fun d : Fin 7 => grant (F := F) (src c d.val) (rev d))
    = bigSep Finset.univ fun j : Fin 7 => grant (F := F) (pr c j) j := by
  rw [bigSep_univ_equiv (⟨rev, rev, rev_rev, rev_rev⟩ : Fin 7 ≃ Fin 7)]
  refine bigSep_congr fun j _ => ?_
  show grant (src c (rev j)) (rev (rev j)) = _
  rw [src_rev, rev_rev]

theorem u_barrier (c : Dev nD) :
    iprop(Ctx I κ ∗ owe c (R c 0) ∗ atPos ER (barCell c) 0 ∅ 0 ∗ cred (tallyAt (barCell c) () 7))
      ⊢ WP c (semWaitWord barS 7#32) (fun _ => iprop(owe c (R c 0) ∗ semVal (barCell c) 0 ∗ bigSep Finset.univ fun j : Fin 7 => grant (F := F) (pr c j) j)) := by
  unfold owe
  iintro ⟨#HC, ⟨%W, HO⟩, Hat, Hc⟩
  iapply (Rounds.wp_wait_rest_token 𝒱₀ ER (Rd I) (c : Thread nD τ) none (κ := κ (barCell c))
      (wpE_semWait_eq 𝒱₀ (c : Thread nD τ) none Set.univ) (Set.mem_univ _) () (O := R c 0) (W := W) (R := 0) (m := 0) (T := ∅)
      ((Nat.zero_add 7).trans (expect_bar I c).symm)) $$ [Hc HO Hat]
  · isplitr; · iapply (ctx_bar I κ c); iexact HC
    isplitl [Hc]; · iexact Hc
    isplitl [HO]; · iexact HO
    isplitr; · iapply (mayWait c (.reg barS) 0 0 (le_refl _) (lt_of_eq_of_lt (lv_bar c) (by decide))); iapply (ctx_lev I κ); iexact HC
    iexact Hat
  iintro ⟨HO, Hat, -, Hpay⟩
  ihave Hp := (Entails.of_eq ((rest_bar I c).trans (grants_eq c))) $$ Hpay
  rw [wp_ret]
  imod (close_at I (κ (barCell c)) (barCell c)) $$ [Hat] with Hs
  · isplitr; · iapply (ctx_bar I κ c); iexact HC
    iexact Hat
  imodintro
  isplitl [HO]; · iexists _; iexact HO
  isplitl [Hs] <;> iassumption

/-! ## Waits on copies -/

/-- A wait on a receive semaphore while only copies of later kinds are owed: the slot comes back with what was sent, and the
    semaphore's counter is at zero. -/
theorem wait_rcv (c : Dev nD) (ch : Ch) (j : Fin 7) (k n : ℕ) (hn : 7 * k ≤ n) (hk : ch.ord < k)
    (w : TpuEff nD τ sig (Elt F) Λ₀ .tc PUnit)
    (hw : ∀ K : PUnit → sProp 𝕄, wpE (defs₀ (F := F)) 𝒱₀ (c : Thread nD τ) none Set.univ w K = waitSpec (c : Thread nD τ) Set.univ (.dma (rcvS ch j)) (N ch) K)
    (kk : PUnit → BP F PUnit) (Q : PUnit → sProp 𝕄) :
    iprop(Ctx I κ ∗ owe c (R c n) ∗ atPos ER (rcvCell c ch j) 0 ∅ 0 ∗ cred (tallyAt (rcvCell c ch j) () (N ch)))
      ⊢ iprop((iprop(owe c (R c n) ∗ semVal (rcvCell c ch j) 0 ∗ recvPay I c ch j) -∗ WP c (kk ⟨⟩) Q) -∗ WP c (.op w kk) Q) := by
  unfold owe
  iintro ⟨#HC, ⟨%W, HO⟩, Hat, Hc⟩ Hk
  iapply (Rounds.wp_wait_rest_token 𝒱₀ ER (Rd I) (c : Thread nD τ) none (κ := κ (rcvCell c ch j))
      hw (Set.mem_univ _) () (O := R c n) (W := W) (R := 0) (m := 0) (T := ∅)
      ((Nat.zero_add _).trans (expect_rcv I c ch j).symm)) $$ [Hc HO Hat]
  · isplitr; · iapply (ctx_rcv I κ c ch j); iexact HC
    isplitl [Hc]; · iexact Hc
    isplitl [HO]; · iexact HO
    isplitr; · iapply (mayWait c (.dma (rcvS ch j)) k n hn (by rw [lv_rcv]; omega)); iapply (ctx_lev I κ); iexact HC
    iexact Hat
  iintro ⟨HO, Hat, -, Hpay⟩
  ihave Hp := (Entails.of_eq (rest_rcv I c ch j)) $$ Hpay
  rw [← fupd_wp_eq (p := kk ⟨⟩)]
  imod (close_at I (κ (rcvCell c ch j)) (rcvCell c ch j)) $$ [Hat] with Hs
  · isplitr; · iapply (ctx_rcv I κ c ch j); iexact HC
    iexact Hat
  imodintro
  iapply Hk
  isplitl [HO]; · iexists _; iexact HO
  isplitl [Hs] <;> iassumption

/-- A wait on a send semaphore, nothing owed: the source comes back. -/
theorem wait_snd (c : Dev nD) (ch : Ch) (j : Fin 7)
    (w : TpuEff nD τ sig (Elt F) Λ₀ .tc PUnit)
    (hw : ∀ K : PUnit → sProp 𝕄, wpE (defs₀ (F := F)) 𝒱₀ (c : Thread nD τ) none Set.univ w K = waitSpec (c : Thread nD τ) Set.univ (.dma (sndS ch j)) (N ch) K)
    (kk : PUnit → BP F PUnit) (Q : PUnit → sProp 𝕄) :
    iprop(Ctx I κ ∗ owe c 0 ∗ atPos ER (sndCell c ch j) 0 ∅ 0 ∗ cred (tallyAt (sndCell c ch j) () (N ch)))
      ⊢ iprop((iprop(owe c 0 ∗ semVal (sndCell c ch j) 0 ∗ sendPay I c ch j) -∗ WP c (kk ⟨⟩) Q) -∗ WP c (.op w kk) Q) := by
  unfold owe
  iintro ⟨#HC, ⟨%W, HO⟩, Hat, Hc⟩ Hk
  iapply (Rounds.wp_wait_rest_token 𝒱₀ ER (Rd I) (c : Thread nD τ) none (κ := κ (sndCell c ch j))
      hw (Set.mem_univ _) () (O := 0) (W := W) (R := 0) (m := 0) (T := ∅)
      ((Nat.zero_add _).trans (expect_snd I c ch j).symm)) $$ [Hc HO Hat]
  · isplitr; · iapply (ctx_snd I κ c ch j); iexact HC
    isplitl [Hc]; · iexact Hc
    isplitl [HO]; · iexact HO
    isplitr; · rw [MayWait_zero]; iempintro
    iexact Hat
  iintro ⟨HO, Hat, -, Hpay⟩
  ihave Hp := (Entails.of_eq (rest_snd I c ch j)) $$ Hpay
  rw [← fupd_wp_eq (p := kk ⟨⟩)]
  imod (close_at I (κ (sndCell c ch j)) (sndCell c ch j)) $$ [Hat] with Hs
  · isplitr; · iapply (ctx_snd I κ c ch j); iexact HC
    iexact Hat
  imodintro
  iapply Hk
  isplitl [HO]; · iexists _; iexact HO
  isplitl [Hs] <;> iassumption

end Cert.KernelIdeal.Own
-- ==== Proof.Steps.lean ====
/-
  The rule of each step of the body that reads and writes the buffers: the queries, a head's sums, the copies of the
  tiles, the merges, the division and the projection, and the gathering of the result.
-/
module

public import proofs.«01_k».proof.Proof.Ctx

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

theorem lift_bind {α β : Type} (e : TpuEff nD τ sig (Elt F) Λ₀ .tc α) (k : α → BP F β) : (Prog.lift e >>= k) = Prog.op e k := rfl
theorem lift_eq {α : Type} (e : TpuEff nD τ sig (Elt F) Λ₀ .tc α) : (Prog.lift e : BP F α) = Prog.op e .ret := rfl

/-- A buffer held whole. -/
abbrev whl (c : Dev nD) {sh : Shape} {e : EltTy} (m : Memref sig .tc .vmem sh e) (f : Buf (Elt F) (m.view.loc (c : Thread nD τ))) : sProp 𝕄 :=
  m.view.loc (c : Thread nD τ) ↦{fullShare} f

theorem zero_emb {s : Shape} (off : Fin s.rank → ℕ) (h0 : ∀ a, off a = 0) (inb : ∀ a, off a + s.size a ≤ s.size a) (x : s.Idx) :
    (Rect.unit (s := s) off s.size inb).emb x = x := by
  funext a
  refine Fin.ext ?_
  show off a + 1 * (x a).val = _
  rw [h0 a]; omega
theorem zero_read {s : Shape} {α : Type} (off : Fin s.rank → ℕ) (h0 : ∀ a, off a = 0) (inb : ∀ a, off a + s.size a ≤ s.size a) (f : s.Idx → α) :
    (fun x => f ((Rect.unit (s := s) off s.size inb).emb x)) = f := funext fun x => congrArg f (zero_emb off h0 inb x)
theorem zero_overlay {s : Shape} {α : Type} (off : Fin s.rank → ℕ) (h0 : ∀ a, off a = 0) (inb : ∀ a, off a + s.size a ≤ s.size a) (f w : s.Idx → α) :
    (Rect.unit (s := s) off s.size inb).overlay f w = w := by
  funext x
  have h := Rect.overlay_emb (Rect.unit (s := s) off s.size inb) f w x
  rwa [zero_emb off h0 inb x] at h
theorem z2 : ∀ a : Fin 2, (![0, 0] : Fin 2 → ℕ) a = 0 := by decide

theorem acc_sub {r : Rect S512x1152} {S : Finset S512x1152.Idx} (h : r.set ⊆ S) : (bAcc.access r).set ⊆ S := by rw [access_set]; exact h
theorem tileSnd_sub (j : Fin 7) (h : Fin 8) : (bSnd.access (rSlot j h)).set ⊆ (tile bSnd j h).view.set := by rw [bSnd_set, access_set]
theorem tileRcv_sub (j : Fin 7) (h : Fin 8) : (bRcv.access (rSlot j h)).set ⊆ (tile bRcv j h).view.set := by rw [bRcv_set, access_set]
theorem slotAg_sub (j : Fin 7) : (bAg.access (rSlotAll j)).set ⊆ (slot bAg j).view.set := by rw [bAg_set, access_set]
theorem slotMl_sub (j : Fin 7) : (bMl.access (rMl8 j)).set ⊆ (slotMl j).view.set := by
  rw [bMl_set, access_set]
  intro x hx
  rw [Rect.mem_set_unit] at hx ⊢
  intro a
  have h := hx a
  match a with
  | 0 => exact h
  | 1 => exact h
  | 2 => exact ⟨h.1, lt_of_lt_of_le h.2 (by show _ + 8 ≤ _ + 128; omega)⟩

/-! A slot's elements, as elements of its buffer. -/

theorem any_snd (c : Dev nD) (j : Fin 7) (h : Fin 8) : (anyPts c (tile bSnd j h) : sProp 𝕄)
    = iprop(∃ g : Buf (Elt F) (bSnd.view.loc (c : Thread nD τ)), bSnd.view.loc (c : Thread nD τ) ↦[(tile bSnd j h).view.set]{fullShare} g) := rfl
theorem any_rcv (c : Dev nD) (j : Fin 7) (h : Fin 8) : (dstAny c (.o h) j : sProp 𝕄)
    = iprop(∃ g : Buf (Elt F) (bRcv.view.loc (c : Thread nD τ)), bRcv.view.loc (c : Thread nD τ) ↦[(tile bRcv j h).view.set]{fullShare} g) := rfl
theorem any_ml (c : Dev nD) (j : Fin 7) : (dstAny c .ml j : sProp 𝕄)
    = iprop(∃ g : Buf (Elt F) (bMl.view.loc (c : Thread nD τ)), bMl.view.loc (c : Thread nD τ) ↦[(slotMl j).view.set]{fullShare} g) := rfl
theorem any_ag (c : Dev nD) (j : Fin 7) : (dstAny c .ag j : sProp 𝕄)
    = iprop(∃ g : Buf (Elt F) (bAg.view.loc (c : Thread nD τ)), bAg.view.loc (c : Thread nD τ) ↦[(slot bAg j).view.set]{fullShare} g) := rfl
theorem got_rcv (I : Ins F) (c : Dev nD) (j : Fin 7) (h : Fin 8) : (recvPay I c (.o h) j : sProp 𝕄)
    = iprop(∃ g : Buf (Elt F) (bRcv.view.loc (c : Thread nD τ)), ⌜(bRcv.access (rSlot j h)).read (Elt F) g = Tl I (src c j) h c.val⌝
        ∗ bRcv.view.loc (c : Thread nD τ) ↦[(tile bRcv j h).view.set]{fullShare} g) := rfl
theorem got_ml (I : Ins F) (c : Dev nD) (j : Fin 7) : (recvPay I c .ml j : sProp 𝕄)
    = iprop(∃ g : Buf (Elt F) (bMl.view.loc (c : Thread nD τ)), ⌜(bMl.access (rMl8 j)).read (Elt F) g = Lt I (src c j) c.val⌝
        ∗ bMl.view.loc (c : Thread nD τ) ↦[(slotMl j).view.set]{fullShare} g) := rfl
theorem got_ag (I : Ins F) (c : Dev nD) (j : Fin 7) : (recvPay I c .ag j : sProp 𝕄)
    = iprop(∃ g : Buf (Elt F) (bAg.view.loc (c : Thread nD τ)), ⌜(bAg.access (rSlotAll j)).read (Elt F) g = Bs I (src c j)⌝
        ∗ bAg.view.loc (c : Thread nD τ) ↦[(slot bAg j).view.set]{fullShare} g) := rfl

variable (I : Ins F) (κ : GSem nD τ sig → ℕ) (c : Dev nD)

theorem u_q : iprop(whl c bX (I.X c) ∗ whl c bWq (I.Wq c) ∗ (∃ f, whl (F := F) c bQ f))
    ⊢ WP c pQ (fun _ => iprop(whl c bX (I.X c) ∗ whl c bWq (I.Wq c) ∗ whl c bQ (Qv I c))) := by
  unfold pQ
  simp only [lift_bind, lift_eq]
  iintro ⟨HX, HW, ⟨%f, HQ⟩⟩
  iapply (wp_load 𝒱₀ (c : Thread nD τ) none Set.univ (m := bX) (Finset.subset_univ _)) $$ HX
  iintro HX
  iapply (wp_load 𝒱₀ (c : Thread nD τ) none Set.univ (m := bWq) (Finset.subset_univ _)) $$ HW
  iintro HW
  iapply (wp_load 𝒱₀ (c : Thread nD τ) none Set.univ (m := bQ) (Finset.subset_univ _)) $$ HQ
  iintro HQ
  iapply (wp_store 𝒱₀ (c : Thread nD τ) none Set.univ (m := bQ) (r := Rect.unit (s := S512x1024) ![0, 0] S512x1024.size inb_S512x1024_S512x1024_0_0) (Mk := Finset.univ) (Finset.subset_univ _)) $$ HQ
  iintro HQ
  rw [wp_ret]
  imodintro
  isplitl [HX]; · iexact HX
  isplitl [HW]; · iexact HW
  have e : ((bQ.access (Rect.unit (s := S512x1024) ![0, 0] S512x1024.size inb_S512x1024_S512x1024_0_0)).write (Elt F) f
      (k0_pay1 ((bX.access (Rect.unit (s := S512x1024) ![0, 0] S512x1024.size inb_S512x1024_S512x1024_0_0)).read (Elt F) (I.X c))
        ((bWq.access (Rect.unit (s := S1024x1024) ![0, 0] S1024x1024.size inb_S1024x1024_S1024x1024_0_0)).read (Elt F) (I.Wq c))) Finset.univ) = Qv I c := by
    refine (write_access cc0_scratch0 _ f _).trans ((zero_overlay (s := S512x1024) _ z2 _ f _).trans ?_)
    exact congrArg₂ k0_pay1 (zero_read (s := S512x1024) _ z2 _ (I.X c)) (zero_read (s := S1024x1024) _ z2 _ (I.Wq c))
  rw [← e]
  iexact HQ

/-- The accumulator, the elements of `S` of it, at contents of which `Acc` says what they hold. -/
def accAt (S : Finset S512x1152.Idx) (hd : ℕ) (own : Fin 8 → S64x128.Idx → Elt F .f32) (nl : S64x8.Idx → Elt F .f32) : sProp 𝕄 :=
  iprop(∃ f : Buf (Elt F) (bAcc.view.loc (c : Thread nD τ)), ⌜Acc I c hd own nl f⌝ ∗ bAcc.view.loc (c : Thread nD τ) ↦[S]{fullShare} f)

theorem u_head (h : Fin 8) (own : Fin 8 → S64x128.Idx → Elt F .f32) (ho : own h = Ut I c h c.val) :
    iprop(whl c bQ (Qv I c) ∗ whl c bK (I.K c) ∗ whl c bV (I.V c) ∗ accAt I c Finset.univ h.val own (Lo I c c.val))
      ⊢ WP c (pHead h) (fun _ => iprop(whl c bQ (Qv I c) ∗ whl c bK (I.K c) ∗ whl c bV (I.V c) ∗ accAt I c Finset.univ (h.val + 1) own (Lo I c c.val))) := by
  unfold pHead pChunk accAt
  simp only [lift_bind, lift_eq, bind_assoc, pure_bind]
  iintro ⟨HQ, HK, HV, ⟨%f, %A, HA⟩⟩
  iapply (wp_load 𝒱₀ (c : Thread nD τ) none Set.univ (m := bQ) (Finset.subset_univ _)) $$ HQ
  iintro HQ
  iapply (wp_load 𝒱₀ (c : Thread nD τ) none Set.univ (m := bK) (Finset.subset_univ _)) $$ HK
  iintro HK
  iapply (wp_load 𝒱₀ (c : Thread nD τ) none Set.univ (m := bV) (Finset.subset_univ _)) $$ HV
  iintro HV
  iapply (wp_load 𝒱₀ (c : Thread nD τ) none Set.univ (m := bK) (Finset.subset_univ _)) $$ HK
  iintro HK
  iapply (wp_load 𝒱₀ (c : Thread nD τ) none Set.univ (m := bV) (Finset.subset_univ _)) $$ HV
  iintro HV
  iapply (wp_load 𝒱₀ (c : Thread nD τ) none Set.univ (m := bAcc) (Finset.subset_univ _)) $$ HA
  iintro HA
  iapply (wp_store 𝒱₀ (c : Thread nD τ) none Set.univ (m := bAcc) (r := rU h) (Mk := Finset.univ) (Finset.subset_univ _)) $$ HA
  iintro HA
  iapply (wp_load 𝒱₀ (c : Thread nD τ) none Set.univ (m := bAcc) (Finset.subset_univ _)) $$ HA
  iintro HA
  iapply (wp_store 𝒱₀ (c : Thread nD τ) none Set.univ (m := bAcc) (r := rL h) (Mk := Finset.univ) (Finset.subset_univ _)) $$ HA
  iintro HA
  rw [wp_ret]
  imodintro
  isplitl [HQ]; · iexact HQ
  isplitl [HK]; · iexact HK
  isplitl [HV]; · iexact HV
  iexists _
  isplitr
  rotate_left
  · iexact HA
  ipureintro
  refine cast (congrArg (Acc I c (h.val + 1) own (Lo I c c.val)) ?_) (A.head h rfl ho rfl)
  exact ((write_access cc0_scratch1 (rL h) _ _).trans
    (congrArg (fun g => (rL h).overlay g _) (write_access cc0_scratch1 (rU h) _ _))).symm

/-! ## The copies of the heads' tiles -/

/-- What a copy starts from: the rights to credit both semaphores. -/
def sendPre (ch : Ch) (j : Fin 7) : sProp 𝕄 :=
  iprop(dutyTok ER (sndCell c ch j) 0 0 ∗ reached ER (sndCell c ch j) 0 ∗ dutyTok ER (rcvCell (pr c j) ch j) 0 0
    ∗ reached ER (rcvCell (pr c j) ch j) 0)

/-- A copy of the `j`-th place ahead: what the source's and the destination's owners get back is what the schedule says. -/
theorem send_rule (ch : Ch) (j : Fin 7) (d' : Dev nD) (e : d' = pr c j.val) {sh : Shape} {et : EltTy}
    (src dst : Memref sig .tc .vmem sh et) (sS sR : DmaSem sig) (hS : sS = sndS ch j) (hR : sR = rcvS ch j) (q : PosShare TreeShare)
    (fs : Buf (Elt F) (src.view.loc (c : Thread nD τ)))
    (hsc : dst.view.ref.isScScratch = false) (hsrc : src.view.WordExact) (hdst : dst.view.WordExact)
    (hsem : DmaTarget.Typed .vmem (.dma sR) (.remote (Dev.tc d' : Thread nD τ) dst (.dma sS) hsc))
    (hN : dst.view.amount (.dma sR) = N ch)
    (hp : (src.view.loc (c : Thread nD τ) ↦[src.view.set]{q} fs) ⊢ sendPay I c ch j)
    (hp' : ∀ fd : Buf (Elt F) (dst.view.loc (pr c j.val : Thread nD τ)),
      (dst.view.loc (pr c j.val : Thread nD τ) ↦[dst.view.set]{fullShare} (dst.view.write (Elt F) fd (src.view.read (Elt F) fs) Finset.univ))
        ⊢ recvPay I (pr c j.val) ch j)
    (kk : PUnit → BP F PUnit) (Q : PUnit → sProp 𝕄) :
    iprop(Ctx I κ ∗ owe c (R c (7 * ch.ord + j.val)) ∗ (src.view.loc (c : Thread nD τ) ↦[src.view.set]{q} fs)
        ∗ anyPts (pr c j.val) dst ∗ sendPre c ch j)
      ⊢ iprop((iprop(cred (tallyAt (sndCell c ch j) () (N ch)) ∗ owe c (R c (7 * ch.ord + (j.val + 1)))) -∗ WP c (kk ⟨⟩) Q)
          -∗ WP c (.op (.enqueueDma src (.remote (Dev.tc d') dst (.dma sS) hsc) (.dma sR) hsrc hdst hsem) kk) Q) := by
  subst e hS hR
  unfold owe sendPre anyPts
  iintro ⟨#HC, ⟨%W, HO⟩, HS, ⟨%fd, Hd⟩, Ht1, #Hr1, Ht2, #Hr2⟩ Hk
  iapply (Rounds.wp_send_pointsTo 𝒱₀ ER (Rd I) (c : Thread nD τ) none (c' := (pr c j : Thread nD τ))
    (src := src) (dst := dst) (sS := .dma (sndS ch j)) (sem := .dma (rcvS ch j))
    (q := q) (κ₁ := κ (sndCell c ch j)) (κ₂ := κ (rcvCell (pr c j) ch j))
    (r₁ := 0) (r₂ := 0) (d₁ := 0) (d₂ := 0) (fs := fs) (fd := fd)
    (by rw [duties_snd]; exact Finset.mem_singleton_self _) (by rw [duties_rcv]; exact Finset.mem_singleton_self _)
    () () (N ch) hN (amount_snd I c ch j 0) (amount_rcv I (pr c j) ch j 0) (R c (7 * ch.ord + (j.val + 1))) (R_step c ch j) (W := W)
    (by rw [payload_snd]; exact hp) (by rw [payload_rcv]; exact hp' fd)) $$ [HS Hd HO Ht1 Ht2]
  · isplitr; · iapply (ctx_snd I κ c ch j); iexact HC
    isplitr; · iapply (ctx_rcv I κ (pr c j) ch j); iexact HC
    isplitl [HS]; · iexact HS
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

theorem u_send (h : Fin 8) (j : Fin 7) (hd : ℕ) (hh : h.val < hd) (own : Fin 8 → S64x128.Idx → Elt F .f32) (nl : S64x8.Idx → Elt F .f32) :
    iprop(Ctx I κ ∗ (owe c (R c (7 * h.val + j.val)) ∗ accAt I c Finset.univ hd own nl)
        ∗ (sendPre c (.o h) j ∗ dstAny (pr c j) (.o h) j ∗ anyPts c (tile bSnd j h)))
      ⊢ WP c (pSend c h j) (fun _ => iprop((owe c (R c (7 * h.val + (j.val + 1))) ∗ accAt I c Finset.univ hd own nl)
          ∗ cred (tallyAt (sndCell c (.o h) j) () (N (.o h))))) := by
  unfold pSend accAt
  simp only [lift_bind, lift_eq, any_snd]
  iintro ⟨#HC, ⟨HO, ⟨%f, %A, HA⟩⟩, Ht, Hd, HS⟩
  icases HS with ⟨%g, HS⟩
  iapply (wp_load 𝒱₀ (c : Thread nD τ) none Set.univ (m := bAcc) (Finset.subset_univ _)) $$ HA
  iintro HA
  iapply (wp_load_rect 𝒱₀ (c : Thread nD τ) none Set.univ (m := bSnd) (r := rSlot j h) (S := (tile bSnd j h).view.set) (tileSnd_sub j h)) $$ HS
  iintro HS
  iapply (wp_store 𝒱₀ (c : Thread nD τ) none Set.univ (m := bSnd) (r := rSlot j h) (Mk := Finset.univ) (S := (tile bSnd j h).view.set) (tileSnd_sub j h)) $$ HS
  iintro HS
  iapply (send_rule I κ c (.o h) j _ (dev_eq c j) (tile bSnd j h) (tile bRcv j h) (sem2 cc0_scratch7 j h) (sem2 cc0_scratch8 j h) rfl rfl
    fullShare ((bSnd.access (rSlot j h)).write (Elt F) g (k0_pay9 ((bAcc.access (rFwd c j h)).read (Elt F) f)) Finset.univ) _ _ _ _ rfl ?_ ?_) $$ [HO Ht Hd HS]
  · unfold sendPay anyPts; iintro H; iexists _; iexact H
  · intro fd
    unfold recvPay
    iintro H
    iexists _
    isplitr
    rotate_left
    · iexact H
    · ipureintro
      refine (land_o j h fd _).trans ?_
      refine (View.read_write_univ (v := bSnd.access (rSlot j h)) (Val := Elt F) _ _).trans ?_
      rw [src_pr]
      exact congrArg k0_pay9 (A.fwd h hh j)
  · isplitr; · iexact HC
    isplitl [HO]; · iexact HO
    isplitl [HS]; · iexact HS
    isplitl [Hd]; · unfold dstAny; iexact Hd
    iexact Ht
  iintro ⟨Hc, HO⟩
  unfold WP
  rw [wp_ret]
  imodintro
  isplitl [HO HA]
  · isplitl [HO]; · iexact HO
    iexists f
    isplitr; · ipureintro; exact A
    iexact HA
  iexact Hc

/-- What a wait on a receive semaphore starts from. -/
def rcvPre (ch : Ch) (j : Fin 7) : sProp 𝕄 :=
  iprop(atPos ER (rcvCell c ch j) 0 ∅ 0 ∗ cred (tallyAt (rcvCell c ch j) () (N ch)))
/-- And on a send semaphore. -/
def sndPre (ch : Ch) (j : Fin 7) : sProp 𝕄 :=
  iprop(atPos ER (sndCell c ch j) 0 ∅ 0 ∗ cred (tallyAt (sndCell c ch j) () (N ch)))

theorem u_merge (S : Finset S512x1152.Idx) (h : Fin 8) (j : Fin 7) (k n : ℕ) (hn : 7 * k ≤ n) (hk : h.val < k)
    (hS : (rMe c h).set ⊆ S) (hd : ℕ) (hh : h.val < hd)
    (own : Fin 8 → S64x128.Idx → Elt F .f32) (nl : S64x8.Idx → Elt F .f32) :
    iprop(Ctx I κ ∗ (owe c (R c n) ∗ accAt I c S hd own nl) ∗ rcvPre c (.o h) j)
      ⊢ WP c (pMerge c h j) (fun _ => iprop((owe c (R c n)
          ∗ accAt I c S hd (Function.update own h (payMerge (own h) (Tl I (src c j) h c.val))) nl)
          ∗ (semVal (rcvCell c (.o h) j) 0 ∗ dstAny c (.o h) j))) := by
  unfold pMerge accAt rcvPre
  simp only [lift_bind, lift_eq]
  iintro ⟨#HC, ⟨HO, ⟨%f, %A, HA⟩⟩, Hat, Hc⟩
  iapply (wait_rcv I κ c (.o h) j k n hn hk _ (wpE_waitDma2_eq (src := tile bSnd j h) (dst := tile bRcv j h) 𝒱₀ (c : Thread nD τ) none Set.univ)) $$ [HO Hat Hc]
  · isplitr; · iexact HC
    isplitl [HO]; · iexact HO
    isplitl [Hat]; · iexact Hat
    iexact Hc
  rw [got_rcv]
  iintro ⟨HO, Hsem, ⟨%g, %hg, HR⟩⟩
  iapply (wp_load_rect 𝒱₀ (c : Thread nD τ) none Set.univ (m := bAcc) (r := rMe c h) (S := S) (acc_sub hS)) $$ HA
  iintro HA
  iapply (wp_load_rect 𝒱₀ (c : Thread nD τ) none Set.univ (m := bRcv) (r := rSlot j h) (S := (tile bRcv j h).view.set) (tileRcv_sub j h)) $$ HR
  iintro HR
  iapply (wp_load_rect 𝒱₀ (c : Thread nD τ) none Set.univ (m := bAcc) (r := rMe c h) (S := S) (acc_sub hS)) $$ HA
  iintro HA
  iapply (wp_store 𝒱₀ (c : Thread nD τ) none Set.univ (m := bAcc) (r := rMe c h) (Mk := Finset.univ) (S := S) (acc_sub hS)) $$ HA
  iintro HA
  rw [wp_ret]
  imodintro
  isplitl [HO HA]
  · isplitl [HO]; · iexact HO
    iexists _
    isplitr
    rotate_left
    · iexact HA
    ipureintro
    refine cast (congrArg (Acc I c hd _ nl) ?_) (A.setMe h (payMerge (own h) (Tl I (src c j) h c.val)))
    refine Eq.trans ?_ (write_access cc0_scratch1 (rMe c h) _ _).symm
    exact congrArg (fun w => (rMe c h).overlay f w) (congrArg₂ payMerge (A.me h hh).symm hg.symm)
  isplitl [Hsem]; · iexact Hsem
  rw [any_rcv]
  iexists g; iexact HR

theorem u_sendMl (own : Fin 8 → S64x128.Idx → Elt F .f32) (nl : S64x8.Idx → Elt F .f32) (f : S512x1152.Idx → Elt F .f32) (A : Acc I c 8 own nl f) (j : Fin 7) :
    iprop(Ctx I κ ∗ owe c (R c (56 + j.val))
        ∗ (sendPre c .ml j ∗ dstAny (pr c j) .ml j ∗ pts c (tileMl c j) f))
      ⊢ WP c (pSendMl c j) (fun _ => iprop(owe c (R c (56 + (j.val + 1)))
          ∗ cred (tallyAt (sndCell c .ml j) () (N .ml)))) := by
  unfold pSendMl
  simp only [lift_eq]
  iintro ⟨#HC, HO, Ht, Hd, HS⟩
  iapply (send_rule I κ c .ml j _ (dev_eq c j) (tileMl c j) (slotMl j) (sem1 cc0_scratch9 j) (sem1 cc0_scratch10 j) rfl rfl
    fullShare f _ _ _ _ rfl ?_ ?_) $$ [HO Ht Hd HS]
  · unfold sendPay anyPts; iintro H; iexists _; iexact H
  · intro fd
    unfold recvPay
    iintro H
    iexists _
    isplitr
    rotate_left
    · iexact H
    · ipureintro
      refine (land_ml c j fd _).trans ?_
      rw [src_pr]
      funext x
      have e := A.fwdMl j (x 2) (x 1).isLt
      refine e.trans ?_
      exact congrArg (fun g => n2 (Lv I c g) _ 0) (ofNat_self (show Fin 8 from x 2)).symm
  · isplitr; · iexact HC
    isplitl [HO]; · iexact HO
    isplitl [HS]; · iexact HS
    isplitl [Hd]; · unfold dstAny; iexact Hd
    iexact Ht
  iintro ⟨Hc, HO⟩
  unfold WP
  rw [wp_ret]
  imodintro
  isplitl [HO]; · iexact HO
  iexact Hc

theorem u_mergeMl (S : Finset S512x1152.Idx) (j : Fin 7) (hS : (rMe8 c).set ⊆ S)
    (own : Fin 8 → S64x128.Idx → Elt F .f32) (nl : S64x8.Idx → Elt F .f32) :
    iprop(Ctx I κ ∗ (owe c (R c 63) ∗ accAt I c S 8 own nl) ∗ rcvPre c .ml j)
      ⊢ WP c (pMergeMl c j) (fun _ => iprop((owe c (R c 63)
          ∗ accAt I c S 8 own (k0_pay181 nl (Lt I (src c j) c.val)))
          ∗ (semVal (rcvCell c .ml j) 0 ∗ dstAny c .ml j))) := by
  unfold pMergeMl accAt rcvPre
  simp only [lift_bind, lift_eq]
  iintro ⟨#HC, ⟨HO, ⟨%f, %A, HA⟩⟩, Hat, Hc⟩
  iapply (wait_rcv I κ c .ml j 9 63 (le_refl _) (by decide) _ (wpE_waitDma2_eq (src := tileMl c j) (dst := slotMl j) 𝒱₀ (c : Thread nD τ) none Set.univ)) $$ [HO Hat Hc]
  · isplitr; · iexact HC
    isplitl [HO]; · iexact HO
    isplitl [Hat]; · iexact Hat
    iexact Hc
  rw [got_ml]
  iintro ⟨HO, Hsem, ⟨%g, %hg, HR⟩⟩
  iapply (wp_load_rect 𝒱₀ (c : Thread nD τ) none Set.univ (m := bAcc) (r := rMe8 c) (S := S) (acc_sub hS)) $$ HA
  iintro HA
  iapply (wp_load_rect 𝒱₀ (c : Thread nD τ) none Set.univ (m := bMl) (r := rMl8 j) (S := (slotMl j).view.set) (slotMl_sub j)) $$ HR
  iintro HR
  iapply (wp_load_rect 𝒱₀ (c : Thread nD τ) none Set.univ (m := bAcc) (r := rMe8 c) (S := S) (acc_sub hS)) $$ HA
  iintro HA
  iapply (wp_store 𝒱₀ (c : Thread nD τ) none Set.univ (m := bAcc) (r := rMe8 c) (Mk := Finset.univ) (S := S) (acc_sub hS)) $$ HA
  iintro HA
  rw [wp_ret]
  imodintro
  isplitl [HO HA]
  · isplitl [HO]; · iexact HO
    iexists _
    isplitr
    rotate_left
    · iexact HA
    ipureintro
    refine cast (congrArg (Acc I c 8 own _) ?_) (A.setMe8 (k0_pay181 nl (Lt I (src c j) c.val)))
    refine Eq.trans ?_ (write_access cc0_scratch1 (rMe8 c) _ _).symm
    exact congrArg (fun w => (rMe8 c).overlay f w) (congrArg₂ k0_pay181 A.me8.symm hg.symm)
  isplitl [Hsem]; · iexact Hsem
  rw [any_ml]
  iexists g; iexact HR

theorem u_div (S : Finset S512x1152.Idx) (h : Fin 8) (hS : (rMe c h).set ⊆ S) (hS1 : (rMe1 c h).set ⊆ S)
    (own : Fin 8 → S64x128.Idx → Elt F .f32) (nl : S64x8.Idx → Elt F .f32) :
    accAt I c S 8 own nl ⊢ WP c (pDiv c h) (fun _ => accAt I c S 8 (Function.update own h (k0_pay188 (own h) (col1 nl h))) nl) := by
  unfold pDiv accAt
  simp only [lift_bind, lift_eq]
  iintro ⟨%f, %A, HA⟩
  iapply (wp_load_rect 𝒱₀ (c : Thread nD τ) none Set.univ (m := bAcc) (r := rMe c h) (S := S) (acc_sub hS)) $$ HA
  iintro HA
  iapply (wp_load_rect 𝒱₀ (c : Thread nD τ) none Set.univ (m := bAcc) (r := rMe1 c h) (S := S) (acc_sub hS1)) $$ HA
  iintro HA
  iapply (wp_load_rect 𝒱₀ (c : Thread nD τ) none Set.univ (m := bAcc) (r := rMe c h) (S := S) (acc_sub hS)) $$ HA
  iintro HA
  iapply (wp_store 𝒱₀ (c : Thread nD τ) none Set.univ (m := bAcc) (r := rMe c h) (Mk := Finset.univ) (S := S) (acc_sub hS)) $$ HA
  iintro HA
  rw [wp_ret]
  imodintro
  iexists _
  isplitr
  rotate_left
  · iexact HA
  ipureintro
  refine cast (congrArg (Acc I c 8 _ nl) ?_) (A.setMe h (k0_pay188 (own h) (col1 nl h)))
  refine Eq.trans ?_ (write_access cc0_scratch1 (rMe c h) _ _).symm
  exact congrArg (fun w => (rMe c h).overlay f w) (congrArg₂ k0_pay188 (A.me h h.isLt).symm (A.me1 h).symm)

/-! ## The result -/

theorem write_out (r : Rect S1x512x1024) (f : S1x512x1024.Idx → Elt F .f32) (w : r.shape.Idx → Elt F .f32) :
    ((bOut.access r).write (Elt F) f w Finset.univ) = r.overlay f w := write_access cc0_stg5_0 r f w

/-- The result once `n` received tiles are in it. -/
def outAt (n : ℕ) : sProp 𝕄 := iprop(∃ f, ⌜Out I c n f⌝ ∗ whl c bOut f)

theorem u_proj (S : Finset S512x1152.Idx) (hS : (rMeAll c).set ⊆ S) (nl : S64x8.Idx → Elt F .f32) :
    iprop(accAt I c S 8 (Dv I c) nl ∗ whl c bWo (I.Wo c) ∗ (∃ f, whl c bOut f) ∗ (∃ f, whl c bO f))
      ⊢ WP c (pProj c) (fun _ => iprop(accAt I c S 8 (Dv I c) nl ∗ whl c bWo (I.Wo c) ∗ outAt I c 0 ∗ whl c bO (Bv I c))) := by
  unfold pProj accAt outAt
  simp only [lift_bind, lift_eq]
  iintro ⟨⟨%f, %A, HA⟩, HW, ⟨%g, HG⟩, ⟨%b, HB⟩⟩
  iapply (wp_load_rect 𝒱₀ (c : Thread nD τ) none Set.univ (m := bAcc) (r := rMeAll c) (S := S) (acc_sub hS)) $$ HA
  iintro HA
  iapply (wp_load 𝒱₀ (c : Thread nD τ) none Set.univ (m := bWo) (Finset.subset_univ _)) $$ HW
  iintro HW
  iapply (wp_load_rect 𝒱₀ (c : Thread nD τ) none Set.univ (m := bOut) (r := rOut c) (Finset.subset_univ _)) $$ HG
  iintro HG
  iapply (wp_store 𝒱₀ (c : Thread nD τ) none Set.univ (m := bOut) (r := rOut c) (Mk := Finset.univ) (Finset.subset_univ _)) $$ HG
  iintro HG
  iapply (wp_load_rect 𝒱₀ (c : Thread nD τ) none Set.univ (m := bOut) (r := rOut c) (Finset.subset_univ _)) $$ HG
  iintro HG
  iapply (wp_load_rect 𝒱₀ (c : Thread nD τ) none Set.univ (m := bO) (r := Rect.unit (s := S64x1024) ![0, 0] S64x1024.size inb_S64x1024_S64x1024_0_0) (Finset.subset_univ _)) $$ HB
  iintro HB
  iapply (wp_store 𝒱₀ (c : Thread nD τ) none Set.univ (m := bO) (r := Rect.unit (s := S64x1024) ![0, 0] S64x1024.size inb_S64x1024_S64x1024_0_0) (Mk := Finset.univ) (Finset.subset_univ _)) $$ HB
  iintro HB
  rw [wp_ret]
  imodintro
  have e1 : k0_pay196 ((bAcc.access (rMeAll c)).read (Elt F) f) ((bWo.access (Rect.unit (s := S1024x1024) ![0, 0] S1024x1024.size inb_S1024x1024_S1024x1024_0_0)).read (Elt F) (I.Wo c)) = Pv I c :=
    congrArg₂ k0_pay196 A.meAll (zero_read (s := S1024x1024) _ z2 _ (I.Wo c))
  have e2 : (bOut.access (rOut c)).write (Elt F) g (Pv I c) Finset.univ = (rOut c).overlay g (Pv I c) := write_out (rOut c) g (Pv I c)
  isplitl [HA]
  · iexists f
    isplitr; · ipureintro; exact A
    iexact HA
  isplitl [HW]; · iexact HW
  isplitl [HG]
  · iexists _
    isplitr
    rotate_left
    · iexact HG
    ipureintro
    refine cast (congrArg (Out I c 0) ?_) (Out.zero g)
    exact e2.symm.trans (congrArg (fun w => (bOut.access (rOut c)).write (Elt F) g w Finset.univ) e1.symm)
  have e3 : (bO.access (Rect.unit (s := S64x1024) ![0, 0] S64x1024.size inb_S64x1024_S64x1024_0_0)).write (Elt F) b
      (k0_pay197 ((bOut.access (rOut c)).read (Elt F) ((bOut.access (rOut c)).write (Elt F) g
        (k0_pay196 ((bAcc.access (rMeAll c)).read (Elt F) f) ((bWo.access (Rect.unit (s := S1024x1024) ![0, 0] S1024x1024.size inb_S1024x1024_S1024x1024_0_0)).read (Elt F) (I.Wo c))) Finset.univ)))
      Finset.univ = Bv I c := by
    rw [View.read_write_univ, e1]
    exact (write_access cc0_scratch5 _ b _).trans (zero_overlay (s := S64x1024) _ z2 _ b _)
  rw [← e3]
  iexact HB

/-- A copy of the result: what is sent is a share of the rounded tile. -/
theorem u_sendAg (j : Fin 7) :
    iprop(Ctx I κ ∗ owe c (R c (63 + j.val))
        ∗ (sendPre c .ag j ∗ dstAny (pr c j) .ag j ∗ bO.view.loc (c : Thread nD τ) ↦[bO.view.set]{qAg j} Bv I c))
      ⊢ WP c (pSendAg c j) (fun _ => iprop(owe c (R c (63 + (j.val + 1)))
          ∗ cred (tallyAt (sndCell c .ag j) () (N .ag)))) := by
  unfold pSendAg
  simp only [lift_eq]
  iintro ⟨#HC, HO, Ht, Hd, HS⟩
  iapply (send_rule I κ c .ag j _ (dev_eq c j) bO (slot bAg j) (sem1 cc0_scratch11 j) (sem1 cc0_scratch12 j) rfl rfl
    (qAg j) (Bv I c) _ _ _ _ rfl ?_ ?_) $$ [HO Ht Hd HS]
  · unfold sendPay; iintro H; iexact H
  · intro fd
    rw [got_ag]
    iintro H
    iexists _
    isplitr
    rotate_left
    · iexact H
    · ipureintro
      refine (land_ag j fd _).trans ?_
      rw [src_pr]; rfl
  · isplitr; · iexact HC
    isplitl [HO]; · iexact HO
    isplitl [HS]; · iexact HS
    isplitl [Hd]; · unfold dstAny; iexact Hd
    iexact Ht
  iintro ⟨Hc, HO⟩
  unfold WP
  rw [wp_ret]
  imodintro
  isplitl [HO]; · iexact HO
  iexact Hc

theorem u_sent (h : Fin 8) (j : Fin 7) :
    iprop(Ctx I κ ∗ owe c 0 ∗ sndPre c (.o h) j)
      ⊢ WP c (pSent h j) (fun _ => iprop(owe c 0 ∗ (semVal (sndCell c (.o h) j) 0 ∗ sendPay I c (.o h) j))) := by
  unfold pSent sndPre
  simp only [lift_eq]
  iintro ⟨#HC, HO, Hat, Hc⟩
  iapply (wait_snd I κ c (.o h) j _ (wpE_waitDma2_eq (src := tile bRcv j h) (dst := tile bSnd j h) 𝒱₀ (c : Thread nD τ) none Set.univ)) $$ [HO Hat Hc]
  · isplitr; · iexact HC
    isplitl [HO]; · iexact HO
    isplitl [Hat]; · iexact Hat
    iexact Hc
  iintro H
  unfold WP
  rw [wp_ret]
  imodintro
  iexact H

theorem u_sentMl (j : Fin 7) :
    iprop(Ctx I κ ∗ owe c 0 ∗ sndPre c .ml j)
      ⊢ WP c (pSentMl c j) (fun _ => iprop(owe c 0 ∗ (semVal (sndCell c .ml j) 0 ∗ sendPay I c .ml j))) := by
  unfold pSentMl sndPre
  simp only [lift_eq]
  iintro ⟨#HC, HO, Hat, Hc⟩
  iapply (wait_snd I κ c .ml j _ (wpE_waitDma2_eq (src := slotMl j) (dst := tileMl c j) 𝒱₀ (c : Thread nD τ) none Set.univ)) $$ [HO Hat Hc]
  · isplitr; · iexact HC
    isplitl [HO]; · iexact HO
    isplitl [Hat]; · iexact Hat
    iexact Hc
  iintro H
  unfold WP
  rw [wp_ret]
  imodintro
  iexact H

theorem u_sentAg (j : Fin 7) :
    iprop(Ctx I κ ∗ owe c 0 ∗ sndPre c .ag j)
      ⊢ WP c (pSentAg j) (fun _ => iprop(owe c 0 ∗ (semVal (sndCell c .ag j) 0 ∗ sendPay I c .ag j))) := by
  unfold pSentAg sndPre
  simp only [lift_eq]
  iintro ⟨#HC, HO, Hat, Hc⟩
  iapply (wait_snd I κ c .ag j _ (wpE_waitDma2_eq (src := slot bAg j) (dst := bO) 𝒱₀ (c : Thread nD τ) none Set.univ)) $$ [HO Hat Hc]
  · isplitr; · iexact HC
    isplitl [HO]; · iexact HO
    isplitl [Hat]; · iexact Hat
    iexact Hc
  iintro H
  unfold WP
  rw [wp_ret]
  imodintro
  iexact H

theorem u_gather (j : Fin 7) :
    iprop(Ctx I κ ∗ (owe c (R c 70) ∗ outAt I c j.val) ∗ rcvPre c .ag j)
      ⊢ WP c (pGather c j) (fun _ => iprop((owe c (R c 70) ∗ outAt I c (j.val + 1))
          ∗ (semVal (rcvCell c .ag j) 0 ∗ dstAny c .ag j))) := by
  unfold pGather rcvPre outAt
  simp only [lift_bind, lift_eq]
  iintro ⟨#HC, ⟨HO, ⟨%f, %A, HA⟩⟩, Hat, Hc⟩
  iapply (wait_rcv I κ c .ag j 10 70 (le_refl _) (by decide) _ (wpE_waitDma2_eq (src := bO) (dst := slot bAg j) 𝒱₀ (c : Thread nD τ) none Set.univ)) $$ [HO Hat Hc]
  · isplitr; · iexact HC
    isplitl [HO]; · iexact HO
    isplitl [Hat]; · iexact Hat
    iexact Hc
  rw [got_ag]
  iintro ⟨HO, Hsem, ⟨%g, %hg, HR⟩⟩
  iapply (wp_load_rect 𝒱₀ (c : Thread nD τ) none Set.univ (m := bAg) (r := rSlotAll j) (S := (slot bAg j).view.set) (slotAg_sub j)) $$ HR
  iintro HR
  iapply (wp_load_rect 𝒱₀ (c : Thread nD τ) none Set.univ (m := bOut) (r := rOutB c j) (Finset.subset_univ _)) $$ HA
  iintro HA
  iapply (wp_store 𝒱₀ (c : Thread nD τ) none Set.univ (m := bOut) (r := rOutB c j) (Mk := Finset.univ) (Finset.subset_univ _)) $$ HA
  iintro HA
  rw [wp_ret]
  imodintro
  isplitl [HO HA]
  · isplitl [HO]; · iexact HO
    iexists _
    isplitr
    rotate_left
    · iexact HA
    ipureintro
    refine cast (congrArg (Out I c (j.val + 1)) ?_) (A.step j rfl)
    refine Eq.trans ?_ (write_out (rOutB c j) _ _).symm
    exact congrArg (fun w => (rOutB c j).overlay f w) (congrArg k0_pay198 hg.symm)
  isplitl [Hsem]; · iexact Hsem
  rw [any_ag]
  iexists g; iexact HR

end Cert.KernelIdeal.Own
-- ==== Proof.Phases.lean ====
/-
  The loops of the body, each from its step, and how what belongs to the kinds of copies is grouped for them.
-/
module

public import proofs.«01_k».proof.Proof.Steps

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-! ## Grouping -/

theorem sum_sep {α β : Type} [Fintype α] [Fintype β] (Φ : α ⊕ β → sProp 𝕄) :
    bigSep Finset.univ Φ = iprop(bigSep Finset.univ (fun a => Φ (.inl a)) ∗ bigSep Finset.univ (fun b => Φ (.inr b))) := bigSep_univ_sum Φ

def eCh : Fin 8 ⊕ Fin 2 ≃ Ch where
  toFun | .inl h => .o h | .inr 0 => .ml | .inr 1 => .ag
  invFun | .o h => .inl h | .ml => .inr 0 | .ag => .inr 1
  left_inv | .inl h => rfl | .inr 0 => rfl | .inr 1 => rfl
  right_inv | .o h => rfl | .ml => rfl | .ag => rfl

/-- The kinds of copies: the eight heads, the sums, the result. -/
theorem split_ch (Φ : Ch → sProp 𝕄) :
    bigSep Finset.univ Φ = iprop(bigSep Finset.univ (fun h : Fin 8 => Φ (.o h)) ∗ Φ .ml ∗ Φ .ag) := by
  rw [bigSep_univ_equiv eCh, sum_sep, bigSep_univ_two]; rfl

/-- The heads: the first two and the other six, -/
theorem split_first (Φ : Fin 8 → sProp 𝕄) :
    bigSep Finset.univ Φ = iprop((Φ 0 ∗ Φ 1) ∗ bigSep Finset.univ (fun g : Fin 6 => Φ ⟨g.val + 2, by omega⟩)) := by
  rw [bigSep_univ_equiv (finSumFinEquiv (m := 2) (n := 6)), sum_sep, bigSep_univ_two]
  refine congrArg₂ _ rfl (bigSep_congr fun g _ => congrArg Φ (Fin.ext ?_))
  show 2 + g.val = g.val + 2; omega

/-- or the first six and the last two. -/
theorem split_last (Φ : Fin 8 → sProp 𝕄) :
    bigSep Finset.univ Φ = iprop(bigSep Finset.univ (fun g : Fin 6 => Φ ⟨g.val, by omega⟩) ∗ Φ 6 ∗ Φ 7) := by
  rw [bigSep_univ_equiv (finSumFinEquiv (m := 6) (n := 2)), sum_sep, bigSep_univ_two]; rfl

theorem two_sep {α : Type} [Fintype α] (Φ Ψ : α → sProp 𝕄) :
    bigSep Finset.univ (fun a => iprop(Φ a ∗ Ψ a)) = iprop(bigSep Finset.univ Φ ∗ bigSep Finset.univ Ψ) := bigSep_sep' _ Φ Ψ

theorem mono_sep {α : Type} [Fintype α] {Φ Ψ : α → sProp 𝕄} (h : ∀ a, Φ a ⊢ Ψ a) : bigSep Finset.univ Φ ⊢ bigSep Finset.univ Ψ :=
  bigSep_mono fun a _ => h a
theorem emp_sep' {α : Type} [Fintype α] : (iprop(emp) : sProp 𝕄) ⊢ bigSep Finset.univ fun _ : α => iprop(emp) :=
  BIBase.Entails.of_eq (bigSep_emp_const _).symm

theorem regroup {α : Type} [Fintype α] (Φ₁ Φ₂ Φ₃ : α → sProp 𝕄) :
    bigSep Finset.univ (fun a => iprop((Φ₁ a ∗ Φ₂ a) ∗ Φ₃ a)) ⊢ bigSep Finset.univ (fun a => iprop(Φ₁ a ∗ Φ₂ a ∗ Φ₃ a)) :=
  mono_sep fun a => by
    iintro ⟨⟨H1, H2⟩, H3⟩
    isplitl [H1]; · iexact H1
    isplitl [H2] <;> iassumption

/-- Steps one after the other. -/
theorem seq (c : Dev nD) {β : Type} {p : BP F PUnit} {A B : sProp 𝕄} (h : A ⊢ WP c p (fun _ => B)) (k : PUnit → BP F β) (Q : β → sProp 𝕄) :
    A ⊢ iprop((B -∗ WP c (k ⟨⟩) Q) -∗ WP c (p >>= k) Q) := by
  unfold WP
  rw [wp_bind]
  iintro HA Hk
  iapply (wp_wand _ _ _) $$ [HA]
  · iapply h; iexact HA
  iintro %a HB
  iapply Hk; iexact HB

/-! ## What the own tiles hold -/

variable (I : Ins F) (κ : GSem nD τ sig → ℕ) (c : Dev nD)

/-- The own tiles once the heads before `g` are merged and `i` tiles of head `g`. -/
def ownM (g i : ℕ) : Fin 8 → S64x128.Idx → Elt F .f32 := fun k => Mv I c k (if k.val < g then 7 else if k.val = g then i else 0)

theorem ownM_step (h : Fin 8) (i : ℕ) :
    Function.update (ownM I c h.val i) h (payMerge (ownM I c h.val i h) (Tl I (src c i) h c.val)) = ownM I c h.val (i + 1) := by
  funext k
  unfold ownM
  by_cases e : k = h
  · subst e
    rw [Function.update_self, if_neg (lt_irrefl _), if_pos rfl, if_neg (lt_irrefl _), if_pos rfl]; rfl
  · rw [Function.update_of_ne e]
    have : k.val ≠ h.val := fun h' => e (Fin.ext h')
    rw [if_neg this, if_neg this]
theorem ownM_next (g : ℕ) : ownM I c g 7 = ownM I c (g + 1) 0 := by
  funext k
  unfold ownM
  congr 1
  split_ifs <;> omega
theorem ownM_zero (g : ℕ) (h : Fin 8) (hh : g ≤ h.val) : ownM I c g 0 h = Ut I c h c.val := by
  unfold ownM
  rw [if_neg (by omega), ite_self]; rfl
theorem ownM_end : ownM I c 8 0 = fun h => Mv I c h 7 := by
  funext k
  unfold ownM
  rw [if_pos k.isLt]

/-- The own tiles once `n` heads are divided. -/
def ownD (n : ℕ) : Fin 8 → S64x128.Idx → Elt F .f32 := fun k => if k.val < n then Dv I c k else Mv I c k 7
theorem ownD_step (h : Fin 8) :
    Function.update (ownD I c h.val) h (k0_pay188 (ownD I c h.val h) (col1 (Nv I c 7) h)) = ownD I c (h.val + 1) := by
  funext k
  unfold ownD
  by_cases e : k = h
  · subst e
    rw [Function.update_self, if_neg (lt_irrefl _), if_pos (Nat.lt_succ_self _)]; rfl
  · rw [Function.update_of_ne e]
    have : k.val ≠ h.val := fun h' => e (Fin.ext h')
    by_cases e' : k.val < h.val
    · rw [if_pos e', if_pos (by omega)]
    · rw [if_neg e', if_neg (by omega)]
theorem ownD_end : ownD I c 8 = Dv I c := by
  funext k
  unfold ownD
  rw [if_pos k.isLt]

/-! ## What the loops start from and leave -/

/-- The copies of one kind, before they are issued. -/
def sendIn (ch : Ch) : sProp 𝕄 := bigSep Finset.univ fun j : Fin 7 => iprop(sendPre (F := F) c ch j ∗ dstAny (pr c j) ch j)
/-- Head `h`'s tiles of the buffer the copies are made from. -/
def tilesO (h : Fin 8) : sProp 𝕄 := bigSep Finset.univ fun j : Fin 7 => anyPts (F := F) c (tile bSnd j h)
/-- The copies of one kind, issued. -/
def credS (ch : Ch) : sProp 𝕄 := bigSep Finset.univ fun j : Fin 7 => cred (tallyAt (sndCell c ch j) () (N ch))
def rcvIn (ch : Ch) : sProp 𝕄 := bigSep Finset.univ fun j : Fin 7 => rcvPre (F := F) c ch j
def rcvOut (ch : Ch) : sProp 𝕄 := bigSep Finset.univ fun j : Fin 7 => iprop(semVal (rcvCell c ch j) 0 ∗ dstAny (F := F) c ch j)
def sndIn (ch : Ch) : sProp 𝕄 := bigSep Finset.univ fun j : Fin 7 => sndPre (F := F) c ch j
def sndOut (ch : Ch) : sProp 𝕄 := bigSep Finset.univ fun j : Fin 7 => iprop(semVal (sndCell c ch j) 0 ∗ sendPay I c ch j)

theorem l_signal : iprop(Ctx I κ ∗ owe c (B c 0) ∗ bigSep Finset.univ fun j : Fin 7 => iprop(dutyTok ER (barCell (pr c j)) 0 j ∗ grant (F := F) c (rev j)))
    ⊢ WP c (steps 7 (pSignal c)) (fun _ => iprop(owe c (R c 0) ∗ bigSep Finset.univ fun _ : Fin 7 => iprop(emp))) := by
  have h := steps_rule c (pSignal (F := F) c) (Ctx I κ) (fun n => owe c (B c n))
    (fun j => iprop(dutyTok ER (barCell (pr c j)) 0 j ∗ grant (F := F) c (rev j))) (fun _ => iprop(emp)) (u_signal I κ c)
  rwa [B_end] at h

theorem l_send (h : Fin 8) (n m : ℕ) (hn : n = 7 * h.val) (hm : m = 7 * h.val + 7) (hd : ℕ) (hh : h.val < hd) (own : Fin 8 → S64x128.Idx → Elt F .f32) (nl : S64x8.Idx → Elt F .f32) :
    iprop(Ctx I κ ∗ (owe c (R c n) ∗ accAt I c Finset.univ hd own nl) ∗ (sendIn c (.o h) ∗ tilesO c h))
      ⊢ WP c (steps 7 (pSend c h)) (fun _ => iprop((owe c (R c m) ∗ accAt I c Finset.univ hd own nl) ∗ credS c (.o h))) := by
  subst hn hm
  have hr := steps_rule c (pSend (F := F) c h) (Ctx I κ) (fun i => iprop(owe c (R c (7 * h.val + i)) ∗ accAt I c Finset.univ hd own nl))
    (fun j => iprop(sendPre c (.o h) j ∗ dstAny (pr c j) (.o h) j ∗ anyPts c (tile bSnd j h)))
    (fun j => cred (tallyAt (sndCell c (.o h) j) () (N (.o h)))) (fun j => u_send I κ c h j hd hh own nl)
  refine BIBase.Entails.trans ?_ hr
  unfold sendIn tilesO
  rw [← two_sep]
  iintro ⟨HC, HI, H⟩
  isplitl [HC]; · iexact HC
  isplitl [HI]; · iexact HI
  iapply regroup; iexact H

theorem l_merge (S : Finset S512x1152.Idx) (h : Fin 8) (k n : ℕ) (hn : 7 * k ≤ n) (hk : h.val < k)
    (hS : (rMe c h).set ⊆ S) (hd : ℕ) (hh : h.val < hd) (nl : S64x8.Idx → Elt F .f32) :
    iprop(Ctx I κ ∗ (owe c (R c n) ∗ accAt I c S hd (ownM I c h.val 0) nl) ∗ rcvIn c (.o h))
      ⊢ WP c (steps 7 (pMerge c h)) (fun _ => iprop((owe c (R c n) ∗ accAt I c S hd (ownM I c (h.val + 1) 0) nl) ∗ rcvOut c (.o h))) := by
  have hr := steps_rule c (pMerge (F := F) c h) (Ctx I κ) (fun i => iprop(owe c (R c n) ∗ accAt I c S hd (ownM I c h.val i) nl))
    (fun j => rcvPre c (.o h) j) (fun j => iprop(semVal (rcvCell c (.o h) j) 0 ∗ dstAny (F := F) c (.o h) j))
    (fun j => by
      have := u_merge I κ c S h j k n hn hk hS hd hh (ownM I c h.val j.val) nl
      rwa [ownM_step] at this)
  rwa [ownM_next] at hr

theorem l_mergeMl (S : Finset S512x1152.Idx) (hS : (rMe8 c).set ⊆ S) (own : Fin 8 → S64x128.Idx → Elt F .f32) :
    iprop(Ctx I κ ∗ (owe c (R c 63) ∗ accAt I c S 8 own (Lo I c c.val)) ∗ rcvIn c .ml)
      ⊢ WP c (steps 7 (pMergeMl c)) (fun _ => iprop((owe c (R c 63) ∗ accAt I c S 8 own (Nv I c 7)) ∗ rcvOut c .ml)) :=
  steps_rule c (pMergeMl (F := F) c) (Ctx I κ) (fun i => iprop(owe c (R c 63) ∗ accAt I c S 8 own (Nv I c i)))
    (fun j => rcvPre c .ml j) (fun j => iprop(semVal (rcvCell c .ml j) 0 ∗ dstAny (F := F) c .ml j))
    (fun j => u_mergeMl I κ c S j hS own (Nv I c j.val))

theorem l_div (S : Finset S512x1152.Idx) (hS : ∀ h, (rMe c h).set ⊆ S) (hS1 : ∀ h, (rMe1 c h).set ⊆ S) :
    accAt I c S 8 (fun h => Mv I c h 7) (Nv I c 7) ⊢ WP c (steps 8 (pDiv c)) (fun _ => accAt I c S 8 (Dv I c) (Nv I c 7)) := by
  have hr := steps_rule c (pDiv (F := F) c) iprop(emp) (fun i => accAt I c S 8 (ownD I c i) (Nv I c 7)) (fun _ => iprop(emp)) (fun _ => iprop(emp))
    (fun h => by
      have := u_div I c S h (hS h) (hS1 h) (ownD I c h.val) (Nv I c 7)
      rw [ownD_step] at this
      iintro ⟨-, HA, -⟩
      iapply (wp_wand _ _ _) $$ [HA]
      · iapply this; iexact HA
      iintro %_ H
      isplitl [H]; · iexact H
      iempintro)
  rw [ownD_end] at hr
  iintro HA
  iapply (wp_wand _ _ _) $$ [HA]
  · iapply hr
    isplitr; · iempintro
    isplitl [HA]; · iexact HA
    iapply emp_sep'; iempintro
  iintro %_ ⟨H, -⟩
  iexact H

theorem l_sendMl (own : Fin 8 → S64x128.Idx → Elt F .f32) (nl : S64x8.Idx → Elt F .f32) (f : S512x1152.Idx → Elt F .f32) (A : Acc I c 8 own nl f) :
    iprop(Ctx I κ ∗ owe c (R c 56) ∗ (sendIn c .ml ∗ bigSep Finset.univ fun j : Fin 7 => pts c (tileMl c j) f))
      ⊢ WP c (steps 7 (pSendMl c)) (fun _ => iprop(owe c (R c 63) ∗ credS c .ml)) := by
  have hr := steps_rule c (pSendMl (F := F) c) (Ctx I κ) (fun i => owe c (R c (56 + i)))
    (fun j => iprop(sendPre c .ml j ∗ dstAny (pr c j) .ml j ∗ pts c (tileMl c j) f))
    (fun j => cred (tallyAt (sndCell c .ml j) () (N .ml))) (fun j => u_sendMl I κ c own nl f A j)
  refine BIBase.Entails.trans ?_ hr
  unfold sendIn
  rw [← two_sep]
  iintro ⟨HC, HI, H⟩
  isplitl [HC]; · iexact HC
  isplitl [HI]; · iexact HI
  iapply regroup; iexact H

theorem l_sendAg :
    iprop(Ctx I κ ∗ owe c (R c 63) ∗ (sendIn c .ag ∗ bigSep Finset.univ fun j : Fin 7 => bO.view.loc (c : Thread nD τ) ↦[bO.view.set]{qAg j} Bv I c))
      ⊢ WP c (steps 7 (pSendAg c)) (fun _ => iprop(owe c (R c 70) ∗ credS c .ag)) := by
  have hr := steps_rule c (pSendAg (F := F) c) (Ctx I κ) (fun i => owe c (R c (63 + i)))
    (fun j => iprop(sendPre c .ag j ∗ dstAny (pr c j) .ag j ∗ bO.view.loc (c : Thread nD τ) ↦[bO.view.set]{qAg j} Bv I c))
    (fun j => cred (tallyAt (sndCell c .ag j) () (N .ag))) (fun j => u_sendAg I κ c j)
  refine BIBase.Entails.trans ?_ hr
  unfold sendIn
  rw [← two_sep]
  iintro ⟨HC, HI, H⟩
  isplitl [HC]; · iexact HC
  isplitl [HI]; · iexact HI
  iapply regroup; iexact H

theorem l_sent : iprop(Ctx I κ ∗ owe c 0 ∗ bigSep Finset.univ fun h : Fin 8 => sndIn c (.o h))
    ⊢ WP c (steps 8 (fun h => steps 7 (pSent h))) (fun _ => iprop(owe c 0 ∗ bigSep Finset.univ fun h : Fin 8 => sndOut I c (.o h))) :=
  steps_rule c _ (Ctx I κ) (fun _ => owe c 0) (fun h : Fin 8 => sndIn c (.o h)) (fun h : Fin 8 => sndOut I c (.o h))
    fun h => steps_rule c (pSent (F := F) h) (Ctx I κ) (fun _ => owe c 0) _ _ (u_sent I κ c h)
theorem l_sentMl : iprop(Ctx I κ ∗ owe c 0 ∗ sndIn c .ml) ⊢ WP c (steps 7 (pSentMl c)) (fun _ => iprop(owe c 0 ∗ sndOut I c .ml)) :=
  steps_rule c (pSentMl (F := F) c) (Ctx I κ) (fun _ => owe c 0) _ _ (u_sentMl I κ c)
theorem l_sentAg : iprop(Ctx I κ ∗ owe c 0 ∗ sndIn c .ag) ⊢ WP c (steps 7 pSentAg) (fun _ => iprop(owe c 0 ∗ sndOut I c .ag)) :=
  steps_rule c (pSentAg (F := F)) (Ctx I κ) (fun _ => owe c 0) _ _ (u_sentAg I κ c)
theorem l_gather : iprop(Ctx I κ ∗ (owe c (R c 70) ∗ outAt I c 0) ∗ rcvIn c .ag)
    ⊢ WP c (steps 7 (pGather c)) (fun _ => iprop((owe c (R c 70) ∗ outAt I c 7) ∗ rcvOut c .ag)) :=
  steps_rule c (pGather (F := F) c) (Ctx I κ) (fun i => iprop(owe c (R c 70) ∗ outAt I c i)) _ _ (u_gather I κ c)

/-- What a round of the heads keeps besides the accumulator. -/
def ins : sProp 𝕄 := iprop(whl c bQ (Qv I c) ∗ whl c bK (I.K c) ∗ whl c bV (I.V c))

theorem l_head (h : Fin 8) (n : ℕ) (hn : h.val = n) (own : Fin 8 → S64x128.Idx → Elt F .f32) (ho : own h = Ut I c h c.val) :
    iprop(ins I c ∗ accAt I c Finset.univ n own (Lo I c c.val))
      ⊢ WP c (pHead h) (fun _ => iprop(ins I c ∗ accAt I c Finset.univ (n + 1) own (Lo I c c.val))) := by
  subst hn
  have hu := u_head I c h own ho
  unfold ins
  iintro ⟨⟨H1, H2, H3⟩, H4⟩
  iapply (wp_wand _ _ _) $$ [H1 H2 H3 H4]
  · iapply hu
    isplitl [H1]; · iexact H1
    isplitl [H2]; · iexact H2
    isplitl [H3] <;> iassumption
  iintro %_ ⟨H1, H2, H3, H4⟩
  isplitl [H1 H2 H3]
  · isplitl [H1]; · iexact H1
    isplitl [H2] <;> iassumption
  iexact H4

/-- The head a round computes, and the one it merges. -/
abbrev up (g : Fin 6) : Fin 8 := ⟨g.val + 2, by omega⟩
abbrev dn (g : Fin 6) : Fin 8 := ⟨g.val, by omega⟩

/-- What a round starts from and leaves. -/
def rndIn (g : Fin 6) : sProp 𝕄 := iprop((sendIn (F := F) c (.o (up g)) ∗ tilesO c (up g)) ∗ rcvIn (F := F) c (.o (dn g)))
def rndOut (g : Fin 6) : sProp 𝕄 := iprop(credS c (.o (up g)) ∗ rcvOut (F := F) c (.o (dn g)))
def rndInv (g : ℕ) : sProp 𝕄 := iprop(ins I c ∗ owe c (R c (7 * (g + 2))) ∗ accAt I c Finset.univ (g + 2) (ownM I c g 0) (Lo I c c.val))

theorem l_round (g : Fin 6) : iprop(Ctx I κ ∗ rndInv I c g.val ∗ rndIn c g) ⊢ WP c (pRound c g) (fun _ => iprop(rndInv I c (g.val + 1) ∗ rndOut c g)) := by
  unfold rndInv rndIn rndOut
  unfold pRound
  iintro ⟨#HC, ⟨Hi, HO, HA⟩, ⟨⟨Hs, Ht⟩, Hr⟩⟩
  iapply (seq c (l_head I c (up g) (g.val + 2) rfl (ownM I c g.val 0) (ownM_zero I c _ _ (by show g.val ≤ g.val + 2; omega)))) $$ [Hi HA]
  · isplitl [Hi] <;> iassumption
  iintro ⟨Hi, HA⟩
  iapply (seq c (l_send I κ c (up g) (7 * (g.val + 2)) (7 * (g.val + 3)) rfl (by show _ = 7 * (g.val + 2) + 7; omega) (g.val + 3) (by show g.val + 2 < _; omega) (ownM I c g.val 0) (Lo I c c.val))) $$ [HO HA Hs Ht]
  · isplitr; · iexact HC
    isplitl [HO HA]
    · isplitl [HO] <;> iassumption
    isplitl [Hs] <;> iassumption
  iintro ⟨⟨HO, HA⟩, Hc⟩
  iapply (wp_wand _ _ _) $$ [HO HA Hr]
  · iapply (l_merge I κ c Finset.univ (dn g) (g.val + 1) (7 * (g.val + 3)) (by omega) (by show g.val < _; omega) (Finset.subset_univ _) (g.val + 3) (by show g.val < _; omega) (Lo I c c.val))
    isplitr; · iexact HC
    isplitl [HO HA]
    · isplitl [HO] <;> iassumption
    iexact Hr
  iintro %_ ⟨⟨HO, HA⟩, Hr⟩
  isplitl [Hi HO HA]
  · isplitl [Hi]; · iexact Hi
    isplitl [HO] <;> iassumption
  isplitl [Hc] <;> iassumption

theorem l_rounds : iprop(Ctx I κ ∗ rndInv I c 0 ∗ bigSep Finset.univ (rndIn c))
    ⊢ WP c (steps 6 (pRound c)) (fun _ => iprop(rndInv I c 6 ∗ bigSep Finset.univ (rndOut c))) :=
  steps_rule c (pRound (F := F) c) (Ctx I κ) (rndInv I c) (rndIn c) (rndOut c) (l_round I κ c)

end Cert.KernelIdeal.Own
-- ==== Proof.Split.lean ====
/-
  The buffers of the body held slot by slot, and joined back; the rights handed over at the barrier regrouped by the kind
  of copy they belong to.
-/
module

public import proofs.«01_k».proof.Proof.Phases
public import Idealize.ShloMosaic.Lib.Ring

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-! ## The slots are apart and cover their buffer -/

theorem slot_apart (p p' : Fin 7 × Fin 8) (h : p ≠ p') : Disjoint (rSlot p.1 p.2).set (rSlot p'.1 p'.2).set := by
  refine Finset.disjoint_left.mpr fun x h1 h2 => h ?_
  rw [Rect.mem_set_unit] at h1 h2
  have a0 : p.1.val ≤ (x 0).val ∧ (x 0).val < p.1.val + 1 := h1 0
  have b0 : p'.1.val ≤ (x 0).val ∧ (x 0).val < p'.1.val + 1 := h2 0
  have a2 : 128 * p.2.val ≤ (x 2).val ∧ (x 2).val < 128 * p.2.val + 128 := h1 2
  have b2 : 128 * p'.2.val ≤ (x 2).val ∧ (x 2).val < 128 * p'.2.val + 128 := h2 2
  exact Prod.ext (Fin.ext (by omega)) (Fin.ext (by omega))
theorem slot_cover : (Finset.univ.biUnion fun p : Fin 7 × Fin 8 => (rSlot p.1 p.2).set) = Finset.univ := by
  refine Finset.eq_univ_of_forall fun x => Finset.mem_biUnion.mpr ?_
  have h0 : (x 0).val < 7 := (x 0).isLt
  have h1 : (x 1).val < 64 := (x 1).isLt
  have h2 : (x 2).val < 1024 := (x 2).isLt
  refine ⟨(⟨(x 0).val, h0⟩, ⟨(x 2).val / 128, by omega⟩), Finset.mem_univ _, ?_⟩
  rw [Rect.mem_set_unit]
  intro a
  match a with
  | 0 => exact ⟨le_refl _, Nat.lt_succ_self _⟩
  | 1 => exact ⟨Nat.zero_le _, by show _ < 0 + 64; omega⟩
  | 2 => exact ⟨by show 128 * ((x 2).val / 128) ≤ _; omega, by show _ < 128 * ((x 2).val / 128) + 128; omega⟩

theorem slotAll_apart (j j' : Fin 7) (h : j ≠ j') : Disjoint (rSlotAll j).set (rSlotAll j').set := by
  refine Finset.disjoint_left.mpr fun x h1 h2 => h ?_
  rw [Rect.mem_set_unit] at h1 h2
  have a0 : j.val ≤ (x 0).val ∧ (x 0).val < j.val + 1 := h1 0
  have b0 : j'.val ≤ (x 0).val ∧ (x 0).val < j'.val + 1 := h2 0
  exact Fin.ext (by omega)
theorem slotAll_cover : (Finset.univ.biUnion fun j : Fin 7 => (rSlotAll j).set) = Finset.univ := by
  refine Finset.eq_univ_of_forall fun x => Finset.mem_biUnion.mpr ?_
  have h0 : (x 0).val < 7 := (x 0).isLt
  have h1 : (x 1).val < 64 := (x 1).isLt
  have h2 : (x 2).val < 1024 := (x 2).isLt
  refine ⟨⟨(x 0).val, h0⟩, Finset.mem_univ _, ?_⟩
  rw [Rect.mem_set_unit]
  intro a
  match a with
  | 0 => exact ⟨le_refl _, Nat.lt_succ_self _⟩
  | 1 => exact ⟨Nat.zero_le _, by show _ < 0 + 64; omega⟩
  | 2 => exact ⟨Nat.zero_le _, by show _ < 0 + 1024; omega⟩

theorem ml_apart (j j' : Fin 7) (h : j ≠ j') : Disjoint (rMl j).set (rMl j').set := by
  refine Finset.disjoint_left.mpr fun x h1 h2 => h ?_
  rw [Rect.mem_set_unit] at h1 h2
  have a0 : j.val ≤ (x 0).val ∧ (x 0).val < j.val + 1 := h1 0
  have b0 : j'.val ≤ (x 0).val ∧ (x 0).val < j'.val + 1 := h2 0
  exact Fin.ext (by omega)
theorem ml_cover : (Finset.univ.biUnion fun j : Fin 7 => (rMl j).set) = Finset.univ := by
  refine Finset.eq_univ_of_forall fun x => Finset.mem_biUnion.mpr ?_
  have h0 : (x 0).val < 7 := (x 0).isLt
  have h1 : (x 1).val < 64 := (x 1).isLt
  have h2 : (x 2).val < 128 := (x 2).isLt
  refine ⟨⟨(x 0).val, h0⟩, Finset.mem_univ _, ?_⟩
  rw [Rect.mem_set_unit]
  intro a
  match a with
  | 0 => exact ⟨le_refl _, Nat.lt_succ_self _⟩
  | 1 => exact ⟨Nat.zero_le _, by show _ < 0 + 64; omega⟩
  | 2 => exact ⟨Nat.zero_le _, by show _ < 0 + 128; omega⟩

/-- The rows the sums are sent from, and the rest of the accumulator. -/
theorem fwdMl_apart (c : Dev nD) (j j' : Fin 7) (h : j ≠ j') : Disjoint (rFwdMl c j).set (rFwdMl c j').set := by
  refine Finset.disjoint_left.mpr fun x h1 h2 => h ?_
  rw [Rect.mem_set_unit] at h1 h2
  have a0 : offFwd c (wd j) 1024 0 ≤ (x 0).val ∧ (x 0).val < offFwd c (wd j) 1024 0 + 64 := h1 0
  have b0 : offFwd c (wd j') 1024 0 ≤ (x 0).val ∧ (x 0).val < offFwd c (wd j') 1024 0 + 64 := h2 0
  rw [offFwd0] at a0 b0
  have e : (pr c j).val = (pr c j').val := by omega
  have e : (c.val + (j.val + 1)) % 8 = (c.val + (j'.val + 1)) % 8 := e
  have := dev_lt c
  exact Fin.ext (by omega)
def sentMl (c : Dev nD) : Finset S512x1152.Idx := Finset.univ.biUnion fun j : Fin 7 => (rFwdMl c j).set
/-- What of the accumulator is not sent with the sums. -/
def kept (c : Dev nD) : Finset S512x1152.Idx := Finset.univ \ sentMl c

theorem mem_kept (c : Dev nD) (x : S512x1152.Idx) (h : (x 0).val / 64 = c.val) : x ∈ kept c := by
  refine Finset.mem_sdiff.mpr ⟨Finset.mem_univ _, fun hm => ?_⟩
  obtain ⟨j, -, hj⟩ := Finset.mem_biUnion.mp hm
  rw [Rect.mem_set_unit] at hj
  have a0 : offFwd c (wd j) 1024 0 ≤ (x 0).val ∧ (x 0).val < offFwd c (wd j) 1024 0 + 64 := hj 0
  rw [offFwd0] at a0
  have := pr_ne c j
  omega
theorem own_kept (c : Dev nD) (col n : ℕ) (h) : (Rect.unit (s := S512x1152) (offMe c col) ![64, n] h).set ⊆ kept c := by
  intro x hx
  rw [Rect.mem_set_unit] at hx
  have a0 : offMe c col 0 ≤ (x 0).val ∧ (x 0).val < offMe c col 0 + 64 := hx 0
  rw [offMe0] at a0
  exact mem_kept c x (by omega)

/-! ## Held slot by slot -/

section Blocks
variable {ℓ : Loc nD τ sig} {B : Type} [Fintype B] [DecidableEq B] (Is : B → Finset (Idx ℓ))
  (hd : ∀ b b', b ≠ b' → Disjoint (Is b) (Is b')) (hc : Finset.univ.biUnion Is = Finset.univ)
include hd hc
theorem any_blocks : (iprop(∃ f : Buf (Elt F) ℓ, ℓ ↦{fullShare} f) : sProp 𝕄) ⊢ bigSep Finset.univ fun b => iprop(∃ f : Buf (Elt F) ℓ, ℓ ↦[Is b]{fullShare} f) := by
  iintro ⟨%f, H⟩
  ihave H := (BIBase.Entails.of_eq (Ring.pointsTo_blocks Is hd hc f)) $$ H
  iapply (mono_sep (fun b => by iintro H; iexists f; iexact H) : bigSep Finset.univ (fun b => (ℓ ↦[Is b]{fullShare} f : sProp 𝕄)) ⊢ _)
  iexact H
theorem blocks_any (f₀ : Buf (Elt F) ℓ) : bigSep Finset.univ (fun b => (iprop(∃ f : Buf (Elt F) ℓ, ℓ ↦[Is b]{fullShare} f) : sProp 𝕄)) ⊢ iprop(∃ f : Buf (Elt F) ℓ, ℓ ↦{fullShare} f) :=
  Ring.pointsTo_blocks_join_exists Is hd hc f₀
end Blocks

variable (I : Ins F) (c : Dev nD)

/-- A buffer whole, at contents not chosen. -/
abbrev anyWhl {s : Shape} {e : EltTy} (m : Memref sig .tc .vmem s e) : sProp 𝕄 := iprop(∃ f, whl (F := F) c m f)

theorem heads_slots (Φ : Fin 7 → Fin 8 → sProp 𝕄) :
    bigSep Finset.univ (fun p : Fin 7 × Fin 8 => Φ p.1 p.2) = bigSep Finset.univ fun h : Fin 8 => bigSep Finset.univ fun j : Fin 7 => Φ j h := by
  rw [bigSep_univ_prod, bigSep_univ_comm]

theorem snd_split : anyWhl (F := F) c bSnd ⊢ bigSep Finset.univ (tilesO (F := F) c) := by
  refine (any_blocks (ℓ := bSnd.view.loc (c : Thread nD τ)) (fun p : Fin 7 × Fin 8 => (rSlot p.1 p.2).set) slot_apart slot_cover).trans ?_
  refine (BIBase.Entails.of_eq (heads_slots fun j h => iprop(∃ f, bSnd.view.loc (c : Thread nD τ) ↦[(rSlot j h).set]{fullShare} f))).trans ?_
  refine mono_sep fun h => mono_sep fun j => ?_
  rw [any_snd, bSnd_set]
theorem snd_join (f₀ : S7x64x1024.Idx → Elt F .bf16) : bigSep Finset.univ (tilesO (F := F) c) ⊢ anyWhl (F := F) c bSnd := by
  refine BIBase.Entails.trans ?_ (blocks_any (ℓ := bSnd.view.loc (c : Thread nD τ)) (fun p : Fin 7 × Fin 8 => (rSlot p.1 p.2).set) slot_apart slot_cover f₀)
  refine BIBase.Entails.trans ?_ (BIBase.Entails.of_eq (heads_slots fun j h => iprop(∃ f, bSnd.view.loc (c : Thread nD τ) ↦[(rSlot j h).set]{fullShare} f)).symm)
  refine mono_sep fun h => mono_sep fun j => ?_
  rw [any_snd, bSnd_set]

theorem rcv_split : anyWhl (F := F) c bRcv ⊢ bigSep Finset.univ fun h : Fin 8 => bigSep Finset.univ fun j : Fin 7 => dstAny (F := F) c (.o h) j := by
  refine (any_blocks (ℓ := bRcv.view.loc (c : Thread nD τ)) (fun p : Fin 7 × Fin 8 => (rSlot p.1 p.2).set) slot_apart slot_cover).trans ?_
  refine (BIBase.Entails.of_eq (heads_slots fun j h => iprop(∃ f, bRcv.view.loc (c : Thread nD τ) ↦[(rSlot j h).set]{fullShare} f))).trans ?_
  refine mono_sep fun h => mono_sep fun j => ?_
  rw [any_rcv, bRcv_set]
theorem rcv_join (f₀ : S7x64x1024.Idx → Elt F .bf16) : (bigSep Finset.univ fun h : Fin 8 => bigSep Finset.univ fun j : Fin 7 => dstAny (F := F) c (.o h) j) ⊢ anyWhl (F := F) c bRcv := by
  refine BIBase.Entails.trans ?_ (blocks_any (ℓ := bRcv.view.loc (c : Thread nD τ)) (fun p : Fin 7 × Fin 8 => (rSlot p.1 p.2).set) slot_apart slot_cover f₀)
  refine BIBase.Entails.trans ?_ (BIBase.Entails.of_eq (heads_slots fun j h => iprop(∃ f, bRcv.view.loc (c : Thread nD τ) ↦[(rSlot j h).set]{fullShare} f)).symm)
  refine mono_sep fun h => mono_sep fun j => ?_
  rw [any_rcv, bRcv_set]

theorem ag_split : anyWhl (F := F) c bAg ⊢ bigSep Finset.univ fun j : Fin 7 => dstAny (F := F) c .ag j := by
  refine (any_blocks (ℓ := bAg.view.loc (c : Thread nD τ)) (fun j : Fin 7 => (rSlotAll j).set) slotAll_apart slotAll_cover).trans ?_
  refine mono_sep fun j => ?_
  rw [any_ag, bAg_set]
theorem ag_join (f₀ : S7x64x1024.Idx → Elt F .bf16) : (bigSep Finset.univ fun j : Fin 7 => dstAny (F := F) c .ag j) ⊢ anyWhl (F := F) c bAg := by
  refine BIBase.Entails.trans ?_ (blocks_any (ℓ := bAg.view.loc (c : Thread nD τ)) (fun j : Fin 7 => (rSlotAll j).set) slotAll_apart slotAll_cover f₀)
  refine mono_sep fun j => ?_
  rw [any_ag, bAg_set]

theorem ml_split : anyWhl (F := F) c bMl ⊢ bigSep Finset.univ fun j : Fin 7 => dstAny (F := F) c .ml j := by
  refine (any_blocks (ℓ := bMl.view.loc (c : Thread nD τ)) (fun j : Fin 7 => (rMl j).set) ml_apart ml_cover).trans ?_
  refine mono_sep fun j => ?_
  rw [any_ml, bMl_set]
theorem ml_join (f₀ : S7x64x128.Idx → Elt F .f32) : (bigSep Finset.univ fun j : Fin 7 => dstAny (F := F) c .ml j) ⊢ anyWhl (F := F) c bMl := by
  refine BIBase.Entails.trans ?_ (blocks_any (ℓ := bMl.view.loc (c : Thread nD τ)) (fun j : Fin 7 => (rMl j).set) ml_apart ml_cover f₀)
  refine mono_sep fun j => ?_
  rw [any_ml, bMl_set]

/-- The accumulator: the rows the sums are sent from, and the rest. -/
theorem acc_split (f : S512x1152.Idx → Elt F .f32) :
    (bAcc.view.loc (c : Thread nD τ) ↦[Finset.univ]{fullShare} f : sProp 𝕄)
      ⊢ iprop((bAcc.view.loc (c : Thread nD τ) ↦[kept c]{fullShare} f) ∗ bigSep Finset.univ fun j : Fin 7 => pts (F := F) c (tileMl c j) f) := by
  iintro H
  ihave H := (pointsTo_split_subset (Finset.subset_univ (sentMl c))).1 $$ H
  icases H with ⟨H1, H2⟩
  isplitl [H2]; · iexact H2
  ihave H := (BIBase.Entails.of_eq (Ring.pointsTo_sub_blocks (fun j : Fin 7 => (rFwdMl c j).set) (fwdMl_apart c) (sentMl c) rfl f)) $$ H1
  iapply (mono_sep (fun j => by
    show _ ⊢ (tileMl c j).view.loc (c : Thread nD τ) ↦[(tileMl c j).view.set]{fullShare} f
    rw [tileMl_set]; exact BIBase.Entails.rfl) : bigSep Finset.univ (fun j : Fin 7 => (bAcc.view.loc (c : Thread nD τ) ↦[(rFwdMl c j).set]{fullShare} f : sProp 𝕄)) ⊢ _)
  iexact H
theorem acc_join (f₀ : S512x1152.Idx → Elt F .f32) :
    iprop((∃ f : Buf (Elt F) (bAcc.view.loc (c : Thread nD τ)), bAcc.view.loc (c : Thread nD τ) ↦[kept c]{fullShare} f) ∗ bigSep Finset.univ fun j : Fin 7 => sendPay I c .ml j) ⊢ anyWhl (F := F) c bAcc := by
  iintro ⟨⟨%g, H1⟩, H2⟩
  ihave H2 := ((mono_sep (fun j => by
    show _ ⊢ iprop(∃ f : Buf (Elt F) (bAcc.view.loc (c : Thread nD τ)), bAcc.view.loc (c : Thread nD τ) ↦[(rFwdMl c j).set]{fullShare} f)
    rw [← tileMl_set]; exact BIBase.Entails.rfl)).trans (Ring.pointsTo_sub_blocks_join_exists (fun j : Fin 7 => (rFwdMl c j).set) (fwdMl_apart c) (sentMl c) rfl g)) $$ H2
  iapply (blocks_any (ℓ := bAcc.view.loc (c : Thread nD τ)) (fun b : Fin 2 => if b = 0 then kept c else sentMl c) ?_ ?_ g)
  · intro b b' h
    have hd : Disjoint (kept c) (sentMl c) := Finset.sdiff_disjoint
    match b, b' with
    | 0, 0 => exact absurd rfl h
    | 0, 1 => exact hd
    | 1, 0 => exact hd.symm
    | 1, 1 => exact absurd rfl h
  · refine Finset.eq_univ_of_forall fun x => Finset.mem_biUnion.mpr ?_
    by_cases h : x ∈ sentMl c
    · exact ⟨1, Finset.mem_univ _, h⟩
    · exact ⟨0, Finset.mem_univ _, Finset.mem_sdiff.mpr ⟨Finset.mem_univ _, h⟩⟩
  rw [bigSep_univ_two]
  isplitl [H1]
  · iexists g; iexact H1
  iexact H2

/-- The rounded tile, in the shares the copies read and a rest. -/
theorem o_split (f : S64x1024.Idx → Elt F .bf16) : whl (F := F) c bO f
    ⊢ iprop((bO.view.loc (c : Thread nD τ) ↦[Finset.univ]{Transfers.shareDrop fullShare 7} f) ∗ bigSep Finset.univ fun j : Fin 7 => bO.view.loc (c : Thread nD τ) ↦[bO.view.set]{qAg j} f) := by
  have e : bO.view.set = Finset.univ := View.set_whole _
  rw [e]
  exact (Transfers.pointsTo_toks fullShare 7).1
theorem o_join (f : S64x1024.Idx → Elt F .bf16) :
    iprop((bO.view.loc (c : Thread nD τ) ↦[Finset.univ]{Transfers.shareDrop fullShare 7} f) ∗ bigSep Finset.univ fun j : Fin 7 => bO.view.loc (c : Thread nD τ) ↦[bO.view.set]{qAg j} f)
    ⊢ whl (F := F) c bO f := by
  have e : bO.view.set = Finset.univ := View.set_whole _
  rw [e]
  exact (Transfers.pointsTo_toks fullShare 7).2

end Cert.KernelIdeal.Own
-- ==== Proof.Run.lean ====
/-
  The body on one device, from what the launch gives it to what it leaves.
-/
module

public import proofs.«01_k».proof.Proof.Split

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (I : Ins F) (κ : GSem nD τ sig → ℕ) (c : Dev nD)

/-- One statement for every kind of copy and every place ahead. -/
abbrev all (Φ : Ch → Fin 7 → sProp 𝕄) : sProp 𝕄 := bigSep Finset.univ fun ch : Ch => bigSep Finset.univ fun j : Fin 7 => Φ ch j

theorem all_sep (Φ Ψ : Ch → Fin 7 → sProp 𝕄) : all (fun ch j => iprop(Φ ch j ∗ Ψ ch j)) = iprop(all Φ ∗ all Ψ) := by
  unfold all
  rw [← two_sep]
  exact bigSep_congr fun ch _ => two_sep _ _
theorem all_comm (Φ : Ch → Fin 7 → sProp 𝕄) : (bigSep Finset.univ fun j : Fin 7 => bigSep Finset.univ fun ch : Ch => Φ ch j) = all Φ :=
  bigSep_univ_comm _

/-- The rights a copy needs from the launch. -/
def sndTok (ch : Ch) (j : Fin 7) : sProp 𝕄 :=
  iprop(dutyTok ER (sndCell c ch j) 0 0 ∗ reached ER (sndCell c ch j) 0 ∗ dutyTok ER (rcvCell (pr c j) ch j) 0 0)

/-- The slots are handed out. -/
theorem grants_out : iprop(all (fun ch j => dstAny (F := F) c ch j) ∗ all (fun ch j => reached ER (rcvCell c ch j) 0))
    ⊢ bigSep Finset.univ fun j : Fin 7 => grant (F := F) c (rev j) := by
  rw [← all_sep, ← all_comm]
  rw [bigSep_univ_equiv (⟨rev, rev, rev_rev, rev_rev⟩ : Fin 7 ≃ Fin 7)]
  exact BIBase.Entails.rfl

/-- The others' slots, received, make the copies ready. -/
theorem grants_in : iprop((bigSep Finset.univ fun j : Fin 7 => grant (F := F) (pr c j) j) ∗ all (sndTok c))
    ⊢ bigSep Finset.univ (sendIn (F := F) c) := by
  unfold grant
  rw [all_comm (fun ch j => iprop(dstAny (pr c j) ch j ∗ reached ER (rcvCell (pr c j) ch j) 0)), ← all_sep]
  refine mono_sep fun ch => ?_
  unfold sendIn
  refine mono_sep fun j => ?_
  unfold sndTok sendPre
  iintro ⟨⟨H1, H2⟩, H3, H4, H5⟩
  isplitr [H1]
  · isplitl [H3]; · iexact H3
    isplitl [H4]; · iexact H4
    isplitl [H5] <;> iassumption
  iexact H1

/-- The scratch buffers, at contents not chosen. -/
def scratch : sProp 𝕄 := iprop(anyWhl (F := F) c bQ ∗ anyWhl (F := F) c bAcc ∗ anyWhl (F := F) c bSnd ∗ anyWhl (F := F) c bRcv
  ∗ anyWhl (F := F) c bMl ∗ anyWhl (F := F) c bO ∗ anyWhl (F := F) c bAg)
/-- The inputs. -/
def inputs : sProp 𝕄 := iprop(whl c bX (I.X c) ∗ whl c bWq (I.Wq c) ∗ whl c bWo (I.Wo c) ∗ whl c bK (I.K c) ∗ whl c bV (I.V c))

/-- What a device starts from. -/
def Start : sProp 𝕄 :=
  iprop(owe c (O₀ c) ∗ (bigSep Finset.univ fun j : Fin 7 => dutyTok ER (barCell (pr c j)) 0 j)
    ∗ (atPos ER (barCell c) 0 ∅ 0 ∗ cred (tallyAt (barCell c) () 7))
    ∗ all (sndTok c) ∗ all (fun ch j => reached ER (rcvCell c ch j) 0)
    ∗ all (fun ch j => atPos ER (sndCell c ch j) 0 ∅ 0) ∗ all (rcvPre c)
    ∗ inputs I c ∗ anyWhl c bOut ∗ scratch c)
/-- What a device leaves. -/
def Finish : sProp 𝕄 :=
  iprop(owe c 0 ∗ semVal (barCell c) 0 ∗ all (fun ch j => semVal (sndCell c ch j) 0) ∗ all (fun ch j => semVal (rcvCell c ch j) 0)
    ∗ inputs I c ∗ whl c bOut (Ov I c) ∗ scratch c)

/-! ## The first part: the barrier and the heads -/

/-- What is left once the heads are computed, their copies issued and the first six merged. -/
def Mid : sProp 𝕄 :=
  iprop(rndInv I c 6 ∗ semVal (barCell c) 0 ∗ (bigSep Finset.univ fun h : Fin 8 => credS c (.o h))
    ∗ (sendIn c .ml ∗ sendIn c .ag)
    ∗ (bigSep Finset.univ fun g : Fin 6 => rcvOut (F := F) c (.o (dn g))) ∗ ((rcvIn c (.o 6) ∗ rcvIn c (.o 7)) ∗ rcvIn c .ml ∗ rcvIn c .ag)
    ∗ (whl c bX (I.X c) ∗ whl c bWq (I.Wq c)))

/-- The second part of the body. -/
def pRest (c : Dev nD) : BP F PUnit := do
  steps 7 (pSendMl c)
  steps 7 (pMerge c 6)
  steps 7 (pMerge c 7)
  steps 7 (pMergeMl c)
  steps 8 (pDiv c)
  pProj c
  steps 7 (pSendAg c)
  steps 8 (fun h => steps 7 (pSent h))
  steps 7 (pSentMl c)
  steps 7 (pGather c)
  steps 7 (pSentAg)

theorem run_first (Q : PUnit → sProp 𝕄) :
    iprop(Ctx I κ ∗ (owe c (O₀ c) ∗ (bigSep Finset.univ fun j : Fin 7 => dutyTok ER (barCell (pr c j)) 0 j)
        ∗ (atPos ER (barCell c) 0 ∅ 0 ∗ cred (tallyAt (barCell c) () 7))
        ∗ all (sndTok c) ∗ all (fun ch j => reached ER (rcvCell c ch j) 0) ∗ all (rcvPre c)
        ∗ (whl c bX (I.X c) ∗ whl c bWq (I.Wq c) ∗ whl c bK (I.K c) ∗ whl c bV (I.V c))
        ∗ (anyWhl c bQ ∗ anyWhl c bAcc ∗ anyWhl c bSnd ∗ all (fun ch j => dstAny (F := F) c ch j))))
      ⊢ iprop((Mid I c -∗ WP c (pRest c) Q) -∗ WP c (pBody c) Q) := by
  unfold pBody
  iintro ⟨#HC, HO, Ht, ⟨Hb, Hbc⟩, Hst, Hre, Hrp, ⟨HX, HWq, HK, HV⟩, HQ, ⟨%f, HA⟩, HS, Hd⟩ Hk
  iapply (seq c (l_signal I κ c)) $$ [HO Ht Hre Hd]
  · isplitr; · iexact HC
    isplitl [HO]; · unfold O₀; iexact HO
    ihave Hg := (grants_out (F := F) c) $$ [Hd Hre]
    · isplitl [Hd] <;> iassumption
    rw [two_sep]
    isplitl [Ht] <;> iassumption
  iintro ⟨HO, -⟩
  iapply (seq c (u_q I c)) $$ [HX HWq HQ]
  · isplitl [HX]; · iexact HX
    isplitl [HWq] <;> iassumption
  iintro ⟨HX, HWq, HQ⟩
  iapply (seq c (l_head I c 0 0 rfl (ownM I c 0 0) (ownM_zero I c 0 0 (le_refl _)))) $$ [HQ HK HV HA]
  · isplitr [HA]
    · unfold ins
      isplitl [HQ]; · iexact HQ
      isplitl [HK] <;> iassumption
    unfold accAt
    iexists f
    isplitr; · ipureintro; exact Acc.zero c _ _ f
    iexact HA
  iintro ⟨Hi, HA⟩
  iapply (seq c (u_barrier I κ c)) $$ [HO Hb Hbc]
  · isplitr; · iexact HC
    isplitl [HO]; · iexact HO
    isplitl [Hb] <;> iassumption
  iintro ⟨HO, Hbar, Hg⟩
  ihave Hs := (grants_in (F := F) c) $$ [Hg Hst]
  · isplitl [Hg] <;> iassumption
  ihave Hs := (BIBase.Entails.of_eq (split_ch (sendIn (F := F) c))) $$ Hs
  icases Hs with ⟨Hs, Hsml, Hsag⟩
  ihave Hs := (BIBase.Entails.of_eq (split_first (fun h => sendIn (F := F) c (.o h)))) $$ Hs
  icases Hs with ⟨⟨Hs0, Hs1⟩, Hs⟩
  ihave HT := (snd_split (F := F) c) $$ HS
  ihave HT := (BIBase.Entails.of_eq (split_first (tilesO (F := F) c))) $$ HT
  icases HT with ⟨⟨HT0, HT1⟩, HT⟩
  ihave Hr := (show all (rcvPre (F := F) c) ⊢ _ from BIBase.Entails.of_eq (split_ch (rcvIn (F := F) c))) $$ Hrp
  icases Hr with ⟨Hr, Hrml, Hrag⟩
  ihave Hr := (BIBase.Entails.of_eq (split_last (fun h => rcvIn (F := F) c (.o h)))) $$ Hr
  icases Hr with ⟨Hr, Hr6, Hr7⟩
  iapply (seq c (l_send I κ c 0 0 7 rfl rfl 1 (by decide) (ownM I c 0 0) (Lo I c c.val))) $$ [HO HA Hs0 HT0]
  · isplitr; · iexact HC
    isplitl [HO HA]
    · isplitl [HO] <;> iassumption
    isplitl [Hs0] <;> iassumption
  iintro ⟨⟨HO, HA⟩, Hc0⟩
  iapply (seq c (l_head I c 1 1 rfl (ownM I c 0 0) (ownM_zero I c 0 1 (by decide)))) $$ [Hi HA]
  · isplitl [Hi] <;> iassumption
  iintro ⟨Hi, HA⟩
  iapply (seq c (l_send I κ c 1 7 14 rfl rfl 2 (by decide) (ownM I c 0 0) (Lo I c c.val))) $$ [HO HA Hs1 HT1]
  · isplitr; · iexact HC
    isplitl [HO HA]
    · isplitl [HO] <;> iassumption
    isplitl [Hs1] <;> iassumption
  iintro ⟨⟨HO, HA⟩, Hc1⟩
  iapply (seq c (l_rounds I κ c)) $$ [Hi HO HA Hs HT Hr]
  · isplitr; · iexact HC
    isplitl [Hi HO HA]
    · unfold rndInv
      isplitl [Hi]; · iexact Hi
      isplitl [HO]; · iexact HO
      iexact HA
    unfold rndIn
    rw [two_sep, two_sep]
    isplitr [Hr]
    · isplitl [Hs]; · iexact Hs
      iexact HT
    iexact Hr
  iintro ⟨HI, Hout⟩
  iapply Hk
  unfold Mid
  isplitl [HI]; · iexact HI
  isplitl [Hbar]; · iexact Hbar
  unfold rndOut
  ihave Hout := (BIBase.Entails.of_eq (two_sep (fun g : Fin 6 => credS (F := F) c (.o (up g))) (fun g => rcvOut (F := F) c (.o (dn g))))) $$ Hout
  icases Hout with ⟨Hc, Hro⟩
  isplitl [Hc0 Hc1 Hc]
  · iapply (BIBase.Entails.of_eq (split_first (fun h => credS (F := F) c (.o h))).symm)
    isplitr [Hc]
    · isplitl [Hc0] <;> iassumption
    iexact Hc
  isplitl [Hsml Hsag]
  · isplitl [Hsml] <;> iassumption
  isplitl [Hro]; · iexact Hro
  isplitl [Hr6 Hr7 Hrml Hrag]
  · isplitl [Hr6 Hr7]
    · isplitl [Hr6] <;> iassumption
    isplitl [Hrml] <;> iassumption
  isplitl [HX] <;> iassumption

/-! ## The second part: the exchange of the sums, the projection and the gather -/

/-- Some value of each element type. -/
def someH : Elt F .bf16 := n2 (Bv I c) 0 0
def someF : Elt F .f32 := n2 (Nv I c 0) 0 0

/-- The pieces left at the end make whole buffers again. -/
theorem rejoin :
    iprop(all (fun ch j => dstAny (F := F) c ch j) ∗ all (sendPay I c)
        ∗ (∃ f : Buf (Elt F) (bAcc.view.loc (c : Thread nD τ)), bAcc.view.loc (c : Thread nD τ) ↦[kept c]{fullShare} f)
        ∗ (bO.view.loc (c : Thread nD τ) ↦[Finset.univ]{Transfers.shareDrop fullShare 7} Bv I c) ∗ anyWhl c bQ)
      ⊢ scratch c := by
  iintro ⟨Hd, Hs, HA, HB, HQ⟩
  ihave Hd := (BIBase.Entails.of_eq (split_ch (fun ch => bigSep Finset.univ fun j : Fin 7 => dstAny (F := F) c ch j))) $$ Hd
  icases Hd with ⟨Hd, Hdml, Hdag⟩
  ihave Hs := (BIBase.Entails.of_eq (split_ch (fun ch => bigSep Finset.univ fun j : Fin 7 => sendPay I c ch j))) $$ Hs
  icases Hs with ⟨Hs, Hsml, Hsag⟩
  unfold scratch
  isplitl [HQ]; · iexact HQ
  isplitl [HA Hsml]
  · iapply (acc_join I c (fun _ => someF I c))
    isplitl [HA] <;> iassumption
  isplitl [Hs]
  · iapply (snd_join c (fun _ => someH I c)); iexact Hs
  isplitl [Hd]
  · iapply (rcv_join c (fun _ => someH I c)); iexact Hd
  isplitl [Hdml]
  · iapply (ml_join c (fun _ => someF I c)); iexact Hdml
  isplitl [HB Hsag]
  · unfold anyWhl
    iexists (Bv I c)
    iapply (o_join c (Bv I c))
    isplitl [HB]; · iexact HB
    iexact Hsag
  iapply (ag_join c (fun _ => someH I c)); iexact Hdag

/-- A copy's own completion is waited for with the credit its issue gave. -/
theorem sndIn_make (ch : Ch) : iprop((bigSep Finset.univ fun j : Fin 7 => atPos ER (sndCell c ch j) 0 ∅ 0) ∗ credS c ch) ⊢ sndIn (F := F) c ch := by
  unfold sndIn credS
  rw [← two_sep]
  exact BIBase.Entails.rfl

theorem run_last :
    iprop(Ctx I κ ∗ Mid I c ∗ all (fun ch j => atPos ER (sndCell c ch j) 0 ∅ 0) ∗ anyWhl c bOut ∗ whl c bWo (I.Wo c) ∗ anyWhl c bO)
      ⊢ WP c (pRest c) (fun _ => Finish I c) := by
  unfold pRest Mid rndInv
  iintro ⟨#HC, ⟨⟨Hi, HO, HA⟩, Hbar, Hco, ⟨Hsml, Hsag⟩, Hro, ⟨⟨Hr6, Hr7⟩, Hrml, Hrag⟩, HX, HWq⟩, Hat, HG, HWo, HB⟩
  ihave Hat := (BIBase.Entails.of_eq (split_ch (fun ch => bigSep Finset.univ fun j : Fin 7 => atPos ER (sndCell c ch j) 0 ∅ 0))) $$ Hat
  icases Hat with ⟨Hato, Hatml, Hatag⟩
  ihave HA := (show accAt I c Finset.univ 8 (ownM I c 6 0) (Lo I c c.val) ⊢ iprop(∃ f, ⌜Acc I c 8 (ownM I c 6 0) (Lo I c c.val) f⌝ ∗ bAcc.view.loc (c : Thread nD τ) ↦[Finset.univ]{fullShare} f) from BIBase.Entails.rfl) $$ HA
  icases HA with ⟨%f, %A, HA⟩
  ihave HA := (acc_split c f) $$ HA
  icases HA with ⟨HA, Ht⟩
  iapply (seq c (l_sendMl I κ c (ownM I c 6 0) (Lo I c c.val) f A)) $$ [HO Hsml Ht]
  · isplitr; · iexact HC
    isplitl [HO]; · iexact HO
    isplitl [Hsml] <;> iassumption
  iintro ⟨HO, Hcml⟩
  iapply (seq c (l_merge I κ c (kept c) 6 9 63 (by decide) (by decide) (own_kept c _ _ _) 8 (by decide) (Lo I c c.val))) $$ [HO HA Hr6]
  · isplitr; · iexact HC
    isplitr [Hr6]
    · isplitl [HO]; · iexact HO
      unfold accAt
      iexists f
      isplitr; · ipureintro; exact A
      iexact HA
    iexact Hr6
  iintro ⟨⟨HO, HA⟩, Ho6⟩
  iapply (seq c (l_merge I κ c (kept c) 7 9 63 (by decide) (by decide) (own_kept c _ _ _) 8 (by decide) (Lo I c c.val))) $$ [HO HA Hr7]
  · isplitr; · iexact HC
    isplitr [Hr7]
    · isplitl [HO]; · iexact HO
      iexact HA
    iexact Hr7
  iintro ⟨⟨HO, HA⟩, Ho7⟩
  iapply (seq c (l_mergeMl I κ c (kept c) (own_kept c _ _ _) (ownM I c 8 0))) $$ [HO HA Hrml]
  · isplitr; · iexact HC
    isplitr [Hrml]
    · isplitl [HO]; · iexact HO
      iexact HA
    iexact Hrml
  iintro ⟨⟨HO, HA⟩, Homl⟩
  rw [ownM_end]
  iapply (seq c (l_div I c (kept c) (fun h => own_kept c _ _ _) (fun h => own_kept c _ _ _))) $$ HA
  iintro HA
  iapply (seq c (u_proj I c (kept c) (own_kept c _ _ _) (Nv I c 7))) $$ [HA HWo HG HB]
  · isplitl [HA]; · iexact HA
    isplitl [HWo]; · iexact HWo
    isplitl [HG] <;> iassumption
  iintro ⟨HA, HWo, HG, HB⟩
  ihave HB := (o_split c (Bv I c)) $$ HB
  icases HB with ⟨HB, Hq⟩
  iapply (seq c (l_sendAg I κ c)) $$ [HO Hsag Hq]
  · isplitr; · iexact HC
    isplitl [HO]; · iexact HO
    isplitl [Hsag] <;> iassumption
  iintro ⟨HO, Hcag⟩
  rw [R_end]
  ihave Hsi := ((BIBase.Entails.of_eq (two_sep (fun h : Fin 8 => bigSep Finset.univ fun j : Fin 7 => atPos ER (sndCell c (.o h) j) 0 ∅ 0) (fun h => credS (F := F) c (.o h))).symm).trans (mono_sep fun h => sndIn_make (F := F) c (.o h))) $$ [Hato Hco]
  · isplitl [Hato] <;> iassumption
  iapply (seq c (l_sent I κ c)) $$ [HO Hsi]
  · isplitr; · iexact HC
    isplitl [HO] <;> iassumption
  iintro ⟨HO, Hso⟩
  iapply (seq c (l_sentMl I κ c)) $$ [HO Hatml Hcml]
  · isplitr; · iexact HC
    isplitl [HO]; · iexact HO
    iapply (sndIn_make (F := F) c .ml)
    isplitl [Hatml] <;> iassumption
  iintro ⟨HO, Hsoml⟩
  have hg := l_gather I κ c
  rw [R_end] at hg
  iapply (seq c hg) $$ [HO HG Hrag]
  · isplitr; · iexact HC
    isplitr [Hrag]
    · isplitl [HO] <;> iassumption
    iexact Hrag
  iintro ⟨⟨HO, HG⟩, Hoag⟩
  iapply (wp_wand _ _ _) $$ [HO Hatag Hcag]
  · iapply (l_sentAg I κ c)
    isplitr; · iexact HC
    isplitl [HO]; · iexact HO
    iapply (sndIn_make (F := F) c .ag)
    isplitl [Hatag] <;> iassumption
  iintro %_ ⟨HO, Hsoag⟩
  unfold Finish
  isplitl [HO]; · iexact HO
  isplitl [Hbar]; · iexact Hbar
  ihave Hr := (BIBase.Entails.of_eq (split_last (fun h => rcvOut (F := F) c (.o h))).symm) $$ [Hro Ho6 Ho7]
  · isplitl [Hro]; · iexact Hro
    isplitl [Ho6] <;> iassumption
  ihave Hr := ((BIBase.Entails.of_eq (split_ch (rcvOut (F := F) c)).symm).trans (BIBase.Entails.of_eq (all_sep (fun ch j => semVal (rcvCell c ch j) 0) (fun ch j => dstAny (F := F) c ch j)))) $$ [Hr Homl Hoag]
  · isplitl [Hr]; · iexact Hr
    isplitl [Homl] <;> iassumption
  icases Hr with ⟨Hrv, Hd⟩
  ihave Hs := ((BIBase.Entails.of_eq (split_ch (sndOut I c)).symm).trans (BIBase.Entails.of_eq (all_sep (fun ch j => semVal (sndCell c ch j) 0) (sendPay I c)))) $$ [Hso Hsoml Hsoag]
  · isplitl [Hso]; · iexact Hso
    isplitl [Hsoml] <;> iassumption
  icases Hs with ⟨Hsv, Hs⟩
  isplitl [Hsv]; · iexact Hsv
  isplitl [Hrv]; · iexact Hrv
  unfold ins
  icases Hi with ⟨HQ, HK, HV⟩
  isplitl [HX HWq HWo HK HV]
  · unfold inputs
    isplitl [HX]; · iexact HX
    isplitl [HWq]; · iexact HWq
    isplitl [HWo]; · iexact HWo
    isplitl [HK] <;> iassumption
  isplitl [HG]
  · unfold outAt
    icases HG with ⟨%g, %G, HG⟩
    rw [← Out.all G]
    iexact HG
  iapply (rejoin I c)
  isplitl [Hd]; · iexact Hd
  isplitl [Hs]; · iexact Hs
  isplitl [HA]
  · unfold accAt
    icases HA with ⟨%g, -, HA⟩
    iexists g
    iexact HA
  isplitl [HB]; · iexact HB
  unfold anyWhl
  iexists (Qv I c)
  iexact HQ

/-- The body of the kernel on device `c`, from start to finish. -/
theorem run_body : iprop(Ctx I κ ∗ Start I c) ⊢ WP c (pBody c) (fun _ => Finish I c) := by
  unfold Start scratch inputs
  iintro ⟨#HC, HO, Ht, Hb, Hst, Hre, Hat, Hrp, ⟨HX, HWq, HWo, HK, HV⟩, HG, HQ, HA, HS, HR, HM, HB, HAg⟩
  iapply (run_first I κ c (fun _ => Finish I c)) $$ [HO Ht Hb Hst Hre Hrp HX HWq HK HV HQ HA HS HR HM HAg]
  · isplitr; · iexact HC
    isplitl [HO]; · iexact HO
    isplitl [Ht]; · iexact Ht
    isplitl [Hb]; · iexact Hb
    isplitl [Hst]; · iexact Hst
    isplitl [Hre]; · iexact Hre
    isplitl [Hrp]; · iexact Hrp
    isplitl [HX HWq HK HV]
    · isplitl [HX]; · iexact HX
      isplitl [HWq]; · iexact HWq
      isplitl [HK] <;> iassumption
    isplitl [HQ]; · iexact HQ
    isplitl [HA]; · iexact HA
    isplitl [HS]; · iexact HS
    iapply (BIBase.Entails.of_eq (split_ch (fun ch => bigSep Finset.univ fun j : Fin 7 => dstAny (F := F) c ch j)).symm)
    isplitl [HR]
    · iapply (rcv_split (F := F) c); iexact HR
    isplitl [HM]
    · iapply (ml_split (F := F) c); iexact HM
    iapply (ag_split (F := F) c); iexact HAg
  iintro HM
  iapply (run_last I κ c)
  isplitr; · iexact HC
  isplitl [HM]; · iexact HM
  isplitl [Hat]; · iexact Hat
  isplitl [HG]; · iexact HG
  isplitl [HWo] <;> iassumption

end Cert.KernelIdeal.Own
-- ==== Proof.Region.lean ====
/-
  The kernel call as a step of @main: the semaphores opened on entry, the body run from the inputs' blocks, and what the call
  leaves.
-/
module

public import proofs.«01_k».proof.Proof.Run
public import proofs.«01_k».proof.Proof.Gen.KernelIdeal.Frame
public import Idealize.ShloMosaic.Lib.Pipeline.RegionTalk

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The semaphores, on entry -/

theorem bigSep_key (Φ : Key → sProp 𝕄) :
    bigSep Finset.univ Φ = iprop(all (fun ch j => Φ (false, ch, j)) ∗ all (fun ch j => Φ (true, ch, j))) := by
  rw [bigSep_univ_prod, bigSep_univ_eq_bigSepL [false, true] (by decide) (by decide)]
  refine congrArg₂ (fun A B : sProp 𝕄 => iprop(A ∗ B)) ?_ ?_ <;> exact bigSep_univ_prod _

/-- The blocks every device's call reads. -/
def entry : Ins F where
  X c := iblk m c 0 t0_0
  Wq c := iblk m c 1 t0_0
  Wo c := iblk m c 2 t0_0
  K c := iblk m c 3 t0_0
  V c := iblk m c 4 t0_0

/-- What of the launch a device keeps to itself: its place at the barrier, the rights to open its own semaphores, the right to
    pay each unit it owes. -/
def linear (c : Dev nD) : sProp 𝕄 :=
  iprop(atPos ER (barCell c) 0 ∅ 0 ∗ (bigSep Finset.univ fun k : Key => openTok ER (kCell c k))
    ∗ (bigSep Finset.univ fun j : Fin 7 => dutyTok ER (barCell (pr c j)) 0 j)
    ∗ all (fun ch j => dutyTok ER (sndCell c ch j) 0 0) ∗ all (fun ch j => dutyTok ER (rcvCell (pr c j) ch j) 0 0))

/-- What a device brings to the call; -/
def Tk (c : Dev nD) : sProp 𝕄 :=
  iprop((∃ κ, records (entry m) κ ∗ linear c) ∗ cred (tallyAt (barCell c) () 7) ∗ all (fun ch j => cred (tallyAt (rcvCell c ch j) () (N ch))))
/-- the same with its semaphores open. -/
def Xk (c : Dev nD) : sProp 𝕄 :=
  iprop(∃ κ, Ctx (entry m) κ ∗ (bigSep Finset.univ fun j : Fin 7 => dutyTok ER (barCell (pr c j)) 0 j)
    ∗ (atPos ER (barCell c) 0 ∅ 0 ∗ cred (tallyAt (barCell c) () 7))
    ∗ all (sndTok c) ∗ all (fun ch j => reached ER (rcvCell c ch j) 0)
    ∗ all (fun ch j => atPos ER (sndCell c ch j) 0 ∅ 0) ∗ all (rcvPre c))
/-- What it brings away. -/
def Yk (c : Dev nD) : sProp 𝕄 := semVal (barCell c) 0

theorem ownSems_eq (c : Dev nD) : (Pipeline.ownSems0 (Ix := Unit) (Name := ℕ) (U := UU) (Lvl := ℕ) (Val := Elt F) (τ := τ) osem c : sProp 𝕄)
    = bigSep Finset.univ fun k : Key => semVal (kCell c k) 0 := rfl

theorem bigSep_with {K : Type} [DecidableEq K] {S : Finset K} {A : sProp 𝕄} [BI.Persistent A] {Φ Ψ : K → sProp 𝕄}
    (h : ∀ i ∈ S, iprop(A ∗ Φ i) ⊢ Ψ i) : iprop(A ∗ bigSep S Φ) ⊢ bigSep S Ψ :=
  (sep_mono_left (BI.bigSep_of_persistent S A)).trans (by rw [← bigSep_sep']; exact bigSep_mono h)

/-- All of a device's semaphores opened at once. -/
theorem open_keys (κ : GSem nD τ sig → ℕ) (c : Dev nD) :
    iprop(Ctx (entry m) κ ∗ bigSep Finset.univ fun k : Key => iprop(openTok ER (kCell c k) ∗ semVal (kCell c k) 0))
      ⊢ (|={Set.univ}=> bigSep Finset.univ fun k : Key => iprop(atPos ER (kCell c k) 0 ∅ 0 ∗ reached ER (kCell c k) 0) : sProp 𝕄) := by
  refine (bigSep_with (Ψ := fun k : Key => iprop(|={Set.univ}=> (atPos ER (kCell c k) 0 ∅ 0 ∗ reached ER (kCell c k) 0))) fun k _ => ?_).trans (bigSep_fupd _ _)
  iintro ⟨#HC, Ho, Hv⟩
  iapply (Rounds.cell_open ER (Rd (entry m)) (g := kCell c k) (Set.mem_univ (κ (kCell c k))))
  isplitr; · iapply (ctx_key (entry m) κ c k); iexact HC
  isplitl [Ho] <;> iassumption

theorem hopen (c : Dev nD) : iprop(Tk m c ∗ Pipeline.ownSems0 osem c ∗ levAts L lv) ⊢ (|={Set.univ}=> Xk m c : sProp 𝕄) := by
  rw [ownSems_eq]
  unfold Tk linear
  iintro ⟨⟨⟨%κ, #HR, Hb, Ho, Ht, Hs, Hv⟩, Hc, Hcr⟩, Hz, #Hl⟩
  ihave #HC : Ctx (entry m) κ $$ []
  · unfold Ctx
    isplitr; · iexact HR
    iexact Hl
  imod (open_keys m κ c) $$ [Ho Hz] with H
  · isplitr; · iexact HC
    rw [bigSep_sep']
    isplitl [Ho] <;> iassumption
  ihave H := (BIBase.Entails.of_eq ((bigSep_key _).trans (congrArg₂ (fun A B : sProp 𝕄 => iprop(A ∗ B))
    (all_sep (fun ch j => atPos ER (kCell c (false, ch, j)) 0 ∅ 0) (fun ch j => reached ER (kCell c (false, ch, j)) 0))
    (all_sep (fun ch j => atPos ER (kCell c (true, ch, j)) 0 ∅ 0) (fun ch j => reached ER (kCell c (true, ch, j)) 0))))) $$ H
  icases H with ⟨⟨Has, #Hrs⟩, Har, #Hrr⟩
  imodintro
  unfold Xk
  iexists κ
  isplitr; · iexact HC
  isplitl [Ht]; · iexact Ht
  isplitl [Hb Hc]
  · isplitl [Hb] <;> iassumption
  isplitl [Hs Hv]
  · unfold sndTok
    rw [all_sep, all_sep]
    isplitl [Hs]; · iexact Hs
    isplitr; · iexact Hrs
    iexact Hv
  isplitr; · iexact Hrr
  isplitl [Has]; · iexact Has
  unfold rcvPre
  rw [all_sep]
  isplitl [Har]; · iexact Har
  iexact Hcr

/-! ## The call's data -/

/-- What the invariant holds before the body's run and after it. -/
def Φb (c : Dev nD) : sProp 𝕄 := iprop(Xk m c ∗ scratch c ∗ ∃ r, prngReg c r)
def Φe (c : Dev nD) : sProp 𝕄 :=
  iprop(semVal (barCell c) 0 ∗ (all (fun ch j => semVal (sndCell c ch j) 0) ∗ all (fun ch j => semVal (rcvCell c ch j) 0))
    ∗ scratch (F := F) c ∗ ∃ r, prngReg c r)

def dat0 (c : Dev nD) : Dat τ (Elt F) Unit ℕ UU ℕ cfg0 c where
  A w := V m c (Pipeline.arrRef spec0 w)
  after w _ := match w with
    | 0 => iblk m c 0 t0_0
    | 1 => iblk m c 1 t0_0
    | 2 => iblk m c 2 t0_0
    | 3 => iblk m c 3 t0_0
    | 4 => iblk m c 4 t0_0
    | 5 => Ov (entry m) c
  Φ t := if t.val = 0 then Φb m c else Φe c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem owed_zero (c : Dev nD) : (pdats (F := F) m 0 c).owed 0 = O₀ c := by
  show (if ((0 : Fin (cfg0.N + 1)).val = 0) then O₀ c else 0) = O₀ c; exact if_pos rfl
theorem owed_first (c : Dev nD) : (dat0 (F := F) m c).owed t0_0.castSucc = O₀ c := by
  show (if (t0_0.castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

/-- What the device owes, at a point of the call. -/
theorem owesAt_of (c : Dev nD) (t : Fin (cfg0.N + 1)) (O : CellTallies nD τ sig Unit) (h : (dat0 m c).owed t = O) :
    owe c O ⊢ ((dat0 m c).owesAt () t : sProp 𝕄) := by
  unfold Dat.owesAt Pipeline.owesWithin owe
  rw [h]
  iintro ⟨%W, HO⟩
  iexists W
  isplitr; · ipureintro; exact fun _ _ => Or.inl trivial
  iexact HO
theorem of_owesAt (c : Dev nD) (t : Fin (cfg0.N + 1)) (O : CellTallies nD τ sig Unit) (h : (dat0 m c).owed t = O) :
    ((dat0 m c).owesAt () t : sProp 𝕄) ⊢ owe c O := by
  unfold Dat.owesAt Pipeline.owesWithin owe
  rw [h]
  iintro ⟨%W, -, HO⟩; iexists W; iexact HO

theorem owns_whl (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before0 (c : Dev nD) (d) : (dat0 m c).before 0 t0_0 d = iblk m c 0 t0_0 := by
  unfold Dat.before; rw [if_pos (by decide)]; rfl
theorem before1 (c : Dev nD) (d) : (dat0 m c).before 1 t0_0 d = iblk m c 1 t0_0 := by
  unfold Dat.before; rw [if_pos (by decide)]; rfl
theorem before2 (c : Dev nD) (d) : (dat0 m c).before 2 t0_0 d = iblk m c 2 t0_0 := by
  unfold Dat.before; rw [if_pos (by decide)]; rfl
theorem before3 (c : Dev nD) (d) : (dat0 m c).before 3 t0_0 d = iblk m c 3 t0_0 := by
  unfold Dat.before; rw [if_pos (by decide)]; rfl
theorem before4 (c : Dev nD) (d) : (dat0 m c).before 4 t0_0 d = iblk m c 4 t0_0 := by
  unfold Dat.before; rw [if_pos (by decide)]; rfl

def bodyPre (c : Dev nD) : sProp 𝕄 :=
  iprop(Φb m c ∗ (dat0 m c).owesAt () t0_0.castSucc
    ∗ (∃ d, stg c cc0_stg0_0 ((dat0 m c).before 0 t0_0 d)) ∗ (∃ d, stg c cc0_stg1_0 ((dat0 m c).before 1 t0_0 d))
    ∗ (∃ d, stg c cc0_stg2_0 ((dat0 m c).before 2 t0_0 d)) ∗ (∃ d, stg c cc0_stg3_0 ((dat0 m c).before 3 t0_0 d))
    ∗ (∃ d, stg c cc0_stg4_0 ((dat0 m c).before 4 t0_0 d)) ∗ (∃ d, stg c cc0_stg5_0 ((dat0 m c).before 5 t0_0 d)))
def bodyPost (c : Dev nD) : sProp 𝕄 :=
  iprop(Φe c ∗ (dat0 m c).owesAt () t0_0.succ
    ∗ stg c cc0_stg0_0 (iblk m c 0 t0_0) ∗ stg c cc0_stg1_0 (iblk m c 1 t0_0) ∗ stg c cc0_stg2_0 (iblk m c 2 t0_0)
    ∗ stg c cc0_stg3_0 (iblk m c 3 t0_0) ∗ stg c cc0_stg4_0 (iblk m c 4 t0_0) ∗ stg c cc0_stg5_0 (Ov (entry m) c))

theorem stg_intro (c : Dev nD) (b : Ref sig .tc) (X : b.ty.Contents (Elt F)) :
    (((c : Thread nD τ).loc b) ↦{fullShare} X : sProp 𝕄) ⊢ stg c b X := by
  unfold stg
  iintro H
  iexists X
  isplitr; · ipureintro; rfl
  iexact H
theorem stg_elim (c : Dev nD) (b : Ref sig .tc) (X : b.ty.Contents (Elt F)) :
    stg c b X ⊢ (((c : Thread nD τ).loc b) ↦{fullShare} X : sProp 𝕄) := by
  unfold stg
  iintro ⟨%f, %h, H⟩
  subst h
  iexact H
/-- An input's staging buffer before the body. -/
theorem stg_before (c : Dev nD) (b : Ref sig .tc) {α : Type} (g : α → b.ty.Contents (Elt F)) (X : b.ty.Contents (Elt F)) (h : ∀ d, g d = X) :
    iprop(∃ d, stg c b (g d)) ⊢ (((c : Thread nD τ).loc b) ↦{fullShare} X : sProp 𝕄) := by
  iintro ⟨%d, H⟩
  iapply ((BIBase.Entails.of_eq (congrArg (stg c b) (h d))).trans (stg_elim c b X)) $$ H

theorem wp_wand_of {c : Dev nD} {p : BP F PUnit} {A : sProp 𝕄} {P Q : PUnit → sProp 𝕄} (h : A ⊢ WP c p P) :
    A ⊢ iprop((∀ x, P x -∗ Q x) -∗ WP c p Q) := by
  exact h.trans (wp_wand _ _ _)

/-- The body's run between the call's own assertions. -/
theorem body_run (c : Dev nD) : bodyPre m c ⊢ WP c (pKernel (F := F)) (fun _ => bodyPost m c) := by
  unfold pKernel
  unfold WP
  rw [wp_deviceId]
  unfold bodyPre Φb Xk
  iintro ⟨⟨⟨%κ, #HC, Ht, Hb, Hs, Hrr, Has, Hrp⟩, Hscr, Hp⟩, HO, H0, H1, H2, H3, H4, ⟨%d, H5⟩⟩
  ihave HO := (of_owesAt m c _ (O₀ c) (owed_first m c)) $$ HO
  ihave H0 := (stg_before c cc0_stg0_0 _ _ (before0 m c)) $$ H0
  ihave H1 := (stg_before c cc0_stg1_0 _ _ (before1 m c)) $$ H1
  ihave H2 := (stg_before c cc0_stg2_0 _ _ (before2 m c)) $$ H2
  ihave H3 := (stg_before c cc0_stg3_0 _ _ (before3 m c)) $$ H3
  ihave H4 := (stg_before c cc0_stg4_0 _ _ (before4 m c)) $$ H4
  ihave H5 := (stg_elim c cc0_stg5_0 _) $$ H5
  iapply (wp_wand_of (run_body (entry m) κ c)) $$ [Ht Hb Hs Hrr Has Hrp Hscr HO H0 H1 H2 H3 H4 H5]
  · isplitr; · iexact HC
    unfold Start inputs
    isplitl [HO]; · iexact HO
    isplitl [Ht]; · iexact Ht
    isplitl [Hb]; · iexact Hb
    isplitl [Hs]; · iexact Hs
    isplitl [Hrr]; · iexact Hrr
    isplitl [Has]; · iexact Has
    isplitl [Hrp]; · iexact Hrp
    isplitl [H0 H1 H2 H3 H4]
    · isplitl [H0]; · iexact H0
      isplitl [H1]; · iexact H1
      isplitl [H2]; · iexact H2
      isplitl [H3]; · iexact H3
      iexact H4
    isplitl [H5]; · iexists _; iexact H5
    iexact Hscr
  iintro %_ H
  unfold Finish inputs bodyPost Φe
  icases H with ⟨HO, Hb, Hs, Hr, ⟨H0, H1, H2, H3, H4⟩, H5, Hscr⟩
  isplitl [Hb Hs Hr Hscr Hp]
  · isplitl [Hb]; · iexact Hb
    isplitl [Hs Hr]
    · isplitl [Hs] <;> iassumption
    isplitl [Hscr] <;> iassumption
  isplitl [HO]; · iapply (owesAt_of m c _ 0 (owed_last m c)); iexact HO
  isplitl [H0]; · iapply (stg_intro c cc0_stg0_0 (iblk m c 0 t0_0)); iexact H0
  isplitl [H1]; · iapply (stg_intro c cc0_stg1_0 (iblk m c 1 t0_0)); iexact H1
  isplitl [H2]; · iapply (stg_intro c cc0_stg2_0 (iblk m c 2 t0_0)); iexact H2
  isplitl [H3]; · iapply (stg_intro c cc0_stg3_0 (iblk m c 3 t0_0)); iexact H3
  isplitl [H4]; · iapply (stg_intro c cc0_stg4_0 (iblk m c 4 t0_0)); iexact H4
  iapply (stg_intro c cc0_stg5_0 (Ov (entry m) c)); iexact H5

set_option maxRecDepth 4000 in
theorem body_obligation (c : Dev nD) : BodyObligation (dat0 (F := F) m c) defs₀ 𝒱₀ () Set.univ := fun t => by
  rw [fin_N0 t]
  rw [bigSep_W0, bigSep_W0]
  simp only [owns_whl]
  show bodyPre m c ⊢ WP c (cc0_body (F := F) (win0_0.stage 0) (hstage0_0 0) (win0_1.stage 0) (hstage0_1 0) (win0_2.stage 0) (hstage0_2 0)
    (win0_3.stage 0) (hstage0_3 0) (win0_4.stage 0) (hstage0_4 0) (win0_5.stage 0) (hstage0_5 0) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12) (fun _ => bodyPost m c)
  rw [body_eq]
  exact body_run m c

/-! ## The step -/

/-- What every buffer of a device holds before the call and after it. -/
def V₁ (c : Dev nD) : Valuation τ sig (Elt F) := StableHlo.after hostOps0 fun b => m (c, b)
def V₂ (c : Dev nD) : Valuation τ sig (Elt F) := Function.update (V₁ m c) (Proc.devRef .tc main_v8) ((dat0 m c).arrAt 5 cfg0.N)

abbrev arrs : Finset (DevRef τ sig) := Pipeline.arrRefs (τ := τ) spec0
abbrev rest : Finset (DevRef τ sig) := Pipeline.ucRefs τ sig \ arrs

theorem share_full (c : Dev nD) (w : Fin cfg0.W) : (dat0 m c).share w = fullShare := by unfold Dat.share; split <;> rfl

/-- A device owes only units on cells that lie above the staging cells. -/
theorem O₀_above (c : Dev nD) (g : GSem nD τ sig) (u : Unit) (h : 0 < O₀ c g u) : u ∈ L g ∧ 0 < lv g u := by
  unfold O₀ B at h
  rw [Pi.add_apply, Finsupp.add_apply] at h
  rcases Nat.add_pos_iff_pos_or_pos.mp h with h | h
  · obtain ⟨k, -, -, rfl⟩ := R_pos c 0 g u h
    exact ⟨by rw [L_tc]; exact Finset.mem_singleton_self _, by rw [lv_rcv]; omega⟩
  · rw [Finset.sum_apply, Finsupp.finset_sum_apply] at h
    obtain ⟨k, -, hk⟩ := Finset.exists_ne_zero_of_sum_ne_zero (Nat.pos_iff_ne_zero.mp h)
    rw [tallyAt_apply] at hk
    split at hk
    · next hg =>
      obtain ⟨rfl, -⟩ := hg
      exact ⟨by rw [L_tc]; exact Finset.mem_singleton_self _, by rw [lv_bar]; exact Nat.one_pos⟩
    · exact absurd rfl hk

theorem cutD (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · exact O₀_above c g i h
  · exact absurd h (Nat.lt_irrefl 0)

theorem ownFacts : Pipeline.OwnSemFacts spec0 osem where
  isScoped := by decide
  inj := osem_inj
  disj := by decide

theorem held_none (c : Dev nD) (W : Valuation τ sig (Elt F)) : (StableHlo.held (c.tc : Thread nD τ) ∅ W : sProp 𝕄) = BI.emp := by
  unfold StableHlo.held; exact BI.bigSep_empty

theorem scratch_eq (c : Dev nD) : (Pipeline.scopedRest (Ix := Unit) (Name := ℕ) (U := UU) (Lvl := ℕ) (Val := Elt F) (Pipeline.pin (pcfgs (F := F)) adm 0).spec c : sProp 𝕄)
    = scratch c := scopedRest0_eq c

theorem hin (c : Dev nD) : iprop(Pipeline.scopedRest (Pipeline.pin (pcfgs (F := F)) adm 0).spec c ∗ (∃ r, prngReg c r)
    ∗ StableHlo.held (c.tc : Thread nD τ) ∅ (V₁ m c) ∗ Xk m c) ⊢ (pdats m 0 c).Φ 0 := by
  rw [show (pdats m 0 c).Φ 0 = Φb m c from rfl, scratch_eq, held_none]
  unfold Φb
  iintro ⟨Hs, Hp, -, HX⟩
  isplitl [HX]; · iexact HX
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last _) = Φe c from rfl, scratch_eq, held_none, ownSems_eq, bigSep_key]
  unfold Φe Yk
  iintro ⟨Hb, Hss, Hs, Hp⟩
  isplitl [Hs]; · iexact Hs
  isplitl [Hp]; · iexact Hp
  isplitr; · iempintro
  isplitl [Hss]; · iexact Hss
  iexact Hb

theorem arr_at (c : Dev nD) (w : Fin 6) : (dat0 m c).arrAt w cfg0.N = V₂ m c (Proc.devRef .tc (Pipeline.arrRef spec0 w)) := by
  have hin (w : Fin 6) (hi : (spec0 w).isOut = false) (hne : Proc.devRef (τ := τ) .tc (Pipeline.arrRef spec0 w) ≠ Proc.devRef .tc main_v8) :
      (dat0 m c).arrAt w cfg0.N = V₂ m c (Proc.devRef .tc (Pipeline.arrRef spec0 w)) :=
    ((dat0 m c).arrAt_in w hi _).trans (show V₁ m c (Proc.devRef .tc (Pipeline.arrRef spec0 w)) = _ from
      (Function.update_of_ne hne _ (V₁ m c)).symm)
  fin_cases w
  · exact hin 0 rfl (by decide)
  · exact hin 1 rfl (by decide)
  · exact hin 2 rfl (by decide)
  · exact hin 3 rfl (by decide)
  · exact hin 4 rfl (by decide)
  · exact (Function.update_self (Proc.devRef (τ := τ) .tc main_v8) ((dat0 m c).arrAt 5 cfg0.N) (V₁ m c)).symm

theorem ne_out {b : DevRef τ sig} (hb : b ∈ rest \ ∅) : b ≠ Proc.devRef .tc main_v8 := by
  intro e
  have h : b ∈ rest := (Finset.mem_sdiff.mp hb).1
  have h2 : b ∉ arrs := (Finset.mem_sdiff.mp h).2
  rw [e] at h2
  exact h2 (by decide)

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem ownFacts
    ∅ rest (Finset.empty_subset _) launch0.toP rfl (fun c => (body_obligation m c).loose)
    (fun _ => 0) O₀ (fun c => (owed_zero m c).trans (zero_add _).symm) (owed_last m) (fun _ => rfl) (fun c w => share_full m c w)
    (V₁ m) (V₂ m) (fun c b hb => Function.update_of_ne (ne_out hb) _ (V₁ m c))
    (Tk m) Yk (Xk m) Yk (hopen m) (hin m) (hout m)
    (fun c => by iintro H; imodintro; iexact H)
    (fun _ => 0)
    ⟨fun c w s => by rw [L_tc]; exact Finset.mem_singleton_self _, fun c w s => by fin_cases w <;> fin_cases s <;> exact le_of_eq rfl, fun c t g i h => cutD m c t g i h⟩
    (fun _ => iprop(emp))
    (fun c w => rfl) (fun c w => arr_at m c w)

end Cert.KernelIdeal.Own

end
-- ==== Proof.Launch.lean ====
/-
  The launch: every semaphore funded, the tokens and the credits dealt, and the run of @main on the eight devices.
-/
module

public import proofs.«01_k».proof.Proof.Region
public import Idealize.ShloMosaic.Lib.Quiescent
public import Idealize.ShloMosaic.Lib.Pipeline.FrameTail
public import Idealize.ShloMosaic.Harness.Basic

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The tokens -/

/-- A device's tokens: a unit of its barrier, or the one duty of one of its own semaphores. -/
abbrev TK := Fin 7 ⊕ Key
def tkSem : TK → SemLoc sig × Fin 7
  | .inl d => (.reg barS, d)
  | .inr k => (osem k, 0)
theorem tkSem_inj : Function.Injective tkSem := by
  rintro (d | k) (d' | k') h
  · exact congrArg Sum.inl (congrArg Prod.snd h)
  · exact absurd (congrArg Prod.fst h).symm (osem_ne_bar k')
  · exact absurd (congrArg Prod.fst h) (osem_ne_bar k)
  · exact congrArg Sum.inr (osem_inj (congrArg Prod.fst h))
def tkEmb : Dev nD × TK ↪ GSem nD τ sig × ℕ × Fin 7 :=
  ⟨fun x => (((x.1 : Thread nD τ), (tkSem x.2).1), 0, (tkSem x.2).2), fun x y h =>
    Prod.ext (congrArg (fun t : GSem nD τ sig × ℕ × Fin 7 => t.1.1.1) h)
      (tkSem_inj (Prod.ext (congrArg (fun t : GSem nD τ sig × ℕ × Fin 7 => t.1.2) h) (congrArg (fun t : GSem nD τ sig × ℕ × Fin 7 => t.2.2) h)))⟩
def toks : Finset (GSem nD τ sig × ℕ × Fin 7) := Finset.univ.map tkEmb

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

def u₀ : UU :=
  (initOf (Pipeline.cells (Pipeline.pin (pcfgs (F := F)) adm) cellOf_inj) (Pipeline.launchToks (Pipeline.pin (pcfgs (F := F)) adm) cellOf_inj),
    launchOf barCells scCells toks)

/-- The protocol's share of the launch, kept on one device until all the devices' are dealt. -/
def G (c : Dev nD) : sProp 𝕄 := if c = 0 then BI.own (ER (launchOf barCells scCells toks)) else iprop(emp)
theorem G_all : bigSep Finset.univ (G (F := F)) = BI.own (ER (launchOf barCells scCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- The step by `j + 1` devices. -/
def rot (j : Fin 7) : Dev nD ≃ Dev nD := ⟨fun c => pr c j, fun c => src c j, fun c => src_pr c j, fun c => pr_src c j⟩

theorem all_dev (Φ : Dev nD → Ch → Fin 7 → sProp 𝕄) :
    (bigSep Finset.univ fun c : Dev nD => all (Φ c)) = all fun ch j => bigSep Finset.univ fun c : Dev nD => Φ c ch j := by
  unfold all
  rw [bigSep_univ_comm]
  exact bigSep_congr fun ch _ => bigSep_univ_comm _
/-- A family over the kinds and places, each place's turned around the devices. -/
theorem turn (Φ : Dev nD → Ch → Fin 7 → sProp 𝕄) :
    (bigSep Finset.univ fun c : Dev nD => all (Φ c)) = bigSep Finset.univ fun c : Dev nD => all fun ch j => Φ (pr c j) ch j := by
  rw [all_dev, all_dev]
  unfold all
  exact bigSep_congr fun ch _ => bigSep_congr fun j _ => bigSep_univ_equiv (rot j) (fun c => Φ c ch j)
theorem turn_bar (Φ : Dev nD → Fin 7 → sProp 𝕄) :
    (bigSep Finset.univ fun c : Dev nD => bigSep Finset.univ (Φ c)) = bigSep Finset.univ fun c : Dev nD => bigSep Finset.univ fun j : Fin 7 => Φ (pr c j) j := by
  rw [bigSep_univ_comm, bigSep_univ_comm (fun (c : Dev nD) (j : Fin 7) => Φ (pr c j) j)]
  exact bigSep_congr fun j _ => bigSep_univ_equiv (rot j) (fun c => Φ c j)

theorem toks_eq : bigSep toks (fun x => (dutyTok ER x.1 x.2.1 x.2.2 : sProp 𝕄))
    = bigSep Finset.univ fun c : Dev nD => iprop((bigSep Finset.univ fun j : Fin 7 => dutyTok ER (barCell (pr c j)) 0 j)
      ∗ all (fun ch j => dutyTok ER (sndCell c ch j) 0 0) ∗ all (fun ch j => dutyTok ER (rcvCell (pr c j) ch j) 0 0)) := by
  unfold toks
  rw [bigSep_map, bigSep_univ_prod]
  rw [bigSep_sep', bigSep_sep', ← turn (fun c ch j => (dutyTok ER (rcvCell c ch j) 0 0 : sProp 𝕄)),
    ← turn_bar (fun c j => (dutyTok ER (barCell c) 0 j : sProp 𝕄)), ← bigSep_sep', ← bigSep_sep']
  refine bigSep_congr fun c _ => ?_
  rw [BI.bigSep_univ_sum, bigSep_key]
  rfl

/-! ## The credits -/

theorem bar_iff {a b : Dev nD} : Iff ((barCell a : GSem nD τ sig) = barCell b) (a = b) :=
  ⟨fun h => congrArg (fun g : GSem nD τ sig => g.1.1) h, fun h => h ▸ rfl⟩
theorem rcv_iff {a b : Dev nD} {ch ch' : Ch} {j j' : Fin 7} : Iff ((rcvCell a ch j : GSem nD τ sig) = rcvCell b ch' j') (a = b ∧ ch = ch' ∧ j = j') := by
  constructor
  · intro h
    have e : ((true, ch, j) : Key) = (true, ch', j') := osem_inj (show osem (true, ch, j) = osem (true, ch', j') from congrArg Prod.snd h)
    exact ⟨congrArg (fun g : GSem nD τ sig => g.1.1) h, congrArg (fun k : Key => k.2.1) e, congrArg (fun k : Key => k.2.2) e⟩
  · rintro ⟨rfl, rfl, rfl⟩; rfl
theorem rcv_ne_bar {a b : Dev nD} {ch : Ch} {j : Fin 7} : (rcvCell a ch j : GSem nD τ sig) ≠ barCell b :=
  fun h => osem_ne_bar (true, ch, j) (congrArg Prod.snd h)

theorem count_bar : ∀ c : Dev nD, (∑ d : Dev nD, ∑ k ∈ Finset.Ico 0 7, if c = pr d k then 1 else 0) = 7 := by decide

theorem owed_bar (d c : Dev nD) : O₀ d (barCell c) () = ∑ k ∈ Finset.Ico 0 7, if c = pr d k then 1 else 0 := by
  unfold O₀ B R
  rw [Pi.add_apply, Finsupp.add_apply, Finset.sum_apply, Finsupp.finset_sum_apply, Finset.sum_apply, Finsupp.finset_sum_apply]
  rw [Finset.sum_eq_zero (fun k _ => by unfold owedCopy; rw [tallyAt_ne_cell rcv_ne_bar.symm]; rfl), zero_add]
  refine Finset.sum_congr rfl fun k _ => ?_
  rw [tallyAt_apply]
  by_cases h : c = pr d k
  · subst h; rw [if_pos ⟨rfl, rfl⟩, if_pos rfl]
  · rw [if_neg (fun h1 => h (bar_iff.mp h1.1)), if_neg h]

theorem owed_rcv (d c : Dev nD) (ch : Ch) (j : Fin 7) : O₀ d (rcvCell c ch j) () = if d = src c j then N ch else 0 := by
  have hc := ord_lt ch
  have hj := j.isLt
  unfold O₀ B R
  rw [Pi.add_apply, Finsupp.add_apply, Finset.sum_apply, Finsupp.finset_sum_apply, Finset.sum_apply, Finsupp.finset_sum_apply]
  rw [Finset.sum_eq_zero (s := Finset.Ico 0 7) (fun k _ => by rw [tallyAt_ne_cell rcv_ne_bar]; rfl), add_zero]
  rw [Finset.sum_eq_single (7 * ch.ord + j.val)]
  · unfold owedCopy
    rw [show (7 * ch.ord + j.val) % 7 = j.val by omega, show (7 * ch.ord + j.val) / 7 = ch.ord by omega, ord_chN,
      show Fin.ofNat 7 (7 * ch.ord + j.val) = j from Fin.ext (by show _ % 7 = _; omega), tallyAt_apply]
    by_cases h : d = src c j
    · rw [h, pr_src, if_pos ⟨rfl, rfl⟩, if_pos rfl]
    · rw [if_neg (fun h1 => h (by rw [(rcv_iff.mp h1.1).1, src_pr])), if_neg h]
  · intro k hk hne
    unfold owedCopy
    rw [Finset.mem_Ico] at hk
    rw [tallyAt_apply, if_neg]
    rintro ⟨h, -⟩
    obtain ⟨-, h2, h3⟩ := rcv_iff.mp h
    have e2 : ch.ord = k / 7 := by rw [h2, chN_ord _ (by omega)]
    have e3 : j.val = k % 7 := by rw [h3]; rfl
    omega
  · intro h
    exact absurd (Finset.mem_Ico.mpr ⟨Nat.zero_le _, by omega⟩) h

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  exact count_bar c
theorem launch_rcv (c : Dev nD) (ch : Ch) (j : Fin 7) :
    tallyOn (rcvCell c ch j) (launchCredit (Pipeline.owing O₀) 0 (rcvCell c ch j)) = (tallyAt (rcvCell c ch j) () (N ch) : CellTallies nD τ sig Unit) := by
  unfold tallyAt; refine congrArg _ (Finsupp.ext fun u => ?_); cases u
  rw [Pipeline.launchCredit_owing, Finsupp.single_eq_same, Finset.sum_congr rfl fun d _ => owed_rcv d c ch j,
    Finset.sum_ite_eq' Finset.univ (src c j) fun _ => N ch, if_pos (Finset.mem_univ _)]

/-- The receive semaphores among a device's. -/
def rcvEmb : Ch × Fin 7 ↪ SemLoc sig :=
  ⟨fun x => osem (true, x.1, x.2), fun x y h => congrArg (fun k : Key => k.2) (osem_inj h)⟩

theorem creds (c : Dev nD) :
    (Pipeline.launchCred O₀ c : sProp 𝕄) ⊢ iprop(cred (tallyAt (barCell c) () 7) ∗ all fun ch j => cred (tallyAt (rcvCell c ch j) () (N ch))) := by
  unfold Pipeline.launchCred
  rw [bigSep_univ_at _ (SemLoc.reg barS), launch_bar]
  refine sep_mono_right ?_
  have hsub : Finset.univ.map rcvEmb ⊆ Finset.univ.erase (SemLoc.reg barS) := fun s hs => by
    obtain ⟨x, -, rfl⟩ := Finset.mem_map.mp hs
    exact Finset.mem_erase.mpr ⟨osem_ne_bar (true, x.1, x.2), Finset.mem_univ _⟩
  have e : (bigSep (Finset.univ.map rcvEmb) fun sm : SemLoc sig => (cred (tallyOn ((c : Thread nD τ), sm) (launchCredit (Pipeline.owing O₀) 0 ((c : Thread nD τ), sm))) : sProp 𝕄))
      = all fun ch j => cred (tallyAt (rcvCell c ch j) () (N ch)) := by
    rw [bigSep_map, bigSep_univ_prod]
    unfold all
    exact bigSep_congr fun ch _ => bigSep_congr fun j _ => congrArg _ (launch_rcv c ch j)
  rw [← e]
  exact BI.bigSep_subset hsub

/-! ## The steps of @main -/

/-- What rides along under the host operations. -/
def Rk (c : Dev nD) : sProp 𝕄 := iprop((∃ r, prngReg c r) ∗ Tk m c ∗ ∃ W, owes (c : Thread nD τ) (O₀ c) W)

def V₀ (c : Dev nD) : Valuation τ sig (Elt F) := fun b => m (c, b)

def seg0 : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V₀ m) (Rk m)

def segs : List (Pipeline.Seg (pcfgs (F := F)) adm (pdats m) () defs₀ 𝒱₀ L lv) := [.host (seg0 m), .region (reg0 m)]

theorem main_eq (c : Dev nD) : main (F := F) c = Pipeline.Seg.run (segs m) :=
  main_segs adm (pdats m) () 𝒱₀ L lv (seg0 m) (reg0 m) rfl c

theorem arrs_sub : arrs ⊆ Pipeline.ucRefs τ sig := Pipeline.arrRefs_sub_ucRefs spec0 (by decide)

theorem reg_pre (c : Dev nD) : iprop(StableHlo.held (c : Thread nD τ) (Pipeline.ucRefs τ sig) (V₁ m c) ∗ Rk m c) ⊢ (reg0 m).pre c := by
  show _ ⊢ iprop(StableHlo.held (c.tc : Thread nD τ) arrs (V₁ m c) ∗ (∃ r, prngReg c r)
    ∗ (StableHlo.held (c.tc : Thread nD τ) rest (V₁ m c) ∗ emp) ∗ Tk m c ∗ ∃ Wd, owes (c : Thread nD τ) (0 + O₀ c) Wd)
  rw [StableHlo.held_sub_split _ arrs_sub, zero_add]
  unfold Rk
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

/-- What a device ends with. -/
def Tₙ (c : Dev nD) : sProp 𝕄 := iprop(StableHlo.held (c : Thread nD τ) (Pipeline.ucRefs τ sig) (V₂ m c) ∗ semVal (barCell c) 0)

theorem reg_post (c : Dev nD) : (reg0 m).post c
    ⊢ iprop(Tₙ m c ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) rest (V₂ m c) ∗ emp) ∗ Yk c ∗ ∃ Wd, owes (c : Thread nD τ) (0 : CellTallies nD τ sig Unit) Wd) ⊢ _
  unfold Tₙ Yk
  rw [StableHlo.held_sub_split _ arrs_sub]
  iintro ⟨Ha, -, ⟨Hr, -⟩, Hb, HO⟩
  isplitr [HO]
  · isplitr [Hb]
    · isplitl [Ha] <;> iassumption
    iexact Hb
  iexact HO

/-! ## Dealing -/

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What of a device's launch is not the protocol's. -/
def bundle (c : Dev nD) : sProp 𝕄 :=
  iprop(StableHlo.held (c : Thread nD τ) (Pipeline.ucRefs τ sig) (V₀ m c)
    ∗ (cred (tallyAt (barCell c) () 7) ∗ all (fun ch j => cred (tallyAt (rcvCell c ch j) () (N ch))))
    ∗ owes (c : Thread nD τ) (O₀ c) ∅ ∗ ∃ r, prngReg c r)

abbrev T₀ (c : Dev nD) : sProp 𝕄 := iprop(StableHlo.held (c : Thread nD τ) (Pipeline.ucRefs τ sig) (V₀ m c) ∗ Rk m c)

theorem T₀_intro (κ : GSem nD τ sig → ℕ) (c : Dev nD) : iprop(records (entry m) κ ∗ (linear c ∗ bundle m c)) ⊢ T₀ m c := by
  unfold bundle T₀ Rk Tk
  iintro ⟨#HR, Hl, Hh, ⟨H1, HN⟩, HO, Hp⟩
  isplitl [Hh]; · iexact Hh
  isplitl [Hp]; · iexact Hp
  isplitr [HO]
  · isplitl [Hl]
    · iexists κ
      isplitr; · iexact HR
      iexact Hl
    isplitl [H1] <;> iassumption
  iexists ∅; iexact HO

theorem core_eq (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) (Pipeline.ucRefs τ sig) (V₀ m c) from
      Pipeline.unscopedBufs_held c (V₀ m c), unscopedSems_eq]
  unfold bundle
  iintro ⟨Hh, Hus, HO, Hcr, Hp, HG⟩
  ihave Hc := (creds (F := F) c) $$ Hcr
  isplitr [Hus HG]
  · isplitl [Hh]; · iexact Hh
    isplitl [Hc]; · iexact Hc
    isplitl [HO]; · iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    BIBase.Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    BIBase.Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun k : Key => openTok ER (kCell c k)) :=
    BIBase.Entails.of_eq (by unfold scCells; rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => core_eq m ρ c) $$ H
  ihave H2 := Smoke.bigSep_unpair $$ H'; icases H2 with ⟨HB, H3⟩
  ihave H4 := Smoke.bigSep_unpair $$ H3; icases H4 with ⟨Hv, HG⟩
  ihave Hu := (show bigSep Finset.univ (G (F := F)) ⊢ BI.own (ER (launchOf barCells scCells toks)) from BIBase.Entails.of_eq G_all) $$ HG
  imod (Rounds.fund_launch ER (Rd (entry m)) disjoint_cells (fun g _ h => h) toks) $$ [Hv Hu] with ⟨%κ, -, #Hinv, #Hr, Hat, Hopen, Htok⟩
  · isplitl [Hv]
    · iapply hv $$ Hv
    · iexact Hu
  imodintro
  iapply (bigSep_with (A := records (entry m) κ) (Φ := fun c => iprop(linear c ∗ bundle m c)) fun c _ => T₀_intro m κ c)
  isplitr
  · unfold records
    isplitr; · iexact Hinv
    iexact Hr
  iapply Smoke.bigSep_pair
  isplitr [HB]
  · unfold linear
    iapply Smoke.bigSep_pair; isplitl [Hat]; · iapply hat $$ Hat
    iapply Smoke.bigSep_pair; isplitl [Hopen]; · iapply hop $$ Hopen
    iapply (BIBase.Entails.of_eq (toks_eq (F := F))) $$ Htok
  · iexact HB

/-! ## The run -/

theorem mem_uc {b : Ref sig .tc} (hb : b.isScoped = false) : (Proc.devRef .tc b : DevRef τ sig) ∈ Pipeline.ucRefs τ sig :=
  Pipeline.devRef_mem_ucRefs hb

theorem read_one (c : Dev nD) (b : Ref sig .tc) (hb : b.isScoped = false) (V : Valuation τ sig (Elt F)) (s' : Phys nD τ sig (Elt F)) :
    iprop(StableHlo.held (c : Thread nD τ) (Pipeline.ucRefs τ sig) V ∗ SI s')
      ⊢ (⌜s'.mem.mem ((c : Thread nD τ).loc b) = V (Proc.devRef .tc b)⌝ : sProp 𝕄) := by
  unfold StableHlo.held
  iintro ⟨H, HSI⟩
  ihave Hx := (elim_at (mem_uc hb) fun b => (((c : Thread nD τ).1, b) ↦{fullShare} V b : sProp 𝕄)) $$ H
  icombine HSI Hx gives %hx
  ipureintro
  exact Buf.eq_of_forall_mem_univ hx

theorem unscoped_eq : ∀ sm : SemLoc sig, sm.isScoped .tc = false → sm = .reg barS := by decide

set_option backward.isDefEq.respectTransparency.types false in
/-- Every fair run of @main on the eight devices ends with each device's arguments as they were, its result at what the call
    computes, and every semaphore at zero. -/
theorem run_main : θ_run defs (onTc (τ := τ) (main (F := F))) ⟨m, fun _ => 0, ρ⟩
    (fun r => (∀ c : Dev nD, ∀ b : Ref sig .tc, b.isScoped = false → r.2.mem ((c : Thread nD τ).loc b) = V₂ m c (Proc.devRef .tc b)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg_pre m c, fun c => reg_post m c⟩)
    (hinit := init m ρ)
    (QY := fun c s => (∀ b : Ref sig .tc, b.isScoped = false → s.mem ((c : Thread nD τ).loc b) = V₂ m c (Proc.devRef .tc b)) ∧ s.sem (barCell c) = 0)
    (hfin := fun c s' => by
      unfold Tₙ
      iintro ⟨⟨Hh, Hb⟩, HSI⟩
      icombine HSI Hb gives %hb
      ihave %h := (show iprop(StableHlo.held (c : Thread nD τ) (Pipeline.ucRefs τ sig) (V₂ m c) ∗ SI s')
          ⊢ (⌜∀ b : Ref sig .tc, b.isScoped = false → s'.mem.mem ((c : Thread nD τ).loc b) = V₂ m c (Proc.devRef .tc b)⌝ : sProp 𝕄) from
          fun x hx b hb => read_one c b hb (V₂ m c) s' x hx) $$ [Hh HSI]
      · isplitl [Hh] <;> iassumption
      imodintro
      isplitr
      · ipureintro; exact ⟨h, by simpa using hb⟩
      iexact HSI)
    (hQ := fun s h hs => ⟨fun c => (h c).1,
      sem_eq_zero hs fun c sm hsm => by
        obtain rfl := unscoped_eq sm hsm
        exact (h c).2⟩)

end Cert.KernelIdeal.Own

end
-- ==== Proof.Ends.lean ====
/-
  What the run leaves in the arguments and in the result, and the frames.
-/
module

public import proofs.«01_k».proof.Proof.Launch
public import Idealize.ShloMosaic.Lib.Pipeline.ValueKit.Geometry

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem kept_arr {b : Ref sig .tc} (hb : Proc.devRef (τ := τ) .tc b ≠ Proc.devRef .tc main_v8) (c : Dev nD) :
    V₂ m c (Proc.devRef .tc b) = V m c b := Function.update_of_ne hb _ (V₁ m c)

/-- The run, read at the arguments: each as it was. -/
theorem run_args : θ_run defs (onTc (τ := τ) (main (F := F))) ⟨m, fun _ => 0, ρ⟩
    (fun r => (∀ c : Dev nD, r.2.mem ((c : Thread nD τ).loc main_v8) = V₂ m c (Proc.devRef .tc main_v8)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c => ⟨h.1 c main_v8 (by decide),
      (h.1 c main_arg0 (by decide)).trans ((kept_arr m (by decide) c).trans (V_main_arg0 m c)),
      (h.1 c main_arg1 (by decide)).trans ((kept_arr m (by decide) c).trans (V_main_arg1 m c)),
      (h.1 c main_arg2 (by decide)).trans ((kept_arr m (by decide) c).trans (V_main_arg2 m c)),
      (h.1 c main_arg3 (by decide)).trans ((kept_arr m (by decide) c).trans (V_main_arg3 m c)),
      (h.1 c main_arg4 (by decide)).trans ((kept_arr m (by decide) c).trans (V_main_arg4 m c))⟩, h.2⟩) (run_main m ρ)

/-- The result array ends at what the body leaves in the result's staging buffer. -/
theorem result (c : Dev nD) : V₂ m c (Proc.devRef .tc main_v8) = Ov (entry m) c := by
  refine (Function.update_self (Proc.devRef (τ := τ) .tc main_v8) ((dat0 m c).arrAt 5 cfg0.N) (V₁ m c)).trans ?_
  exact (dat0 m c).arrAt_eq_of_after_last 5 t0_0 (by decide +kernel) (Ov (entry m) c) (fun j => rfl)

end Cert.KernelIdeal.Own

end
-- ==== Proof.Same.lean ====
/-
  The kernel is printed twice, to be read over float words and over extended reals. Nothing was replaced in the second print, so the
  two are one program over any float values.
-/
module

public import proofs.«01_k».proof.Kernel
public import proofs.«01_k».proof.KernelIdeal

@[expose] public section

noncomputable section

namespace Cert.KernelIdeal.Own

open Idealize.ShloMosaic

variable {F : FTy → Type} [FloatOps F] [h₁ : Cert.Kernel.Facts] [h₂ : Cert.KernelIdeal.Facts]

/-- The kernel's body is the same in both. -/
theorem body_same : @Cert.Kernel.cc0_body F _ h₁ = @Cert.KernelIdeal.cc0_body F _ h₂ := rfl

/-- So the body table is. -/
theorem table_same : @Cert.Kernel.defs₀ F _ h₁ = @Cert.KernelIdeal.defs₀ F _ h₂ := by
  unfold Cert.Kernel.defs₀ Cert.KernelIdeal.defs₀
  refine congrArg Defs.onTc ?_
  funext l a
  match l, a with
  | 0, (t, s) =>
    dsimp only
    rw [body_same (F := F)]

/-- And the table with the call's pipeline. -/
theorem defs_same : Cert.Kernel.defs (F := F) = Cert.KernelIdeal.defs (F := F) := by
  unfold Cert.Kernel.defs Cert.KernelIdeal.defs
  exact congrArg (Pipeline.defs (Cert.KernelIdeal.pcfgs (F := F))) table_same

/-- And @main. -/
theorem main_same : Cert.Kernel.main (F := F) = Cert.KernelIdeal.main (F := F) := rfl

end Cert.KernelIdeal.Own

end
-- ==== Proof.Entry.lean ====
/-
  What each device's call starts from: every input window is its whole array, and those arrays are the arguments as they were
  passed, reshaped and (over the extended reals, without effect) rounded.
-/
module

public import proofs.«01_k».proof.Proof.Ends
public import Idealize.ShloMosaic.Lib.Pointwise
public import Idealize.ShloMosaic.Lib.Claim

@[expose] public section

set_option maxRecDepth 16384

noncomputable section

namespace Cert.KernelIdeal.Own
open Cert.KernelIdeal Cert.KernelIdeal.Gen Idealize.ShloMosaic Idealize.SL.Sem Idealize.ShloMosaic.TcCoe

section Any
variable {F : FTy → Type} [FloatOps F] (m : (ℓ : Loc nD τ sig) → Buf (Elt F) ℓ)

/-! ## Windows -/

theorem entry_X (c : Dev nD) : (entry m).X c = V m c main_v2 := by
  funext i
  refine congrArg (V m c main_v2) (funext fun a => Fin.ext ?_)
  show 0 * _ + 1 * (i a).val = _
  omega
theorem entry_Wq (c : Dev nD) : (entry m).Wq c = V m c main_v3 := by
  funext i
  refine congrArg (V m c main_v3) (funext fun a => Fin.ext ?_)
  show 0 * _ + 1 * (i a).val = _
  omega
theorem entry_Wo (c : Dev nD) : (entry m).Wo c = V m c main_arg4 := by
  funext i
  refine congrArg (V m c main_arg4) (funext fun a => Fin.ext ?_)
  show 0 * _ + 1 * (i a).val = _
  omega
theorem entry_K (c : Dev nD) : (entry m).K c = V m c main_v5 := by
  funext i
  refine congrArg (V m c main_v5) (funext fun a => Fin.ext ?_)
  show 0 * _ + 1 * (i a).val = _
  omega
theorem entry_V (c : Dev nD) : (entry m).V c = V m c main_v7 := by
  funext i
  refine congrArg (V m c main_v7) (funext fun a => Fin.ext ?_)
  show 0 * _ + 1 * (i a).val = _
  omega
end Any

/-! ## The arrays at an index -/

variable (m : (ℓ : Loc nD τ sig) → Buf (Elt Ideal) ℓ)

theorem X_at (c : Dev nD) (i : Fin 512) (e : Fin 1024) :
    (entry m).X c (ix2 i e) = m ((c : Thread nD τ).loc main_arg0) (ix3 (0 : Fin 1) i e) := by
  rw [entry_X]
  entry_read
  pointwise
theorem Wq_at (c : Dev nD) : (entry m).Wq c = m ((c : Thread nD τ).loc main_arg1) := by
  rw [entry_Wq]
  entry_read
  rfl
theorem Wo_at (c : Dev nD) : (entry m).Wo c = m ((c : Thread nD τ).loc main_arg4) := by
  rw [entry_Wo]; exact V_main_arg4 m c
theorem K_at (c : Dev nD) (k : Fin 2048) (h : Fin 8) (d : Fin 128) :
    (entry m).K c (ix2 k ⟨128 * h.val + d.val, by omega⟩) = m ((c : Thread nD τ).loc main_arg2) (ix4 (0 : Fin 1) k h d) := by
  rw [entry_K]
  entry_read
  pointwise
  have e1 : (128 * h.val + d.val) / 128 = h.val := by omega
  have e2 : (128 * h.val + d.val) % 128 = d.val := by omega
  simp only [e1, e2]
theorem V_at (c : Dev nD) (k : Fin 2048) (h : Fin 8) (d : Fin 128) :
    (entry m).V c (ix2 k ⟨128 * h.val + d.val, by omega⟩) = m ((c : Thread nD τ).loc main_arg3) (ix4 (0 : Fin 1) k h d) := by
  rw [entry_V]
  entry_read
  pointwise
  have e1 : (128 * h.val + d.val) / 128 = h.val := by omega
  have e2 : (128 * h.val + d.val) % 128 = d.val := by omega
  simp only [e1, e2]
end Cert.KernelIdeal.Own
-- ==== Proof.Ops.lean ====
/-
  What each vector expression of the kernel's body holds at an index, over the extended reals.
-/
module

public import proofs.«01_k».proof.Proof.Vals
public import Idealize.ShloMosaic.Lib.Pointwise

@[expose] public section

set_option maxRecDepth 16384

noncomputable section

namespace Cert.KernelIdeal.Own
open Cert.KernelIdeal Cert.KernelIdeal.Gen Idealize.ShloMosaic Idealize.SL.Sem

/-- A query: a row of `X` times a column of `W`, scaled. -/
theorem pay1_at (X : Vec Ideal S512x1024 .bf16) (W : Vec Ideal S1024x1024 .bf16) (i : Fin 512) (q : Fin 1024) :
    k0_pay1 X W (ix2 i q) = (∑ e : Fin 1024, (X (ix2 i e) : EReal) * (W (ix2 e q) : EReal)) * Ideal.ofBits .f32 0x3DB504F3#32 := by
  pointwise [k0_pay1]

/-- The sum of a chunk's weights, added to what was carried. -/
theorem pay5_at (Q : Vec Ideal S512x128 .bf16) (a : FVec Ideal S512x1 .f32) (K : Vec Ideal S1024x128 .bf16) (i : Fin 512) :
    k0_pay5 Q a K (ix2 i 0) = (a (ix2 i 0) : EReal) + ∑ k : Fin 1024, Ideal.exp (∑ d : Fin 128, (Q (ix2 i d) : EReal) * (K (ix2 k d) : EReal)) := by
  pointwise [k0_pay5, k0_pay4]

/-- The sum of a chunk's weighted values, added to what was carried. -/
theorem pay6_at (Q : Vec Ideal S512x128 .bf16) (a : FVec Ideal S512x128 .f32) (K V : Vec Ideal S1024x128 .bf16) (i : Fin 512) (q : Fin 128) :
    k0_pay6 Q a K V (ix2 i q)
      = (a (ix2 i q) : EReal) + ∑ k : Fin 1024, Ideal.exp (∑ d : Fin 128, (Q (ix2 i d) : EReal) * (K (ix2 k d) : EReal)) * (V (ix2 k q) : EReal) := by
  pointwise [k0_pay6, k0_pay4]

theorem pay2_at (i : Fin 512) : k0_pay2 (F := Ideal) (ix2 i 0) = (0 : EReal) := by pointwise [k0_pay2]
theorem pay3_at (i : Fin 512) (q : Fin 128) : k0_pay3 (F := Ideal) (ix2 i q) = (0 : EReal) := by pointwise [k0_pay3]
theorem pay7_at (a : FVec Ideal S512x128 .f32) (i : Fin 512) (q : Fin 128) : k0_pay7 a (ix2 i q) = a (ix2 i q) := by pointwise [k0_pay7]
theorem pay8_at (a : FVec Ideal S512x1 .f32) (i : Fin 512) : k0_pay8 a (ix2 i 0) = a (ix2 i 0) := by pointwise [k0_pay8]
theorem pay9_at (a : Vec Ideal S64x128 .f32) (i : Fin 64) (q : Fin 128) : k0_pay9 a (ix3 0 i q) = a (ix2 i q) := by pointwise [k0_pay9]

/-- A received tile added to the own one. -/
theorem payMerge_at (a : Vec Ideal S64x128 .f32) (b : Vec Ideal S1x64x128 .bf16) (i : Fin 64) (q : Fin 128) :
    payMerge a b (ix2 i q) = (a (ix2 i q) : EReal) + (b (ix3 0 i q) : EReal) := by pointwise [payMerge]
theorem pay181_at (a : Vec Ideal S64x8 .f32) (b : Vec Ideal S1x64x8 .f32) (i : Fin 64) (q : Fin 8) :
    k0_pay181 a b (ix2 i q) = (a (ix2 i q) : EReal) + (b (ix3 0 i q) : EReal) := by pointwise [k0_pay181]

/-- A tile divided, row by row, by its sums of weights. -/
theorem pay188_at (a : Vec Ideal S64x128 .f32) (b : Vec Ideal S64x1 .f32) (i : Fin 64) (q : Fin 128) :
    k0_pay188 a b (ix2 i q) = Ideal.div (a (ix2 i q)) (b (ix2 i 0)) := by pointwise [k0_pay188]

/-- The product with the output weights. -/
theorem pay196_at (a : Vec Ideal S64x1024 .f32) (b : Vec Ideal S1024x1024 .f32) (i : Fin 64) (q : Fin 1024) :
    k0_pay196 a b (ix3 0 i q) = ∑ k : Fin 1024, (a (ix2 i k) : EReal) * (b (ix2 k q) : EReal) := by pointwise [k0_pay196]
theorem pay197_at (a : Vec Ideal S1x64x1024 .f32) (i : Fin 64) (q : Fin 1024) : k0_pay197 a (ix2 i q) = a (ix3 0 i q) := by pointwise [k0_pay197]
theorem pay198_at (a : Vec Ideal S1x64x1024 .bf16) (i : Fin 64) (q : Fin 1024) : k0_pay198 a (ix3 0 i q) = a (ix3 0 i q) := by pointwise [k0_pay198]

/-! ## Numbers as coordinates -/

section Num
variable {α : Type} {z a b : ℕ} [NeZero z] [NeZero a] [NeZero b]

theorem n2_fin (X : (⟨2, ![a, b]⟩ : Shape).Idx → α) (i : Fin a) (q : Fin b) : n2 X i.val q.val = X (ix2 i q) := n2_idx X (ix2 i q)
theorem n3_fin (X : (⟨3, ![z, a, b]⟩ : Shape).Idx → α) (p : Fin z) (i : Fin a) (q : Fin b) : n3 X p.val i.val q.val = X (ix3 p i q) :=
  n3_idx X (ix3 p i q)
theorem n2_lt (X : (⟨2, ![a, b]⟩ : Shape).Idx → α) {r q : ℕ} (hr : r < a) (hq : q < b) : n2 X r q = X (ix2 ⟨r, hr⟩ ⟨q, hq⟩) := n2_fin X ⟨r, hr⟩ ⟨q, hq⟩
theorem n3_lt (X : (⟨3, ![z, a, b]⟩ : Shape).Idx → α) {p r q : ℕ} (hp : p < z) (hr : r < a) (hq : q < b) :
    n3 X p r q = X (ix3 ⟨p, hp⟩ ⟨r, hr⟩ ⟨q, hq⟩) := n3_fin X ⟨p, hp⟩ ⟨r, hr⟩ ⟨q, hq⟩
end Num

end Cert.KernelIdeal.Own
-- ==== Proof.Softmax.lean ====
/-
  Sums over the extended reals, and the quotient of a softmax: subtracting the greatest score from every score leaves it as it was.
-/
module

public import Idealize.ShloMosaic.Lib.Pointwise

@[expose] public section

noncomputable section

namespace Cert.Softmax
open Idealize.ShloMosaic

/-! ## Sums -/

/-- A sum of reals is a real. -/
theorem coe_sum {ι : Type} (s : Finset ι) (f : ι → ℝ) : (∑ i ∈ s, ((f i : ℝ) : EReal)) = ((∑ i ∈ s, f i : ℝ) : EReal) := by
  classical
  induction s using Finset.induction with
  | empty => simp
  | insert a s h ih => rw [Finset.sum_insert h, Finset.sum_insert h, ih, EReal.coe_add]

/-- A real factor that is not negative moves into a sum. -/
theorem mul_sum {ι : Type} (s : Finset ι) (f : ι → EReal) {r : ℝ} (hr : 0 ≤ r) :
    (∑ i ∈ s, (r : EReal) * f i) = (r : EReal) * ∑ i ∈ s, f i := by
  classical
  induction s using Finset.induction with
  | empty => simp
  | insert a s h ih =>
    rw [Finset.sum_insert h, Finset.sum_insert h, ih,
      EReal.left_distrib_of_nonneg_of_ne_top (EReal.coe_nonneg.mpr hr) (EReal.coe_ne_top r)]

/-- A sum over `a * b` numbers, `b` at a time. -/
theorem sum_blocks (a b : ℕ) {n : ℕ} (hn : n = a * b) (f : Fin n → EReal) :
    (∑ j : Fin n, f j) = ∑ p : Fin a, ∑ k : Fin b, f ⟨p.val * b + k.val, by
      subst hn; exact lt_of_lt_of_le (Nat.add_lt_add_left k.isLt _) (by rw [← Nat.succ_mul]; exact Nat.mul_le_mul_right b p.isLt)⟩ := by
  subst hn
  rw [← Equiv.sum_comp finProdFinEquiv f, Fintype.sum_prod_type]
  refine Finset.sum_congr rfl fun p _ => Finset.sum_congr rfl fun k _ => congrArg f (Fin.ext ?_)
  show k.val + b * p.val = p.val * b + k.val
  rw [Nat.mul_comm]; omega

/-- The terms of eight devices, taken from one of them backwards round the ring, are all the terms. -/
theorem sum_ring (f : Fin 8 → EReal) (c : Fin 8) :
    f c + f ⟨(c.val + 7) % 8, by omega⟩ + f ⟨(c.val + 6) % 8, by omega⟩ + f ⟨(c.val + 5) % 8, by omega⟩ + f ⟨(c.val + 4) % 8, by omega⟩
      + f ⟨(c.val + 3) % 8, by omega⟩ + f ⟨(c.val + 2) % 8, by omega⟩ + f ⟨(c.val + 1) % 8, by omega⟩ = ∑ p : Fin 8, f p := by
  rw [Fin.sum_univ_eight]
  obtain ⟨c, hc⟩ := c
  interval_cases c
  all_goals
    show f _ + f _ + f _ + f _ + f _ + f _ + f _ + f _ = _
    simp only [Nat.reduceAdd, Nat.reduceMod]
    first
      | rfl
      | (show _ = f ⟨0, by omega⟩ + f ⟨1, by omega⟩ + f ⟨2, by omega⟩ + f ⟨3, by omega⟩ + f ⟨4, by omega⟩ + f ⟨5, by omega⟩ + f ⟨6, by omega⟩ + f ⟨7, by omega⟩; ac_rfl)

/-! ## The softmax -/

/-- The greatest of finitely many reals, begun at minus infinity, is a real. -/
theorem fold_max_real {n : ℕ} [NeZero n] (s : Fin n → ℝ) :
    ∃ M : ℝ, Finset.fold max (Ideal.ofBits .f32 0xFF800000#32) (fun j => ((s j : ℝ) : EReal)) Finset.univ = (M : EReal) := by
  have hb : Ideal.ofBits .f32 0xFF800000#32 = ⊥ := by simp [Ideal.ofBits, Ideal.ieee]
  rw [hb]
  have key : ∀ t : Finset (Fin n), t.Nonempty → ∃ M : ℝ, Finset.fold max (⊥ : EReal) (fun j => ((s j : ℝ) : EReal)) t = (M : EReal) := by
    classical
    intro t ht
    induction ht using Finset.Nonempty.cons_induction with
    | singleton a => exact ⟨s a, by rw [Finset.fold_singleton]; exact max_eq_left bot_le⟩
    | cons a t h _ ih =>
      obtain ⟨M, hM⟩ := ih
      refine ⟨max (s a) M, ?_⟩
      rw [Finset.fold_cons, hM]
      exact (EReal.coe_strictMono.monotone.map_max).symm
  exact key _ Finset.univ_nonempty

/-- The quotient of a softmax over real scores, with the greatest score subtracted and without. -/
theorem quotient {n : ℕ} [NeZero n] (s : Fin n → ℝ) (v : Fin n → EReal) :
    Ideal.div (∑ j, v j * Ideal.exp ((s j : EReal) - Finset.fold max (Ideal.ofBits .f32 0xFF800000#32) (fun j => ((s j : ℝ) : EReal)) Finset.univ))
        (∑ j, Ideal.exp ((s j : EReal) - Finset.fold max (Ideal.ofBits .f32 0xFF800000#32) (fun j => ((s j : ℝ) : EReal)) Finset.univ))
      = Ideal.div (∑ j, Ideal.exp (s j : EReal) * v j) (∑ j, Ideal.exp (s j : EReal)) := by
  obtain ⟨M, hM⟩ := fold_max_real s
  rw [hM]
  have hexp : ∀ j, Ideal.exp ((s j : EReal) - (M : EReal)) = ((Real.exp (-M) : ℝ) : EReal) * ((Real.exp (s j) : ℝ) : EReal) := by
    intro j
    rw [← EReal.coe_sub, Ideal.exp_coe, ← EReal.coe_mul, ← Real.exp_add]
    congr 2; ring
  have hp : (0 : ℝ) < Real.exp (-M) := Real.exp_pos _
  have hS : (0 : ℝ) < ∑ j, Real.exp (s j) := Finset.sum_pos (fun j _ => Real.exp_pos _) Finset.univ_nonempty
  simp only [hexp, Ideal.exp_coe]
  rw [mul_sum _ _ hp.le, coe_sum, ← EReal.coe_mul, Ideal.div_coe (mul_pos hp hS).ne', Ideal.div_coe hS.ne',
    show (∑ j, v j * (((Real.exp (-M) : ℝ) : EReal) * ((Real.exp (s j) : ℝ) : EReal)))
      = ∑ j, ((Real.exp (-M) : ℝ) : EReal) * (((Real.exp (s j) : ℝ) : EReal) * v j) from
      Finset.sum_congr rfl fun j _ => by rw [mul_comm (v j), mul_assoc],
    mul_sum _ _ hp.le, mul_comm ((Real.exp (-M) : ℝ) : EReal), mul_assoc, ← EReal.coe_mul]
  congr 2
  field_simp

/-! ## The scores -/

/-- The scale is a real. -/
theorem scale_real : ∃ r : ℝ, Ideal.ofBits .f32 0x3DB504F3#32 = (r : EReal) := by
  refine ⟨(Ideal.ofBits .f32 0x3DB504F3#32).toReal, ?_⟩
  have h : Ideal.ofBits .f32 0x3DB504F3#32 ≠ ⊤ ∧ Ideal.ofBits .f32 0x3DB504F3#32 ≠ ⊥ := by
    simp only [Ideal.ofBits, Ideal.ieee]
    rw [if_neg (by decide), if_neg (by decide)]
    exact ⟨EReal.coe_ne_top _, EReal.coe_ne_bot _⟩
  exact (EReal.coe_toReal h.1 h.2).symm

/-- A score over real queries, weights and keys: real, and the same whether the queries or the scores are scaled. -/
theorem score {n d : ℕ} (x : Fin n → ℝ) (w : Fin n → Fin d → ℝ) (k : Fin d → ℝ) (r : ℝ) :
    ∃ s : ℝ, (∑ q : Fin d, ((∑ e : Fin n, (x e : EReal) * (w e q : EReal)) * (r : EReal)) * (k q : EReal)) = (s : EReal)
      ∧ (∑ q : Fin d, (∑ e : Fin n, (x e : EReal) * (w e q : EReal)) * (k q : EReal)) * (r : EReal) = (s : EReal) := by
  refine ⟨∑ q : Fin d, ((∑ e : Fin n, x e * w e q) * r) * k q, ?_, ?_⟩
  · simp only [← EReal.coe_mul, coe_sum]
  · simp only [← EReal.coe_mul, coe_sum]
    rw [Finset.sum_mul]
    congr 1
    exact Finset.sum_congr rfl fun q _ => by ring

end Cert.Softmax
-- ==== Proof.Value.lean ====
/-
  What the kernel computes, over the extended reals: row by row, each head's weighted values over the keys of all devices divided by
  the sum of the weights, times the output weights.
-/
module

public import proofs.«01_k».proof.Proof.Ops
public import proofs.«01_k».proof.Proof.Softmax

@[expose] public section

set_option maxRecDepth 16384

noncomputable section

namespace Cert.KernelIdeal.Own
open Cert.KernelIdeal Cert.KernelIdeal.Gen Idealize.ShloMosaic Idealize.SL.Sem

variable (I : Ins Ideal)

/-- Column `d` of head `h`. -/
def hcol (h : Fin 8) (d : Fin 128) : Fin 1024 := ⟨128 * h.val + d.val, by omega⟩

/-- The score of query row `i` against device `c`'s key `k` in head `h`. -/
def score (c : Dev nD) (h : Fin 8) (i : Fin 512) (k : Fin 2048) : EReal :=
  ∑ d : Fin 128, ((∑ e : Fin 1024, (I.X c (ix2 i e) : EReal) * (I.Wq c (ix2 e (hcol h d)) : EReal)) * Ideal.ofBits .f32 0x3DB504F3#32)
    * (I.K c (ix2 k (hcol h d)) : EReal)

/-! ## One device's own keys -/

theorem Qh_at (c : Dev nD) (h : Fin 8) (i : Fin 512) (d : Fin 128) :
    Qh I c h (ix2 i d)
      = (∑ e : Fin 1024, (I.X c (ix2 i e) : EReal) * (I.Wq c (ix2 e (hcol h d)) : EReal)) * Ideal.ofBits .f32 0x3DB504F3#32 := by
  rw [← pay1_at]
  refine congrArg (k0_pay1 (I.X c) (I.Wq c)) (funext fun a => Fin.ext ?_)
  fin_cases a
  · show 0 + 1 * i.val = i.val; omega
  · show 128 * h.val + 1 * d.val = 128 * h.val + d.val; omega

theorem chunk_emb (t : Fin k0_t1_loop.trips) (h : Fin 8) (k : Fin 1024) (d : Fin 128) (hk : t.val * 1024 + k.val < 2048) :
    (rKV t h).emb (ix2 k d) = ix2 (⟨t.val * 1024 + k.val, hk⟩ : Fin 2048) (hcol h d) := by
  refine funext fun a => Fin.ext ?_
  fin_cases a
  · show (Scalar.muli (Scf.iv 0#32 1#32 t) 1024#32).toNat + 1 * k.val = t.val * 1024 + k.val
    rw [iv_eq]; omega
  · show 128 * h.val + 1 * d.val = 128 * h.val + d.val; omega

theorem Kc_at (c : Dev nD) (t : Fin k0_t1_loop.trips) (h : Fin 8) (k : Fin 1024) (d : Fin 128) (hk : t.val * 1024 + k.val < 2048) :
    Kc I c t h (ix2 k d) = I.K c (ix2 (⟨t.val * 1024 + k.val, hk⟩ : Fin 2048) (hcol h d)) := congrArg (I.K c) (chunk_emb t h k d hk)
theorem Vc_at (c : Dev nD) (t : Fin k0_t1_loop.trips) (h : Fin 8) (k : Fin 1024) (d : Fin 128) (hk : t.val * 1024 + k.val < 2048) :
    Vc I c t h (ix2 k d) = I.V c (ix2 (⟨t.val * 1024 + k.val, hk⟩ : Fin 2048) (hcol h d)) := congrArg (I.V c) (chunk_emb t h k d hk)

/-- A score, as a chunk's product holds it. -/
theorem chunk_score (c : Dev nD) (t : Fin k0_t1_loop.trips) (h : Fin 8) (i : Fin 512) (k : Fin 1024) (hk : t.val * 1024 + k.val < 2048) :
    (∑ d : Fin 128, (Qh I c h (ix2 i d) : EReal) * (Kc I c t h (ix2 k d) : EReal)) = score I c h i ⟨t.val * 1024 + k.val, hk⟩ :=
  Finset.sum_congr rfl fun d _ => by rw [Qh_at, Kc_at I c t h k d hk]

/-- The sum of head `h`'s weights over the device's keys. -/
theorem Lv_at (c : Dev nD) (h : Fin 8) (i : Fin 512) : Lv I c h (ix2 i 0) = ∑ k : Fin 2048, Ideal.exp (score I c h i k) := by
  unfold Lv
  rw [pay8_at, pay5_at, pay5_at, pay2_at, Cert.Softmax.sum_blocks 2 1024 rfl, Fin.sum_univ_two]
  refine congrArg₂ (· + ·) ((zero_add _).trans ?_) ?_
  · exact Finset.sum_congr rfl fun k _ => congrArg Ideal.exp (chunk_score I c t₀ h i k (by show 0 * 1024 + k.val < _; omega))
  · exact Finset.sum_congr rfl fun k _ => congrArg Ideal.exp (chunk_score I c t₁ h i k (by show 1 * 1024 + k.val < _; omega))

/-- The sum of head `h`'s weighted values over the device's keys. -/
theorem Uv_at (c : Dev nD) (h : Fin 8) (i : Fin 512) (q : Fin 128) :
    Uv I c h (ix2 i q) = ∑ k : Fin 2048, Ideal.exp (score I c h i k) * (I.V c (ix2 k (hcol h q)) : EReal) := by
  unfold Uv
  rw [pay7_at, pay6_at, pay6_at, pay3_at, Cert.Softmax.sum_blocks 2 1024 rfl, Fin.sum_univ_two]
  refine congrArg₂ (· + ·) ((zero_add _).trans ?_) ?_
  · exact Finset.sum_congr rfl fun k _ =>
      congrArg₂ (· * ·) (congrArg Ideal.exp (chunk_score I c t₀ h i k (by show 0 * 1024 + k.val < _; omega))) (Vc_at I c t₀ h k q (by show 0 * 1024 + k.val < _; omega))
  · exact Finset.sum_congr rfl fun k _ =>
      congrArg₂ (· * ·) (congrArg Ideal.exp (chunk_score I c t₁ h i k (by show 1 * 1024 + k.val < _; omega))) (Vc_at I c t₁ h k q (by show 1 * 1024 + k.val < _; omega))

/-! ## All devices' keys -/

/-- The row of a tile of rows. -/
def trow (p : Fin 8) (i : Fin 64) : Fin 512 := ⟨64 * p.val + i.val, by omega⟩

theorem Ut_at (c : Dev nD) (h : Fin 8) (p : Fin 8) (i : Fin 64) (q : Fin 128) : Ut I c h p.val (ix2 i q) = Uv I c h (ix2 (trow p i) q) :=
  n2_fin (Uv I c h) (trow p i) q
theorem Tl_at (c : Dev nD) (h : Fin 8) (p : Fin 8) (i : Fin 64) (q : Fin 128) : Tl I c h p.val (ix3 0 i q) = Uv I c h (ix2 (trow p i) q) := by
  unfold Tl; rw [pay9_at, Ut_at]
theorem Lo_at (c : Dev nD) (p : Fin 8) (i : Fin 64) (h : Fin 8) : Lo I c p.val (ix2 i h) = Lv I c h (ix2 (trow p i) 0) := by
  show n2 (Lv I c (Fin.ofNat 8 h.val)) (64 * p.val + i.val) 0 = _
  rw [ofNat_self]; exact n2_fin (Lv I c h) (trow p i) 0
theorem Lt_at (c : Dev nD) (p : Fin 8) (i : Fin 64) (h : Fin 8) : Lt I c p.val (ix3 0 i h) = Lv I c h (ix2 (trow p i) 0) := by
  show n2 (Lv I c (Fin.ofNat 8 h.val)) (64 * p.val + i.val) 0 = _
  rw [ofNat_self]; exact n2_fin (Lv I c h) (trow p i) 0

/-- Head `h`'s own tile after all the others were added. -/
theorem Mv_at (c : Dev nD) (h : Fin 8) (i : Fin 64) (q : Fin 128) :
    Mv I c h 7 (ix2 i q) = ∑ p : Dev nD, (Uv I p h (ix2 (trow c i) q) : EReal) := by
  simp only [Mv, payMerge_at, Tl_at, Ut_at]
  exact Cert.Softmax.sum_ring (fun p => Uv I p h (ix2 (trow c i) q)) c

/-- The own sums of weights after all the others were added. -/
theorem Nv_at (c : Dev nD) (h : Fin 8) (i : Fin 64) :
    Nv I c 7 (ix2 i h) = ∑ p : Dev nD, (Lv I p h (ix2 (trow c i) 0) : EReal) := by
  simp only [Nv, pay181_at, Lt_at, Lo_at]
  exact Cert.Softmax.sum_ring (fun p => Lv I p h (ix2 (trow c i) 0)) c

/-- The quotient at row `i` and head `h`, column `q`. -/
def quot (i : Fin 512) (h : Fin 8) (q : Fin 128) : EReal :=
  Ideal.div (∑ p : Dev nD, ∑ k : Fin 2048, Ideal.exp (score I p h i k) * (I.V p (ix2 k (hcol h q)) : EReal))
    (∑ p : Dev nD, ∑ k : Fin 2048, Ideal.exp (score I p h i k))

theorem Dv_at (c : Dev nD) (h : Fin 8) (i : Fin 64) (q : Fin 128) : Dv I c h (ix2 i q) = quot I (trow c i) h q := by
  unfold Dv
  rw [pay188_at, Mv_at]
  refine congrArg₂ Ideal.div (Finset.sum_congr rfl fun p _ => Uv_at I p h _ q) ?_
  refine ((n2_fin (Nv I c 7) i h).trans (Nv_at I c h i)).trans (Finset.sum_congr rfl fun p _ => Lv_at I p h _)

/-- The head of a column, and its place there. -/
def hd (k : Fin 1024) : Fin 8 := ⟨k.val / 128, by omega⟩
def pl (k : Fin 1024) : Fin 128 := ⟨k.val % 128, by omega⟩

theorem heads_at (own : Fin 8 → S64x128.Idx → Elt Ideal .f32) (i : Fin 64) (k : Fin 1024) : heads own (ix2 i k) = own (hd k) (ix2 i (pl k)) := by
  show n2 (own (Fin.ofNat 8 (hd k).val)) i.val (pl k).val = _
  rw [ofNat_self]; exact n2_fin _ i (pl k)

/-- The projected tile. -/
theorem Pv_at (c : Dev nD) (i : Fin 64) (q : Fin 1024) :
    Pv I c (ix3 0 i q) = ∑ k : Fin 1024, quot I (trow c i) (hd k) (pl k) * (I.Wo c (ix2 k q) : EReal) := by
  unfold Pv
  rw [pay196_at]
  exact Finset.sum_congr rfl fun k _ => by rw [heads_at, Dv_at]

theorem Bs_at (c : Dev nD) (i : Fin 64) (q : Fin 1024) : k0_pay198 (Bs I c) (ix3 0 i q) = Pv I c (ix3 0 i q) := by
  rw [pay198_at]
  exact (n2_fin (Bv I c) i q).trans (pay197_at (Pv I c) i q)

/-- The result on any device: the rows of tile `p` as device `p` projected them. -/
theorem Ov_at (c : Dev nD) (i : Fin 512) (q : Fin 1024) :
    Ov I c (ix3 0 i q)
      = ∑ k : Fin 1024, quot I i (hd k) (pl k) * (I.Wo (⟨i.val / 64, by omega⟩ : Fin 8) (ix2 k q) : EReal) := by
  have hp : i.val / 64 < 8 := by omega
  have hr : i.val % 64 < 64 := by omega
  have hrow : trow ⟨i.val / 64, hp⟩ ⟨i.val % 64, hr⟩ = i := Fin.ext (by show 64 * (i.val / 64) + i.val % 64 = i.val; omega)
  have h := Pv_at I (⟨i.val / 64, hp⟩ : Fin 8) ⟨i.val % 64, hr⟩ q
  rw [hrow] at h
  rw [← h]
  show (if i.val / 64 = c.val then n3 (Pv I c) 0 (i.val % 64) q.val
    else n3 (k0_pay198 (Bs I (⟨(i.val / 64) % 8, Nat.mod_lt _ (by decide)⟩ : Dev nD))) 0 (i.val % 64) q.val) = _
  split
  · next hc =>
    rw [show c = (⟨i.val / 64, hp⟩ : Dev nD) from Fin.ext hc.symm]
    exact n3_fin (Pv I _) (0 : Fin 1) (⟨i.val % 64, hr⟩ : Fin 64) q
  · rw [show (⟨(i.val / 64) % 8, Nat.mod_lt _ (by decide)⟩ : Dev nD) = ⟨i.val / 64, hp⟩ from Fin.ext (Nat.mod_eq_of_lt hp)]
    exact (n3_fin (k0_pay198 (Bs I _)) (0 : Fin 1) (⟨i.val % 64, hr⟩ : Fin 64) q).trans (Bs_at I _ _ q)

end Cert.KernelIdeal.Own
-- ==== Proof.Ref.lean ====
/-
  What the reference computes, over the extended reals, at an index.
-/
module

public import proofs.«01_k».proof.Proof.Gen.ReferenceIdeal.Run
public import Idealize.ShloMosaic.Lib.Pointwise

@[expose] public section

set_option maxRecDepth 16384

noncomputable section

namespace Cert.ReferenceIdeal.Own
open Cert.ReferenceIdeal Cert.ReferenceIdeal.Gen Idealize.ShloMosaic Idealize.SL.Sem

variable (x : FVec Ideal S1x512x1024 .f32) (wq wo : FVec Ideal S1024x1024 .f32) (K V : FVec Ideal S1x16384x8x128 .f32)

/-- The scaled scores. -/
def scores : FVec Ideal S1x8x512x16384 .f32 :=
  mulf (Host.dotGeneral dot_S1x512x8x128_S1x16384x8x128_S1x8x512x16384_3_3_1_1_02_02 none (shapeCast _ (Host.dotGeneral dot_S1x512x1024_S1024x1024_S1x512x1024_2_0_01_1_n_n none x wq) shapeCasts_S1x512x1024_S1x512x8x128) K) (broadcastInDim S1x8x512x16384 ![] bcast_S_S1x8x512x16384 (constant S_ .f32 0x3DB504F3#32))

/-- The weights: the exponentials of the scores less their row's greatest. -/
def weights (s : FVec Ideal S1x8x512x16384 .f32) : FVec Ideal S1x8x512x16384 .f32 :=
  Host.exp (subf s (broadcastInDim S1x8x512x16384 ![0, 1, 2, 3] bcast_S1x8x512x1_S1x8x512x16384_0_1_2_3 (broadcastInDim S1x8x512x1 ![0, 1, 2] bcast_S1x8x512_S1x8x512x1_0_1_2 (Host.reduce FloatOps.maximumf s (constant S_ .f32 0xFF800000#32) reducesTo_S1x8x512x16384_S1x8x512_d3 h_S_))))

/-- The projected quotients. -/
def out (p : FVec Ideal S1x8x512x16384 .f32) : FVec Ideal S1x512x1024 .f32 :=
  Host.dotGeneral dot_S1x512x1024_S1024x1024_S1x512x1024_2_0_01_1_n_n none (shapeCast _ (Host.divf (transpose S1x512x8x128 [0, 3, 1, 2] (Host.dotGeneral dot_S1x16384x8x128_S1x8x512x16384_S1x8x128x512_1_3_3_2_02_01 none V p) transposes_S1x8x128x512_S1x512x8x128_0_3_1_2) (broadcastInDim S1x512x8x128 ![0, 1, 2, 3] bcast_S1x512x8x1_S1x512x8x128_0_1_2_3 (transpose S1x512x8x1 [0, 2, 1, 3] (broadcastInDim S1x8x512x1 ![0, 1, 2] bcast_S1x8x512_S1x8x512x1_0_1_2 (Host.reduceAdd p (constant S_ .f32 0x00000000#32) reducesTo_S1x8x512x16384_S1x8x512_d3 h_S_)) transposes_S1x8x512x1_S1x512x8x1_0_2_1_3))) shapeCasts_S1x512x8x128_S1x512x1024) wo

theorem scores_at (h : Fin 8) (i : Fin 512) (j : Fin 16384) :
    scores x wq K (ix4 0 h i j)
      = (∑ d : Fin 128, (∑ e : Fin 1024, (x (ix3 0 i e) : EReal) * (wq (ix2 e ⟨h.val * 128 + d.val, by omega⟩) : EReal)) * (K (ix4 0 j h d) : EReal))
        * Ideal.ofBits .f32 0x3DB504F3#32 := by
  pointwise [scores]

theorem weights_at (s : FVec Ideal S1x8x512x16384 .f32) (h : Fin 8) (i : Fin 512) (j : Fin 16384) :
    weights s (ix4 0 h i j)
      = Ideal.exp ((s (ix4 0 h i j) : EReal)
          - Finset.fold max (Ideal.ofBits .f32 0xFF800000#32) (fun k => (s (ix4 0 h i k) : EReal)) Finset.univ) := by
  pointwise [weights]

theorem out_at (p : FVec Ideal S1x8x512x16384 .f32) (i : Fin 512) (q : Fin 1024) :
    out wo V p (ix3 0 i q)
      = ∑ k : Fin 1024, Ideal.div (∑ j : Fin 16384, (V (ix4 0 j ⟨k.val / 128, by omega⟩ ⟨k.val % 128, by omega⟩) : EReal)
            * (p (ix4 0 ⟨k.val / 128, by omega⟩ i j) : EReal))
          (∑ j : Fin 16384, (p (ix4 0 ⟨k.val / 128, by omega⟩ i j) : EReal)) * (wo (ix2 k q) : EReal) := by
  pointwise [out]

/-- The run of the reference, its result under these names. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = out (m ((c.tc : Thread nD τ).loc main_arg4)) (m ((c.tc : Thread nD τ).loc main_arg3))
        (weights (scores (m ((c.tc : Thread nD τ).loc main_arg0)) (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ
end Cert.ReferenceIdeal.Own
-- ==== Proof.Equal.lean ====
/-
  The kernel's result and the reference's are one array, where the queries, the query weights and the keys are finite.
-/
module

public import proofs.«01_k».proof.Proof.Entry
public import proofs.«01_k».proof.Proof.Value
public import proofs.«01_k».proof.Proof.Ref
public import Idealize.ShloMosaic.Lib.Layout

@[expose] public section

set_option maxRecDepth 16384

noncomputable section

namespace Cert.KernelIdeal.Own
open Cert.KernelIdeal Cert.KernelIdeal.Gen Idealize.ShloMosaic Idealize.SL.Sem

/-- Every element of the array is a real. -/
def AllReal {ι : Type} (x : ι → EReal) : Prop := ∀ i, ∃ r : ℝ, x i = (r : EReal)

/-- Key `k` of device `p`, among all keys. -/
def gkey (p : Fin 8) (k : Fin 2048) : Fin 16384 := ⟨p.val * 2048 + k.val, by omega⟩

/-- Device `p`'s block of the keys, or of the values, at an index. -/
theorem block_at (K : FVec Ideal ⟨4, ![1, 16384, 8, 128]⟩ .f32) (p : Fin 8) (k : Fin 2048) (h : Fin 8) (d : Fin 128) :
    Layout.block ⟨4, ![1, 2048, 8, 128]⟩ ⟨4, ![1, 16384, 8, 128]⟩ 1 8 p K (by decide) (ix4 (0 : Fin 1) k h d) = K (ix4 (0 : Fin 1) (gkey p k) h d) := by
  refine congrArg K (funext fun a => Fin.ext ?_)
  fin_cases a <;> rfl

section Equal
variable (m : (ℓ : Loc nD τ sig) → Buf (Elt Ideal) ℓ)
  (x : FVec Ideal ⟨3, ![1, 512, 1024]⟩ .f32) (wq wo : FVec Ideal ⟨2, ![1024, 1024]⟩ .f32) (K V : FVec Ideal ⟨4, ![1, 16384, 8, 128]⟩ .f32)
  (hX : ∀ c : Dev nD, m ((c.tc : Thread nD τ).loc main_arg0) = x)
  (hWq : ∀ c : Dev nD, m ((c.tc : Thread nD τ).loc main_arg1) = wq)
  (hK : ∀ c : Dev nD, m ((c.tc : Thread nD τ).loc main_arg2) = Layout.block ⟨4, ![1, 2048, 8, 128]⟩ ⟨4, ![1, 16384, 8, 128]⟩ 1 8 c K)
  (hV : ∀ c : Dev nD, m ((c.tc : Thread nD τ).loc main_arg3) = Layout.block ⟨4, ![1, 2048, 8, 128]⟩ ⟨4, ![1, 16384, 8, 128]⟩ 1 8 c V)
  (hWo : ∀ c : Dev nD, m ((c.tc : Thread nD τ).loc main_arg4) = wo)

include hX hWq hK in
/-- The kernel's score and the reference's are one real. -/
theorem score_real (fx : AllReal x) (fw : AllReal wq) (fK : AllReal K) (h : Fin 8) (i : Fin 512) :
    ∃ s : Fin 16384 → ℝ, (∀ j, Cert.ReferenceIdeal.Own.scores x wq K (ix4 0 h i j) = (s j : EReal))
      ∧ ∀ p k, score (entry m) p h i k = (s (gkey p k) : EReal) := by
  choose xr hx using fx
  choose wr hw using fw
  choose Kr hKr using fK
  obtain ⟨r, hr⟩ := Cert.Softmax.scale_real
  choose s h1 h2 using fun j : Fin 16384 =>
    Cert.Softmax.score (fun e : Fin 1024 => xr (ix3 0 i e)) (fun e d => wr (ix2 e (hcol h d))) (fun d => Kr (ix4 0 j h d)) r
  refine ⟨s, fun j => ?_, fun p k => ?_⟩
  · rw [Cert.ReferenceIdeal.Own.scores_at, hr, ← h2 j]
    refine congrArg (· * (r : EReal)) (Finset.sum_congr rfl fun d _ => congrArg₂ (· * ·) (Finset.sum_congr rfl fun e _ => ?_) (hKr _))
    rw [show (⟨h.val * 128 + d.val, by omega⟩ : Fin 1024) = hcol h d from Fin.ext (by show h.val * 128 + d.val = 128 * h.val + d.val; omega)]
    exact congrArg₂ (· * ·) (hx _) (hw _)
  · rw [← h1 (gkey p k)]
    unfold score
    rw [hr]
    refine Finset.sum_congr rfl fun d _ => congrArg₂ (· * ·) (congrArg (· * (r : EReal)) (Finset.sum_congr rfl fun e _ => congrArg₂ (· * ·) ?_ ?_)) ?_
    · exact ((X_at m p i e).trans (congrFun (hX p) _)).trans (hx _)
    · exact (congrFun ((Wq_at m p).trans (hWq p)) _).trans (hw _)
    · exact (((K_at m p k h d).trans (congrFun (hK p) _)).trans (block_at K p k h d)).trans (hKr _)

include hX hWq hK hV in
/-- The kernel's quotient is the reference's. -/
theorem quot_eq (fx : AllReal x) (fw : AllReal wq) (fK : AllReal K) (h : Fin 8) (i : Fin 512) (q : Fin 128) :
    quot (entry m) i h q
      = Ideal.div (∑ j : Fin 16384, (V (ix4 0 j h q) : EReal) * (Cert.ReferenceIdeal.Own.weights (Cert.ReferenceIdeal.Own.scores x wq K) (ix4 0 h i j) : EReal))
          (∑ j : Fin 16384, (Cert.ReferenceIdeal.Own.weights (Cert.ReferenceIdeal.Own.scores x wq K) (ix4 0 h i j) : EReal)) := by
  obtain ⟨s, h1, h2⟩ := score_real m x wq K hX hWq hK fx fw fK h i
  simp only [Cert.ReferenceIdeal.Own.weights_at, h1]
  rw [Cert.Softmax.quotient s fun j => V (ix4 0 j h q)]
  unfold quot
  rw [Cert.Softmax.sum_blocks 8 2048 rfl (fun j => Ideal.exp (s j : EReal) * V (ix4 0 j h q)),
    Cert.Softmax.sum_blocks 8 2048 rfl (fun j => Ideal.exp (s j : EReal))]
  refine congrArg₂ Ideal.div (Finset.sum_congr rfl fun p _ => Finset.sum_congr rfl fun k _ => congrArg₂ (· * ·) (congrArg Ideal.exp (h2 p k)) ?_)
    (Finset.sum_congr rfl fun p _ => Finset.sum_congr rfl fun k _ => congrArg Ideal.exp (h2 p k))
  exact ((V_at m p k h q).trans (congrFun (hV p) _)).trans (block_at V p k h q)

include hX hWq hK hV hWo in
/-- Every device's result is the reference's. -/
theorem result_eq (fx : AllReal x) (fw : AllReal wq) (fK : AllReal K) (c : Dev nD) :
    Ov (entry m) c = Cert.ReferenceIdeal.Own.out wo V (Cert.ReferenceIdeal.Own.weights (Cert.ReferenceIdeal.Own.scores x wq K)) := by
  funext t
  obtain ⟨z, i, q, rfl⟩ : ∃ (z : Fin 1) (i : Fin 512) (q : Fin 1024), t = ix3 z i q := ⟨t 0, t 1, t 2, eq_ix3 t⟩
  obtain rfl : z = 0 := Subsingleton.elim _ _
  rw [Ov_at, Cert.ReferenceIdeal.Own.out_at]
  refine Finset.sum_congr rfl fun k _ => congrArg₂ (· * ·) (quot_eq m x wq K V hX hWq hK hV fx fw fK (hd k) i (pl k)) ?_
  exact congrFun ((Wo_at m _).trans (hWo _)) _
end Equal

end Cert.KernelIdeal.Own
-- ==== Proof.Pre.lean ====
/-
  The precondition: what it says of each array's elements, and the shape facts its two printings state.
-/
module

public import proofs.«01_k».proof.Defs
public import Idealize.ShloMosaic.Lib.ReduceAll
public import Idealize.ShloMosaic.Lib.Pointwise

@[expose] public section

noncomputable section

namespace Cert.Own
open Idealize.ShloMosaic Idealize.SL.Sem

/-- The shape facts of the precondition over a device's blocks. -/
theorem pre_facts_kernel : Cert.Pre_finite_KernelIdeal.Facts where
  bcast_S_S1x512x1024 := by decide
  reducesTo_S1x512x1024_S_d0_1_2 := by decide
  h_S_ := by decide
  bcast_S_S1024x1024 := by decide
  reducesTo_S1024x1024_S_d0_1 := by decide
  bcast_S_S1x2048x8x128 := by decide
  reducesTo_S1x2048x8x128_S_d0_1_2_3 := by decide

/-- The shape facts of the precondition over the whole arrays. -/
theorem pre_facts_reference : Cert.Pre_finite_ReferenceIdeal.Facts where
  bcast_S_S1x512x1024 := by decide
  reducesTo_S1x512x1024_S_d0_1_2 := by decide
  h_S_ := by decide
  bcast_S_S1024x1024 := by decide
  reducesTo_S1024x1024_S_d0_1 := by decide
  bcast_S_S1x16384x8x128 := by decide
  reducesTo_S1x16384x8x128_S_d0_1_2_3 := by decide

/-- An extended real below plus infinity in magnitude is a real. -/
theorem real_of_abs_lt (v : EReal) (h : max v (-v) < ⊤) : ∃ r : ℝ, v = (r : EReal) := by
  refine ⟨v.toReal, (EReal.coe_toReal ?_ ?_).symm⟩
  · rintro rfl; exact absurd h (by simp)
  · rintro rfl; exact absurd h (by simp)

/-- The comparison that the precondition makes of one element. -/
theorem real_of_cmp (v : EReal) (h : FloatOps.cmpf (F := Ideal) (φ := .f32) .olt (max v (-v)) (Ideal.ofBits .f32 0x7F800000#32) = 1#1) :
    ∃ r : ℝ, v = (r : EReal) := by
  have ht : Ideal.ofBits .f32 0x7F800000#32 = ⊤ := by simp [Ideal.ofBits, Ideal.ieee]
  rw [ht] at h
  refine real_of_abs_lt v ?_
  by_contra hn
  have : FloatOps.cmpf (F := Ideal) (φ := .f32) .olt (max v (-v)) (⊤ : EReal) = 0#1 := by
    show BitVec.ofBool (decide (max v (-v) < ⊤)) = 0#1
    rw [decide_eq_false hn]; rfl
  rw [this] at h
  exact absurd h (by decide)

section Read
variable [Cert.Pre_finite_KernelIdeal.Facts]
open Cert.Pre_finite_KernelIdeal

/-- A scalar has one index. -/
instance : Subsingleton S_.Idx := ⟨fun a b => funext fun i => i.elim0⟩

variable (x : FVec Ideal S1x512x1024 .f32) (wq wo : FVec Ideal S1024x1024 .f32) (K V : FVec Ideal S1x2048x8x128 .f32)

/-- The precondition's first result: every query element is a real. -/
theorem x_real (h : (fn (F := Ideal) x wq K V wo).1 = fun _ => 1#1) (i : S1x512x1024.Idx) : ∃ r : ℝ, x i = (r : EReal) := by
  have e := congrFun h (fun a : Fin 0 => a.elim0)
  dsimp only [fn] at e
  have e' := Host.reduce_andi_all _ _ _ _ _ e i
  exact real_of_cmp (x i) e'

/-- Its second: every element of the query weights is a real. -/
theorem wq_real (h : (fn (F := Ideal) x wq K V wo).2.1 = fun _ => 1#1) (i : S1024x1024.Idx) : ∃ r : ℝ, wq i = (r : EReal) := by
  have e := congrFun h (fun a : Fin 0 => a.elim0)
  dsimp only [fn] at e
  have e' := Host.reduce_andi_all _ _ _ _ _ e i
  exact real_of_cmp (wq i) e'

/-- Its third: every key element of the device's block is a real. -/
theorem K_real (h : (fn (F := Ideal) x wq K V wo).2.2 = fun _ => 1#1) (i : S1x2048x8x128.Idx) : ∃ r : ℝ, K i = (r : EReal) := by
  have e := congrFun h (fun a : Fin 0 => a.elim0)
  dsimp only [fn] at e
  have e' := Host.reduce_andi_all _ _ _ _ _ e i
  exact real_of_cmp (K i) e'
end Read

end Cert.Own
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ends
public import proofs.«01_k».proof.Proof.Same
public import proofs.«01_k».proof.Proof.Equal
public import proofs.«01_k».proof.Proof.Pre
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The kernel as compiled: it runs to the end, faults nowhere, leaves its arguments alone and every semaphore at zero. -/
theorem frame_kernel : Cert.quiescent_Kernel := fun m ρ _ => by
  rw [Cert.KernelIdeal.Own.defs_same, Cert.KernelIdeal.Own.main_same]
  exact (θ_run Cert.KernelIdeal.defs _ _).mono (fun _ h => ⟨fun c => (h.1 c).2, h.2⟩) (Cert.KernelIdeal.Own.run_args (F := Bits) m ρ)

/-- The same run over extended reals. -/
theorem frame_ideal : Cert.quiescent_KernelIdeal := fun m ρ _ =>
  (θ_run Cert.KernelIdeal.defs _ _).mono (fun _ h => ⟨fun c => (h.1 c).2, h.2⟩) (Cert.KernelIdeal.Own.run_args (F := Ideal) m ρ)

/-- The reference's run. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

section Value
variable (m : (ℓ : Loc Cert.KernelIdeal.nD Cert.KernelIdeal.τ Cert.KernelIdeal.sig) → Buf (Elt Ideal) ℓ)
  (x : FVec Ideal ⟨3, ![1, 512, 1024]⟩ .f32) (wq : FVec Ideal ⟨2, ![1024, 1024]⟩ .f32) (K : FVec Ideal ⟨4, ![1, 16384, 8, 128]⟩ .f32)

/-- The precondition, read of the whole arrays: an array that every device holds is finite where one device says so, and the keys are
    finite where all eight devices do. -/
theorem finite_whole (hp : Cert.Pre_KernelIdeal_finite_KernelIdeal (hPre_finite_KernelIdeal := Cert.Own.pre_facts_kernel) m)
    (hX : ∀ c : Dev Cert.KernelIdeal.nD, m ((c.tc : Thread Cert.KernelIdeal.nD Cert.KernelIdeal.τ).loc Cert.KernelIdeal.main_arg0) = x)
    (hWq : ∀ c : Dev Cert.KernelIdeal.nD, m ((c.tc : Thread Cert.KernelIdeal.nD Cert.KernelIdeal.τ).loc Cert.KernelIdeal.main_arg1) = wq)
    (hK : ∀ c : Dev Cert.KernelIdeal.nD, m ((c.tc : Thread Cert.KernelIdeal.nD Cert.KernelIdeal.τ).loc Cert.KernelIdeal.main_arg2)
      = Layout.block ⟨4, ![1, 2048, 8, 128]⟩ ⟨4, ![1, 16384, 8, 128]⟩ 1 8 c K) :
    Cert.KernelIdeal.Own.AllReal x ∧ Cert.KernelIdeal.Own.AllReal wq ∧ Cert.KernelIdeal.Own.AllReal K := by
  haveI := Cert.Own.pre_facts_kernel
  refine ⟨fun i => ?_, fun i => ?_, fun i => ?_⟩
  · rw [← hX 0]; exact Cert.Own.x_real _ _ _ _ _ (hp 0).1 i
  · rw [← hWq 0]; exact Cert.Own.wq_real _ _ _ _ _ (hp 0).2.1 i
  · obtain ⟨z, j, h, d, rfl⟩ : ∃ (z : Fin 1) (j : Fin 16384) (h : Fin 8) (d : Fin 128), i = ix4 z j h d := ⟨i 0, i 1, i 2, i 3, eq_ix4 i⟩
    obtain rfl : z = 0 := Subsingleton.elim _ _
    have hj : j = Cert.KernelIdeal.Own.gkey ⟨j.val / 2048, by omega⟩ ⟨j.val % 2048, by omega⟩ :=
      Fin.ext (by show j.val = j.val / 2048 * 2048 + j.val % 2048; omega)
    rw [hj, ← Cert.KernelIdeal.Own.block_at K, ← hK]
    exact Cert.Own.K_real _ _ _ _ _ (hp _).2.2 _
end Value

/-- Every device of the kernel returns what the reference returns. -/
theorem algebraic : Cert.algebraic_KernelIdeal_ReferenceIdeal_pre_finite_KernelIdeal (hPre_finite_KernelIdeal := Cert.Own.pre_facts_kernel) := by
  intro m ρ m' ρ' hp ha
  obtain ⟨fx, fw, fK⟩ := finite_whole m _ _ _ hp (fun c => (ha c).1) (fun c => (ha c).2.1) (fun c => (ha c).2.2.1)
  refine ⟨_, (θ_run Cert.KernelIdeal.defs _ _).mono (fun _ h c => ⟨(h.1 c).1.trans ?_, (h.1 c).2⟩) (Cert.KernelIdeal.Own.run_args (F := Ideal) m ρ),
    (θ_run Cert.ReferenceIdeal.defs _ _).mono (fun _ h => h 0) (Cert.ReferenceIdeal.Own.run_out m' ρ')⟩
  exact (Cert.KernelIdeal.Own.result m c).trans (Cert.KernelIdeal.Own.result_eq m _ _ _ _ _ (fun c => (ha c).1) (fun c => (ha c).2.1)
    (fun c => (ha c).2.2.1) (fun c => (ha c).2.2.2.1) (fun c => (ha c).2.2.2.2) fx fw fK c)

/-- Everything that is claimed. -/
theorem claim : Cert.Claim := ⟨Cert.Kernel.Gen.facts, Cert.KernelIdeal.Gen.facts, Cert.ReferenceIdeal.Gen.facts,
  Cert.Own.pre_facts_kernel, Cert.Own.pre_facts_reference,
  frame_kernel, frame_ideal, fun m ρ _ => frame_ideal m ρ trivial, frame_reference, fun m ρ _ => frame_reference m ρ trivial,
  trivial, algebraic⟩

end Cert.Proof

end
